-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![8192, 128]⟩ ⟨2, ![8192, 4096]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_unclipped_at [hKernelIdeal : Cert.KernelIdeal.Facts] [hClippedIdeal : Cert.ClippedIdeal.Facts] [hOn_unclipped_at : Cert.On_unclipped_at.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![8192, 128]⟩ ⟨2, ![8192, 4096]⟩ 1 32 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 128]⟩ : Shape).Idx, (Layout.block ⟨2, ![8192, 128]⟩ ⟨2, ![8192, 4096]⟩ 1 32 c ((Cert.On_unclipped_at.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![8192, 128]⟩ : Shape).Idx → _) i = 1#1 → r.2.mem ((c.tc : Thread Cert.KernelIdeal.nD Cert.KernelIdeal.τ).loc Cert.KernelIdeal.main_v1) i = (Layout.block ⟨2, ![8192, 128]⟩ ⟨2, ![8192, 4096]⟩ 1 32 c v0 : (⟨2, ![8192, 128]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![8192, 4096]⟩ : Shape).Idx, (Cert.On_unclipped_at.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_unclipped_at : Cert.On_unclipped_at.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_unclipped_at (hKernelIdeal := hKernelIdeal) (hClippedIdeal := hClippedIdeal) (hOn_unclipped_at := hOn_unclipped_at)
-- ==== On_unclipped_at.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_v1 : FVec F S8192x4096 .f32 := Host.absf main_v0
  let main_cst : FVec F S_ .f32 := constant S_ .f32 0x42700000#32
  let main_v2 : FVec F S8192x4096 .f32 := broadcastInDim S8192x4096 ![] bcast_S_S8192x4096 main_cst
  let main_v3 : IVec S8192x4096 1 := cmpf .ole main_v1 main_v2
  main_v3
-- ==== Kernel.lean ====
abbrev S256x8192 : Shape := ⟨2, ![256, 8192]⟩
abbrev S8192x128 : Shape := ⟨2, ![8192, 128]⟩
abbrev S32 : Shape := ⟨1, ![32]⟩
abbrev S3x128x8192 : Shape := ⟨3, ![3, 128, 8192]⟩
abbrev S3x2 : Shape := ⟨2, ![3, 2]⟩
abbrev S_ : Shape := ⟨0, ![]⟩
abbrev S1 : Shape := ⟨1, ![1]⟩
abbrev S128x8192 : Shape := ⟨2, ![128, 8192]⟩
abbrev S1x128x8192 : Shape := ⟨3, ![1, 128, 8192]⟩
abbrev S1x1 : Shape := ⟨2, ![1, 1]⟩
abbrev S1x64x8192 : Shape := ⟨3, ![1, 64, 8192]⟩
abbrev S64x8192 : Shape := ⟨2, ![64, 8192]⟩
abbrev S256x128 : Shape := ⟨2, ![256, 128]⟩
abbrev S128x128 : Shape := ⟨2, ![128, 128]⟩

abbrev nBuf : Space → Nat
  | .hbm => 5
  | .vmem => 5
  | .smem => 2
  | _ => 0

abbrev bufTy : (tb : Table) → Fin (tcTables nBuf tb) → BufTy
  | .hbm, ⟨0, _⟩ => ⟨S256x8192, .f32⟩
  | .hbm, ⟨1, _⟩ => ⟨S8192x128, .f32⟩
  | .hbm, ⟨2, _⟩ => ⟨S32, .i32⟩
  | .hbm, ⟨3, _⟩ => ⟨S32, .i32⟩
  | .hbm, ⟨4, _⟩ => ⟨S8192x128, .f32⟩
  | .local _ .vmem, ⟨0, _⟩ => ⟨S256x8192, .f32⟩
  | .local _ .vmem, ⟨1, _⟩ => ⟨S8192x128, .f32⟩
  | .local _ .vmem, ⟨2, _⟩ => ⟨S8192x128, .f32⟩
  | .local _ .vmem, ⟨3, _⟩ => ⟨S3x128x8192, .f32⟩
  | .local _ .vmem, ⟨4, _⟩ => ⟨S3x128x8192, .f32⟩
  | .local _ .smem, ⟨0, _⟩ => ⟨S32, .i32⟩
  | .local _ .smem, ⟨1, _⟩ => ⟨S32, .i32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 3 → Bool
  | ⟨0, _⟩ => true
  | ⟨1, _⟩ => true
  | ⟨2, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 3 29 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : Index := Scalar.indexCast v2
  ![v3.toNat]
def k0_off2 (v4 : BitVec 32) : Fin 1 → Nat :=
  let c1_i32_0 : BitVec 32 := 1#32
  let v5 : BitVec 32 := Scalar.addi v4 c1_i32_0
  let c32_i32_1 : BitVec 32 := 32#32
  let v6 : BitVec 32 := Scalar.remsi v5 c32_i32_1
  let v7 : Index := Scalar.indexCast v6
  ![v7.toNat]

def k0_off3 (v4 : BitVec 32) : Fin 1 → Nat :=
  let c32_i32_2 : BitVec 32 := 32#32
  let v9 : BitVec 32 := Scalar.addi v4 c32_i32_2
  let c1_i32_3 : BitVec 32 := 1#32
  let v10 : BitVec 32 := Scalar.subi v9 c1_i32_3
  let c32_i32_4 : BitVec 32 := 32#32
  let v11 : BitVec 32 := Scalar.remsi v10 c32_i32_4
  let v12 : Index := Scalar.indexCast v11
  ![v12.toNat]
def k0_dev1 (v13 : BitVec 32) : Nat :=
  let c0_i32 : BitVec 32 := 0#32
  let c1_i32_6 : BitVec 32 := 1#32
  let v15 : BitVec 32 := Scalar.muli v13 c1_i32_6
  let v16 : BitVec 32 := Scalar.addi c0_i32 v15
  v16.toNat

def k0_dev2 (v8 : BitVec 32) : Nat :=
  let c0_i32_9 : BitVec 32 := 0#32
  let c1_i32_8 : BitVec 32 := 1#32
  let v17 : BitVec 32 := Scalar.muli v8 c1_i32_8
  let v18 : BitVec 32 := Scalar.addi c0_i32_9 v17
  v18.toNat

def k0_dev3 (v8 : BitVec 32) : Nat :=
  let c0_i32_27 : BitVec 32 := 0#32
  let c1_i32_26 : BitVec 32 := 1#32
  let v31 : BitVec 32 := Scalar.muli v8 c1_i32_26
  let v32 : BitVec 32 := Scalar.addi c0_i32_27 v31
  v32.toNat
def k0_dev4 (v13 : BitVec 32) : Nat :=
  let c0_i32_39 : BitVec 32 := 0#32
  let c1_i32_38 : BitVec 32 := 1#32
  let v41 : BitVec 32 := Scalar.muli v13 c1_i32_38
  let v42 : BitVec 32 := Scalar.addi c0_i32_39 v41
  v42.toNat
def k0_dev5 (v8 : BitVec 32) : Nat :=
  let c0_i32_51 : BitVec 32 := 0#32
  let c1_i32_50 : BitVec 32 := 1#32
  let v51 : BitVec 32 := Scalar.muli v8 c1_i32_50
  let v52 : BitVec 32 := Scalar.addi c0_i32_51 v51
  v52.toNat
def k0_dev6 (v13 : BitVec 32) : Nat :=
  let c0_i32_62 : BitVec 32 := 0#32
  let c1_i32_61 : BitVec 32 := 1#32
  let v61 : BitVec 32 := Scalar.muli v13 c1_i32_61
  let v62 : BitVec 32 := Scalar.addi c0_i32_62 v61
  v62.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v73 : BitVec 32 := Scalar.muli v2 c256_i32
  let v77 : Index := Scalar.indexCast v73
  let c0_69 : Index := 0#32
  ![v77.toNat, 0]
def k0_dev7 (v8 : BitVec 32) : Nat :=
  let c0_i32_89 : BitVec 32 := 0#32
  let c1_i32_88 : BitVec 32 := 1#32
  let v87 : BitVec 32 := Scalar.muli v8 c1_i32_88
  let v88 : BitVec 32 := Scalar.addi c0_i32_89 v87
  v88.toNat
def k0_dev8 (v13 : BitVec 32) : Nat :=
  let c0_i32_113 : BitVec 32 := 0#32
  let c1_i32_112 : BitVec 32 := 1#32
  let v105 : BitVec 32 := Scalar.muli v13 c1_i32_112
  let v106 : BitVec 32 := Scalar.addi c0_i32_113 v105
  v106.toNat
def k0_dev9 (v8 : BitVec 32) : Nat :=
  let c0_i32_137 : BitVec 32 := 0#32
  let c1_i32_136 : BitVec 32 := 1#32
  let v123 : BitVec 32 := Scalar.muli v8 c1_i32_136
  let v124 : BitVec 32 := Scalar.addi c0_i32_137 v123
  v124.toNat
def k0_dev10 (v13 : BitVec 32) : Nat :=
  let c0_i32_161 : BitVec 32 := 0#32
  let c1_i32_160 : BitVec 32 := 1#32
  let v141 : BitVec 32 := Scalar.muli v13 c1_i32_160
  let v142 : BitVec 32 := Scalar.addi c0_i32_161 v141
  v142.toNat
def k0_off5 (v4 : BitVec 32) : Fin 1 → Nat :=
  let c32_i32_166 : BitVec 32 := 32#32
  let v151 : BitVec 32 := Scalar.addi v4 c32_i32_166
  let c1_i32_167 : BitVec 32 := 1#32
  let v152 : BitVec 32 := Scalar.subi v151 c1_i32_167
  let c0_i32_168 : BitVec 32 := 0#32
  let v153 : BitVec 32 := Scalar.subi v152 c0_i32_168
  let c32_i32_169 : BitVec 32 := 32#32
  let v154 : BitVec 32 := Scalar.remsi v153 c32_i32_169
  let v155 : Index := Scalar.indexCast v154
  ![v155.toNat]
def k0_off6 (v4 : BitVec 32) : Fin 1 → Nat :=
  let c1_i32_170 : BitVec 32 := 1#32
  let v157 : BitVec 32 := Scalar.addi v4 c1_i32_170
  let c0_i32_171 : BitVec 32 := 0#32
  let v158 : BitVec 32 := Scalar.addi v157 c0_i32_171
  let c32_i32_172 : BitVec 32 := 32#32
  let v159 : BitVec 32 := Scalar.remsi v158 c32_i32_172
  let v160 : Index := Scalar.indexCast v159
  ![v160.toNat]
def k0_off7 (v156 : BitVec 32) : Fin 2 → Nat :=
  let c256_i32_175 : BitVec 32 := 256#32
  let v164 : BitVec 32 := Scalar.muli v156 c256_i32_175
  let v168 : Index := Scalar.indexCast v164
  let c0_177 : Index := 0#32
  ![v168.toNat, 0]

def k0_chk4 (v156 : BitVec 32) : Prop :=
  (∀ a, (k0_off7 v156) a + S128x128.size a ≤ S8192x128.size a)
theorem k0_off7_inb : ∀ (v156 : BitVec 32) (k0_hw4 : k0_chk4 v156), ∀ a, (k0_off7 v156) a + S128x128.size a ≤ S8192x128.size a := fun v156 k0_hw4 => k0_hw4

def k0_off8 (v161 : BitVec 32) : Fin 2 → Nat :=
  let c256_i32_181 : BitVec 32 := 256#32
  let v172 : BitVec 32 := Scalar.muli v161 c256_i32_181
  let c128_i32 : BitVec 32 := 128#32
  let v173 : BitVec 32 := Scalar.addi v172 c128_i32
  let v177 : Index := Scalar.indexCast v173
  let c0_183 : Index := 0#32
  ![v177.toNat, 0]

def k0_chk5 (v161 : BitVec 32) : Prop :=
  (∀ a, (k0_off8 v161) a + S128x128.size a ≤ S8192x128.size a)
theorem k0_off8_inb : ∀ (v161 : BitVec 32) (k0_hw5 : k0_chk5 v161), ∀ a, (k0_off8 v161) a + S128x128.size a ≤ S8192x128.size a := fun v161 k0_hw5 => k0_hw5

def k0_dev11 (v13 : BitVec 32) : Nat :=
  let c0_i32_230 : BitVec 32 := 0#32
  let c1_i32_229 : BitVec 32 := 1#32
  let v203 : BitVec 32 := Scalar.muli v13 c1_i32_229
  let v204 : BitVec 32 := Scalar.addi c0_i32_230 v203
  v204.toNat
def k0_dev12 (v8 : BitVec 32) : Nat :=
  let c0_i32_233 : BitVec 32 := 0#32
  let c1_i32_232 : BitVec 32 := 1#32
  let v205 : BitVec 32 := Scalar.muli v8 c1_i32_232
  let v206 : BitVec 32 := Scalar.addi c0_i32_233 v205
  v206.toNat
def k0_dev13 (v8 : BitVec 32) : Nat :=
  let c0_i32_257 : BitVec 32 := 0#32
  let c1_i32_256 : BitVec 32 := 1#32
  let v215 : BitVec 32 := Scalar.muli v8 c1_i32_256
  let v216 : BitVec 32 := Scalar.addi c0_i32_257 v215
  v216.toNat
def k0_dev14 (v13 : BitVec 32) : Nat :=
  let c0_i32_281 : BitVec 32 := 0#32
  let c1_i32_280 : BitVec 32 := 1#32
  let v233 : BitVec 32 := Scalar.muli v13 c1_i32_280
  let v234 : BitVec 32 := Scalar.addi c0_i32_281 v233
  v234.toNat
def k0_dev15 (v8 : BitVec 32) : Nat :=
  let c0_i32_305 : BitVec 32 := 0#32
  let c1_i32_304 : BitVec 32 := 1#32
  let v251 : BitVec 32 := Scalar.muli v8 c1_i32_304
  let v252 : BitVec 32 := Scalar.addi c0_i32_305 v251
  v252.toNat
def k0_dev16 (v13 : BitVec 32) : Nat :=
  let c0_i32_329 : BitVec 32 := 0#32
  let c1_i32_328 : BitVec 32 := 1#32
  let v269 : BitVec 32 := Scalar.muli v13 c1_i32_328
  let v270 : BitVec 32 := Scalar.addi c0_i32_329 v269
  v270.toNat
def k0_off9 (v4 : BitVec 32) : Fin 1 → Nat :=
  let c32_i32_334 : BitVec 32 := 32#32
  let v279 : BitVec 32 := Scalar.addi v4 c32_i32_334
  let c1_i32_335 : BitVec 32 := 1#32
  let v280 : BitVec 32 := Scalar.subi v279 c1_i32_335
  let c1_i32_336 : BitVec 32 := 1#32
  let v281 : BitVec 32 := Scalar.subi v280 c1_i32_336
  let c32_i32_337 : BitVec 32 := 32#32
  let v282 : BitVec 32 := Scalar.remsi v281 c32_i32_337
  let v283 : Index := Scalar.indexCast v282
  ![v283.toNat]
def k0_off10 (v4 : BitVec 32) : Fin 1 → Nat :=
  let c1_i32_338 : BitVec 32 := 1#32
  let v285 : BitVec 32 := Scalar.addi v4 c1_i32_338
  let c1_i32_339 : BitVec 32 := 1#32
  let v286 : BitVec 32 := Scalar.addi v285 c1_i32_339
  let c32_i32_340 : BitVec 32 := 32#32
  let v287 : BitVec 32 := Scalar.remsi v286 c32_i32_340
  let v288 : Index := Scalar.indexCast v287
  ![v288.toNat]
def k0_off11 (v284 : BitVec 32) : Fin 2 → Nat :=
  let c256_i32_343 : BitVec 32 := 256#32
  let v292 : BitVec 32 := Scalar.muli v284 c256_i32_343
  let v296 : Index := Scalar.indexCast v292
  let c0_345 : Index := 0#32
  ![v296.toNat, 0]

def k0_chk6 (v284 : BitVec 32) : Prop :=
  (∀ a, (k0_off11 v284) a + S128x128.size a ≤ S8192x128.size a)
theorem k0_off11_inb : ∀ (v284 : BitVec 32) (k0_hw6 : k0_chk6 v284), ∀ a, (k0_off11 v284) a + S128x128.size a ≤ S8192x128.size a := fun v284 k0_hw6 => k0_hw6

def k0_off12 (v289 : BitVec 32) : Fin 2 → Nat :=
  let c256_i32_349 : BitVec 32 := 256#32
  let v300 : BitVec 32 := Scalar.muli v289 c256_i32_349
  let c128_i32_350 : BitVec 32 := 128#32
  let v301 : BitVec 32 := Scalar.addi v300 c128_i32_350
  let v305 : Index := Scalar.indexCast v301
  let c0_352 : Index := 0#32
  ![v305.toNat, 0]

def k0_chk7 (v289 : BitVec 32) : Prop :=
  (∀ a, (k0_off12 v289) a + S128x128.size a ≤ S8192x128.size a)
theorem k0_off12_inb : ∀ (v289 : BitVec 32) (k0_hw7 : k0_chk7 v289), ∀ a, (k0_off12 v289) a + S128x128.size a ≤ S8192x128.size a := fun v289 k0_hw7 => k0_hw7

def k0_dev17 (v13 : BitVec 32) : Nat :=
  let c0_i32_399 : BitVec 32 := 0#32
  let c1_i32_398 : BitVec 32 := 1#32
  let v331 : BitVec 32 := Scalar.muli v13 c1_i32_398
  let v332 : BitVec 32 := Scalar.addi c0_i32_399 v331
  v332.toNat
def k0_dev18 (v8 : BitVec 32) : Nat :=
  let c0_i32_402 : BitVec 32 := 0#32
  let c1_i32_401 : BitVec 32 := 1#32
  let v333 : BitVec 32 := Scalar.muli v8 c1_i32_401
  let v334 : BitVec 32 := Scalar.addi c0_i32_402 v333
  v334.toNat
def k0_dev19 (v8 : BitVec 32) : Nat :=
  let c0_i32_426 : BitVec 32 := 0#32
  let c1_i32_425 : BitVec 32 := 1#32
  let v343 : BitVec 32 := Scalar.muli v8 c1_i32_425
  let v344 : BitVec 32 := Scalar.addi c0_i32_426 v343
  v344.toNat
def k0_dev20 (v13 : BitVec 32) : Nat :=
  let c0_i32_450 : BitVec 32 := 0#32
  let c1_i32_449 : BitVec 32 := 1#32
  let v361 : BitVec 32 := Scalar.muli v13 c1_i32_449
  let v362 : BitVec 32 := Scalar.addi c0_i32_450 v361
  v362.toNat
def k0_dev21 (v8 : BitVec 32) : Nat :=
  let c0_i32_474 : BitVec 32 := 0#32
  let c1_i32_473 : BitVec 32 := 1#32
  let v379 : BitVec 32 := Scalar.muli v8 c1_i32_473
  let v380 : BitVec 32 := Scalar.addi c0_i32_474 v379
  v380.toNat
def k0_dev22 (v13 : BitVec 32) : Nat :=
  let c0_i32_498 : BitVec 32 := 0#32
  let c1_i32_497 : BitVec 32 := 1#32
  let v397 : BitVec 32 := Scalar.muli v13 c1_i32_497
  let v398 : BitVec 32 := Scalar.addi c0_i32_498 v397
  v398.toNat
def k0_off13 (v4 : BitVec 32) : Fin 1 → Nat :=
  let c32_i32_503 : BitVec 32 := 32#32
  let v407 : BitVec 32 := Scalar.addi v4 c32_i32_503
  let c1_i32_504 : BitVec 32 := 1#32
  let v408 : BitVec 32 := Scalar.subi v407 c1_i32_504
  let c2_i32_505 : BitVec 32 := 2#32
  let v409 : BitVec 32 := Scalar.subi v408 c2_i32_505
  let c32_i32_506 : BitVec 32 := 32#32
  let v410 : BitVec 32 := Scalar.remsi v409 c32_i32_506
  let v411 : Index := Scalar.indexCast v410
  ![v411.toNat]
def k0_off14 (v4 : BitVec 32) : Fin 1 → Nat :=
  let c1_i32_507 : BitVec 32 := 1#32
  let v413 : BitVec 32 := Scalar.addi v4 c1_i32_507
  let c2_i32_508 : BitVec 32 := 2#32
  let v414 : BitVec 32 := Scalar.addi v413 c2_i32_508
  let c32_i32_509 : BitVec 32 := 32#32
  let v415 : BitVec 32 := Scalar.remsi v414 c32_i32_509
  let v416 : Index := Scalar.indexCast v415
  ![v416.toNat]
def k0_off15 (v412 : BitVec 32) : Fin 2 → Nat :=
  let c256_i32_513 : BitVec 32 := 256#32
  let v420 : BitVec 32 := Scalar.muli v412 c256_i32_513
  let v424 : Index := Scalar.indexCast v420
  let c0_515 : Index := 0#32
  ![v424.toNat, 0]

def k0_chk8 (v412 : BitVec 32) : Prop :=
  (∀ a, (k0_off15 v412) a + S128x128.size a ≤ S8192x128.size a)
theorem k0_off15_inb : ∀ (v412 : BitVec 32) (k0_hw8 : k0_chk8 v412), ∀ a, (k0_off15 v412) a + S128x128.size a ≤ S8192x128.size a := fun v412 k0_hw8 => k0_hw8

def k0_off16 (v417 : BitVec 32) : Fin 2 → Nat :=
  let c256_i32_519 : BitVec 32 := 256#32
  let v428 : BitVec 32 := Scalar.muli v417 c256_i32_519
  let c128_i32_520 : BitVec 32 := 128#32
  let v429 : BitVec 32 := Scalar.addi v428 c128_i32_520
  let v433 : Index := Scalar.indexCast v429
  let c0_522 : Index := 0#32
  ![v433.toNat, 0]

def k0_chk9 (v417 : BitVec 32) : Prop :=
  (∀ a, (k0_off16 v417) a + S128x128.size a ≤ S8192x128.size a)
theorem k0_off16_inb : ∀ (v417 : BitVec 32) (k0_hw9 : k0_chk9 v417), ∀ a, (k0_off16 v417) a + S128x128.size a ≤ S8192x128.size a := fun v417 k0_hw9 => k0_hw9

def k0_dev23 (v13 : BitVec 32) : Nat :=
  let c0_i32_569 : BitVec 32 := 0#32
  let c1_i32_568 : BitVec 32 := 1#32
  let v459 : BitVec 32 := Scalar.muli v13 c1_i32_568
  let v460 : BitVec 32 := Scalar.addi c0_i32_569 v459
  v460.toNat
def k0_dev24 (v8 : BitVec 32) : Nat :=
  let c0_i32_572 : BitVec 32 := 0#32
  let c1_i32_571 : BitVec 32 := 1#32
  let v461 : BitVec 32 := Scalar.muli v8 c1_i32_571
  let v462 : BitVec 32 := Scalar.addi c0_i32_572 v461
  v462.toNat
def k0_dev25 (v8 : BitVec 32) : Nat :=
  let c0_i32_596 : BitVec 32 := 0#32
  let c1_i32_595 : BitVec 32 := 1#32
  let v471 : BitVec 32 := Scalar.muli v8 c1_i32_595
  let v472 : BitVec 32 := Scalar.addi c0_i32_596 v471
  v472.toNat
def k0_dev26 (v13 : BitVec 32) : Nat :=
  let c0_i32_620 : BitVec 32 := 0#32
  let c1_i32_619 : BitVec 32 := 1#32
  let v489 : BitVec 32 := Scalar.muli v13 c1_i32_619
  let v490 : BitVec 32 := Scalar.addi c0_i32_620 v489
  v490.toNat
def k0_dev27 (v8 : BitVec 32) : Nat :=
  let c0_i32_644 : BitVec 32 := 0#32
  let c1_i32_643 : BitVec 32 := 1#32
  let v507 : BitVec 32 := Scalar.muli v8 c1_i32_643
  let v508 : BitVec 32 := Scalar.addi c0_i32_644 v507
  v508.toNat
def k0_dev28 (v13 : BitVec 32) : Nat :=
  let c0_i32_668 : BitVec 32 := 0#32
  let c1_i32_667 : BitVec 32 := 1#32
  let v525 : BitVec 32 := Scalar.muli v13 c1_i32_667
  let v526 : BitVec 32 := Scalar.addi c0_i32_668 v525
  v526.toNat
def k0_off17 (v4 : BitVec 32) : Fin 1 → Nat :=
  let c32_i32_673 : BitVec 32 := 32#32
  let v535 : BitVec 32 := Scalar.addi v4 c32_i32_673
  let c1_i32_674 : BitVec 32 := 1#32
  let v536 : BitVec 32 := Scalar.subi v535 c1_i32_674
  let c3_i32 : BitVec 32 := 3#32
  let v537 : BitVec 32 := Scalar.subi v536 c3_i32
  let c32_i32_675 : BitVec 32 := 32#32
  let v538 : BitVec 32 := Scalar.remsi v537 c32_i32_675
  let v539 : Index := Scalar.indexCast v538
  ![v539.toNat]
def k0_off18 (v4 : BitVec 32) : Fin 1 → Nat :=
  let c1_i32_676 : BitVec 32 := 1#32
  let v541 : BitVec 32 := Scalar.addi v4 c1_i32_676
  let c3_i32_677 : BitVec 32 := 3#32
  let v542 : BitVec 32 := Scalar.addi v541 c3_i32_677
  let c32_i32_678 : BitVec 32 := 32#32
  let v543 : BitVec 32 := Scalar.remsi v542 c32_i32_678
  let v544 : Index := Scalar.indexCast v543
  ![v544.toNat]
def k0_off19 (v540 : BitVec 32) : Fin 2 → Nat :=
  let c256_i32_682 : BitVec 32 := 256#32
  let v548 : BitVec 32 := Scalar.muli v540 c256_i32_682
  let v552 : Index := Scalar.indexCast v548
  let c0_684 : Index := 0#32
  ![v552.toNat, 0]

def k0_chk10 (v540 : BitVec 32) : Prop :=
  (∀ a, (k0_off19 v540) a + S128x128.size a ≤ S8192x128.size a)
theorem k0_off19_inb : ∀ (v540 : BitVec 32) (k0_hw10 : k0_chk10 v540), ∀ a, (k0_off19 v540) a + S128x128.size a ≤ S8192x128.size a := fun v540 k0_hw10 => k0_hw10

def k0_off20 (v545 : BitVec 32) : Fin 2 → Nat :=
  let c256_i32_688 : BitVec 32 := 256#32
  let v556 : BitVec 32 := Scalar.muli v545 c256_i32_688
  let c128_i32_689 : BitVec 32 := 128#32
  let v557 : BitVec 32 := Scalar.addi v556 c128_i32_689
  let v561 : Index := Scalar.indexCast v557
  let c0_691 : Index := 0#32
  ![v561.toNat, 0]

def k0_chk11 (v545 : BitVec 32) : Prop :=
  (∀ a, (k0_off20 v545) a + S128x128.size a ≤ S8192x128.size a)
theorem k0_off20_inb : ∀ (v545 : BitVec 32) (k0_hw11 : k0_chk11 v545), ∀ a, (k0_off20 v545) a + S128x128.size a ≤ S8192x128.size a := fun v545 k0_hw11 => k0_hw11

def k0_dev29 (v13 : BitVec 32) : Nat :=
  let c0_i32_738 : BitVec 32 := 0#32
  let c1_i32_737 : BitVec 32 := 1#32
  let v587 : BitVec 32 := Scalar.muli v13 c1_i32_737
  let v588 : BitVec 32 := Scalar.addi c0_i32_738 v587
  v588.toNat
def k0_dev30 (v8 : BitVec 32) : Nat :=
  let c0_i32_741 : BitVec 32 := 0#32
  let c1_i32_740 : BitVec 32 := 1#32
  let v589 : BitVec 32 := Scalar.muli v8 c1_i32_740
  let v590 : BitVec 32 := Scalar.addi c0_i32_741 v589
  v590.toNat
def k0_dev31 (v8 : BitVec 32) : Nat :=
  let c0_i32_765 : BitVec 32 := 0#32
  let c1_i32_764 : BitVec 32 := 1#32
  let v599 : BitVec 32 := Scalar.muli v8 c1_i32_764
  let v600 : BitVec 32 := Scalar.addi c0_i32_765 v599
  v600.toNat
def k0_dev32 (v13 : BitVec 32) : Nat :=
  let c0_i32_789 : BitVec 32 := 0#32
  let c1_i32_788 : BitVec 32 := 1#32
  let v617 : BitVec 32 := Scalar.muli v13 c1_i32_788
  let v618 : BitVec 32 := Scalar.addi c0_i32_789 v617
  v618.toNat
def k0_dev33 (v8 : BitVec 32) : Nat :=
  let c0_i32_813 : BitVec 32 := 0#32
  let c1_i32_812 : BitVec 32 := 1#32
  let v635 : BitVec 32 := Scalar.muli v8 c1_i32_812
  let v636 : BitVec 32 := Scalar.addi c0_i32_813 v635
  v636.toNat
def k0_dev34 (v13 : BitVec 32) : Nat :=
  let c0_i32_837 : BitVec 32 := 0#32
  let c1_i32_836 : BitVec 32 := 1#32
  let v653 : BitVec 32 := Scalar.muli v13 c1_i32_836
  let v654 : BitVec 32 := Scalar.addi c0_i32_837 v653
  v654.toNat
def k0_off21 (v4 : BitVec 32) : Fin 1 → Nat :=
  let c32_i32_842 : BitVec 32 := 32#32
  let v663 : BitVec 32 := Scalar.addi v4 c32_i32_842
  let c1_i32_843 : BitVec 32 := 1#32
  let v664 : BitVec 32 := Scalar.subi v663 c1_i32_843
  let c4_i32 : BitVec 32 := 4#32
  let v665 : BitVec 32 := Scalar.subi v664 c4_i32
  let c32_i32_844 : BitVec 32 := 32#32
  let v666 : BitVec 32 := Scalar.remsi v665 c32_i32_844
  let v667 : Index := Scalar.indexCast v666
  ![v667.toNat]
def k0_off22 (v4 : BitVec 32) : Fin 1 → Nat :=
  let c1_i32_845 : BitVec 32 := 1#32
  let v669 : BitVec 32 := Scalar.addi v4 c1_i32_845
  let c4_i32_846 : BitVec 32 := 4#32
  let v670 : BitVec 32 := Scalar.addi v669 c4_i32_846
  let c32_i32_847 : BitVec 32 := 32#32
  let v671 : BitVec 32 := Scalar.remsi v670 c32_i32_847
  let v672 : Index := Scalar.indexCast v671
  ![v672.toNat]
def k0_off23 (v668 : BitVec 32) : Fin 2 → Nat :=
  let c256_i32_851 : BitVec 32 := 256#32
  let v676 : BitVec 32 := Scalar.muli v668 c256_i32_851
  let v680 : Index := Scalar.indexCast v676
  let c0_853 : Index := 0#32
  ![v680.toNat, 0]

def k0_chk12 (v668 : BitVec 32) : Prop :=
  (∀ a, (k0_off23 v668) a + S128x128.size a ≤ S8192x128.size a)
theorem k0_off23_inb : ∀ (v668 : BitVec 32) (k0_hw12 : k0_chk12 v668), ∀ a, (k0_off23 v668) a + S128x128.size a ≤ S8192x128.size a := fun v668 k0_hw12 => k0_hw12

def k0_off24 (v673 : BitVec 32) : Fin 2 → Nat :=
  let c256_i32_857 : BitVec 32 := 256#32
  let v684 : BitVec 32 := Scalar.muli v673 c256_i32_857
  let c128_i32_858 : BitVec 32 := 128#32
  let v685 : BitVec 32 := Scalar.addi v684 c128_i32_858
  let v689 : Index := Scalar.indexCast v685
  let c0_860 : Index := 0#32
  ![v689.toNat, 0]

def k0_chk13 (v673 : BitVec 32) : Prop :=
  (∀ a, (k0_off24 v673) a + S128x128.size a ≤ S8192x128.size a)
theorem k0_off24_inb : ∀ (v673 : BitVec 32) (k0_hw13 : k0_chk13 v673), ∀ a, (k0_off24 v673) a + S128x128.size a ≤ S8192x128.size a := fun v673 k0_hw13 => k0_hw13

def k0_dev35 (v13 : BitVec 32) : Nat :=
  let c0_i32_907 : BitVec 32 := 0#32
  let c1_i32_906 : BitVec 32 := 1#32
  let v715 : BitVec 32 := Scalar.muli v13 c1_i32_906
  let v716 : BitVec 32 := Scalar.addi c0_i32_907 v715
  v716.toNat
def k0_dev36 (v8 : BitVec 32) : Nat :=
  let c0_i32_910 : BitVec 32 := 0#32
  let c1_i32_909 : BitVec 32 := 1#32
  let v717 : BitVec 32 := Scalar.muli v8 c1_i32_909
  let v718 : BitVec 32 := Scalar.addi c0_i32_910 v717
  v718.toNat
def k0_dev37 (v8 : BitVec 32) : Nat :=
  let c0_i32_934 : BitVec 32 := 0#32
  let c1_i32_933 : BitVec 32 := 1#32
  let v727 : BitVec 32 := Scalar.muli v8 c1_i32_933
  let v728 : BitVec 32 := Scalar.addi c0_i32_934 v727
  v728.toNat
def k0_dev38 (v13 : BitVec 32) : Nat :=
  let c0_i32_958 : BitVec 32 := 0#32
  let c1_i32_957 : BitVec 32 := 1#32
  let v745 : BitVec 32 := Scalar.muli v13 c1_i32_957
  let v746 : BitVec 32 := Scalar.addi c0_i32_958 v745
  v746.toNat
def k0_dev39 (v8 : BitVec 32) : Nat :=
  let c0_i32_982 : BitVec 32 := 0#32
  let c1_i32_981 : BitVec 32 := 1#32
  let v763 : BitVec 32 := Scalar.muli v8 c1_i32_981
  let v764 : BitVec 32 := Scalar.addi c0_i32_982 v763
  v764.toNat
def k0_dev40 (v13 : BitVec 32) : Nat :=
  let c0_i32_1006 : BitVec 32 := 0#32
  let c1_i32_1005 : BitVec 32 := 1#32
  let v781 : BitVec 32 := Scalar.muli v13 c1_i32_1005
  let v782 : BitVec 32 := Scalar.addi c0_i32_1006 v781
  v782.toNat
def k0_off25 (v4 : BitVec 32) : Fin 1 → Nat :=
  let c32_i32_1011 : BitVec 32 := 32#32
  let v791 : BitVec 32 := Scalar.addi v4 c32_i32_1011
  let c1_i32_1012 : BitVec 32 := 1#32
  let v792 : BitVec 32 := Scalar.subi v791 c1_i32_1012
  let c5_i32 : BitVec 32 := 5#32
  let v793 : BitVec 32 := Scalar.subi v792 c5_i32
  let c32_i32_1013 : BitVec 32 := 32#32
  let v794 : BitVec 32 := Scalar.remsi v793 c32_i32_1013
  let v795 : Index := Scalar.indexCast v794
  ![v795.toNat]
def k0_off26 (v4 : BitVec 32) : Fin 1 → Nat :=
  let c1_i32_1014 : BitVec 32 := 1#32
  let v797 : BitVec 32 := Scalar.addi v4 c1_i32_1014
  let c5_i32_1015 : BitVec 32 := 5#32
  let v798 : BitVec 32 := Scalar.addi v797 c5_i32_1015
  let c32_i32_1016 : BitVec 32 := 32#32
  let v799 : BitVec 32 := Scalar.remsi v798 c32_i32_1016
  let v800 : Index := Scalar.indexCast v799
  ![v800.toNat]
def k0_off27 (v796 : BitVec 32) : Fin 2 → Nat :=
  let c256_i32_1020 : BitVec 32 := 256#32
  let v804 : BitVec 32 := Scalar.muli v796 c256_i32_1020
  let v808 : Index := Scalar.indexCast v804
  let c0_1022 : Index := 0#32
  ![v808.toNat, 0]

def k0_chk14 (v796 : BitVec 32) : Prop :=
  (∀ a, (k0_off27 v796) a + S128x128.size a ≤ S8192x128.size a)
theorem k0_off27_inb : ∀ (v796 : BitVec 32) (k0_hw14 : k0_chk14 v796), ∀ a, (k0_off27 v796) a + S128x128.size a ≤ S8192x128.size a := fun v796 k0_hw14 => k0_hw14

def k0_off28 (v801 : BitVec 32) : Fin 2 → Nat :=
  let c256_i32_1026 : BitVec 32 := 256#32
  let v812 : BitVec 32 := Scalar.muli v801 c256_i32_1026
  let c128_i32_1027 : BitVec 32 := 128#32
  let v813 : BitVec 32 := Scalar.addi v812 c128_i32_1027
  let v817 : Index := Scalar.indexCast v813
  let c0_1029 : Index := 0#32
  ![v817.toNat, 0]

def k0_chk15 (v801 : BitVec 32) : Prop :=
  (∀ a, (k0_off28 v801) a + S128x128.size a ≤ S8192x128.size a)
theorem k0_off28_inb : ∀ (v801 : BitVec 32) (k0_hw15 : k0_chk15 v801), ∀ a, (k0_off28 v801) a + S128x128.size a ≤ S8192x128.size a := fun v801 k0_hw15 => k0_hw15

def k0_dev41 (v13 : BitVec 32) : Nat :=
  let c0_i32_1076 : BitVec 32 := 0#32
  let c1_i32_1075 : BitVec 32 := 1#32
  let v843 : BitVec 32 := Scalar.muli v13 c1_i32_1075
  let v844 : BitVec 32 := Scalar.addi c0_i32_1076 v843
  v844.toNat
def k0_dev42 (v8 : BitVec 32) : Nat :=
  let c0_i32_1079 : BitVec 32 := 0#32
  let c1_i32_1078 : BitVec 32 := 1#32
  let v845 : BitVec 32 := Scalar.muli v8 c1_i32_1078
  let v846 : BitVec 32 := Scalar.addi c0_i32_1079 v845
  v846.toNat
def k0_dev43 (v8 : BitVec 32) : Nat :=
  let c0_i32_1103 : BitVec 32 := 0#32
  let c1_i32_1102 : BitVec 32 := 1#32
  let v855 : BitVec 32 := Scalar.muli v8 c1_i32_1102
  let v856 : BitVec 32 := Scalar.addi c0_i32_1103 v855
  v856.toNat
def k0_dev44 (v13 : BitVec 32) : Nat :=
  let c0_i32_1127 : BitVec 32 := 0#32
  let c1_i32_1126 : BitVec 32 := 1#32
  let v873 : BitVec 32 := Scalar.muli v13 c1_i32_1126
  let v874 : BitVec 32 := Scalar.addi c0_i32_1127 v873
  v874.toNat
def k0_dev45 (v8 : BitVec 32) : Nat :=
  let c0_i32_1151 : BitVec 32 := 0#32
  let c1_i32_1150 : BitVec 32 := 1#32
  let v891 : BitVec 32 := Scalar.muli v8 c1_i32_1150
  let v892 : BitVec 32 := Scalar.addi c0_i32_1151 v891
  v892.toNat
def k0_dev46 (v13 : BitVec 32) : Nat :=
  let c0_i32_1175 : BitVec 32 := 0#32
  let c1_i32_1174 : BitVec 32 := 1#32
  let v909 : BitVec 32 := Scalar.muli v13 c1_i32_1174
  let v910 : BitVec 32 := Scalar.addi c0_i32_1175 v909
  v910.toNat
def k0_off29 (v4 : BitVec 32) : Fin 1 → Nat :=
  let c32_i32_1180 : BitVec 32 := 32#32
  let v919 : BitVec 32 := Scalar.addi v4 c32_i32_1180
  let c1_i32_1181 : BitVec 32 := 1#32
  let v920 : BitVec 32 := Scalar.subi v919 c1_i32_1181
  let c6_i32 : BitVec 32 := 6#32
  let v921 : BitVec 32 := Scalar.subi v920 c6_i32
  let c32_i32_1182 : BitVec 32 := 32#32
  let v922 : BitVec 32 := Scalar.remsi v921 c32_i32_1182
  let v923 : Index := Scalar.indexCast v922
  ![v923.toNat]
def k0_off30 (v4 : BitVec 32) : Fin 1 → Nat :=
  let c1_i32_1183 : BitVec 32 := 1#32
  let v925 : BitVec 32 := Scalar.addi v4 c1_i32_1183
  let c6_i32_1184 : BitVec 32 := 6#32
  let v926 : BitVec 32 := Scalar.addi v925 c6_i32_1184
  let c32_i32_1185 : BitVec 32 := 32#32
  let v927 : BitVec 32 := Scalar.remsi v926 c32_i32_1185
  let v928 : Index := Scalar.indexCast v927
  ![v928.toNat]
def k0_off31 (v924 : BitVec 32) : Fin 2 → Nat :=
  let c256_i32_1189 : BitVec 32 := 256#32
  let v932 : BitVec 32 := Scalar.muli v924 c256_i32_1189
  let v936 : Index := Scalar.indexCast v932
  let c0_1191 : Index := 0#32
  ![v936.toNat, 0]

def k0_chk16 (v924 : BitVec 32) : Prop :=
  (∀ a, (k0_off31 v924) a + S128x128.size a ≤ S8192x128.size a)
theorem k0_off31_inb : ∀ (v924 : BitVec 32) (k0_hw16 : k0_chk16 v924), ∀ a, (k0_off31 v924) a + S128x128.size a ≤ S8192x128.size a := fun v924 k0_hw16 => k0_hw16

def k0_off32 (v929 : BitVec 32) : Fin 2 → Nat :=
  let c256_i32_1195 : BitVec 32 := 256#32
  let v940 : BitVec 32 := Scalar.muli v929 c256_i32_1195
  let c128_i32_1196 : BitVec 32 := 128#32
  let v941 : BitVec 32 := Scalar.addi v940 c128_i32_1196
  let v945 : Index := Scalar.indexCast v941
  let c0_1198 : Index := 0#32
  ![v945.toNat, 0]

def k0_chk17 (v929 : BitVec 32) : Prop :=
  (∀ a, (k0_off32 v929) a + S128x128.size a ≤ S8192x128.size a)
theorem k0_off32_inb : ∀ (v929 : BitVec 32) (k0_hw17 : k0_chk17 v929), ∀ a, (k0_off32 v929) a + S128x128.size a ≤ S8192x128.size a := fun v929 k0_hw17 => k0_hw17

def k0_dev47 (v13 : BitVec 32) : Nat :=
  let c0_i32_1245 : BitVec 32 := 0#32
  let c1_i32_1244 : BitVec 32 := 1#32
  let v971 : BitVec 32 := Scalar.muli v13 c1_i32_1244
  let v972 : BitVec 32 := Scalar.addi c0_i32_1245 v971
  v972.toNat
def k0_dev48 (v8 : BitVec 32) : Nat :=
  let c0_i32_1248 : BitVec 32 := 0#32
  let c1_i32_1247 : BitVec 32 := 1#32
  let v973 : BitVec 32 := Scalar.muli v8 c1_i32_1247
  let v974 : BitVec 32 := Scalar.addi c0_i32_1248 v973
  v974.toNat
def k0_dev49 (v8 : BitVec 32) : Nat :=
  let c0_i32_1272 : BitVec 32 := 0#32
  let c1_i32_1271 : BitVec 32 := 1#32
  let v983 : BitVec 32 := Scalar.muli v8 c1_i32_1271
  let v984 : BitVec 32 := Scalar.addi c0_i32_1272 v983
  v984.toNat
def k0_dev50 (v13 : BitVec 32) : Nat :=
  let c0_i32_1296 : BitVec 32 := 0#32
  let c1_i32_1295 : BitVec 32 := 1#32
  let v1001 : BitVec 32 := Scalar.muli v13 c1_i32_1295
  let v1002 : BitVec 32 := Scalar.addi c0_i32_1296 v1001
  v1002.toNat
def k0_dev51 (v8 : BitVec 32) : Nat :=
  let c0_i32_1320 : BitVec 32 := 0#32
  let c1_i32_1319 : BitVec 32 := 1#32
  let v1019 : BitVec 32 := Scalar.muli v8 c1_i32_1319
  let v1020 : BitVec 32 := Scalar.addi c0_i32_1320 v1019
  v1020.toNat
def k0_dev52 (v13 : BitVec 32) : Nat :=
  let c0_i32_1344 : BitVec 32 := 0#32
  let c1_i32_1343 : BitVec 32 := 1#32
  let v1037 : BitVec 32 := Scalar.muli v13 c1_i32_1343
  let v1038 : BitVec 32 := Scalar.addi c0_i32_1344 v1037
  v1038.toNat
def k0_off33 (v4 : BitVec 32) : Fin 1 → Nat :=
  let c32_i32_1349 : BitVec 32 := 32#32
  let v1047 : BitVec 32 := Scalar.addi v4 c32_i32_1349
  let c1_i32_1350 : BitVec 32 := 1#32
  let v1048 : BitVec 32 := Scalar.subi v1047 c1_i32_1350
  let c7_i32 : BitVec 32 := 7#32
  let v1049 : BitVec 32 := Scalar.subi v1048 c7_i32
  let c32_i32_1351 : BitVec 32 := 32#32
  let v1050 : BitVec 32 := Scalar.remsi v1049 c32_i32_1351
  let v1051 : Index := Scalar.indexCast v1050
  ![v1051.toNat]
def k0_off34 (v4 : BitVec 32) : Fin 1 → Nat :=
  let c1_i32_1352 : BitVec 32 := 1#32
  let v1053 : BitVec 32 := Scalar.addi v4 c1_i32_1352
  let c7_i32_1353 : BitVec 32 := 7#32
  let v1054 : BitVec 32 := Scalar.addi v1053 c7_i32_1353
  let c32_i32_1354 : BitVec 32 := 32#32
  let v1055 : BitVec 32 := Scalar.remsi v1054 c32_i32_1354
  let v1056 : Index := Scalar.indexCast v1055
  ![v1056.toNat]
def k0_off35 (v1052 : BitVec 32) : Fin 2 → Nat :=
  let c256_i32_1358 : BitVec 32 := 256#32
  let v1060 : BitVec 32 := Scalar.muli v1052 c256_i32_1358
  let v1064 : Index := Scalar.indexCast v1060
  let c0_1360 : Index := 0#32
  ![v1064.toNat, 0]

def k0_chk18 (v1052 : BitVec 32) : Prop :=
  (∀ a, (k0_off35 v1052) a + S128x128.size a ≤ S8192x128.size a)
theorem k0_off35_inb : ∀ (v1052 : BitVec 32) (k0_hw18 : k0_chk18 v1052), ∀ a, (k0_off35 v1052) a + S128x128.size a ≤ S8192x128.size a := fun v1052 k0_hw18 => k0_hw18

def k0_off36 (v1057 : BitVec 32) : Fin 2 → Nat :=
  let c256_i32_1364 : BitVec 32 := 256#32
  let v1068 : BitVec 32 := Scalar.muli v1057 c256_i32_1364
  let c128_i32_1365 : BitVec 32 := 128#32
  let v1069 : BitVec 32 := Scalar.addi v1068 c128_i32_1365
  let v1073 : Index := Scalar.indexCast v1069
  let c0_1367 : Index := 0#32
  ![v1073.toNat, 0]

def k0_chk19 (v1057 : BitVec 32) : Prop :=
  (∀ a, (k0_off36 v1057) a + S128x128.size a ≤ S8192x128.size a)
theorem k0_off36_inb : ∀ (v1057 : BitVec 32) (k0_hw19 : k0_chk19 v1057), ∀ a, (k0_off36 v1057) a + S128x128.size a ≤ S8192x128.size a := fun v1057 k0_hw19 => k0_hw19

def k0_dev53 (v13 : BitVec 32) : Nat :=
  let c0_i32_1414 : BitVec 32 := 0#32
  let c1_i32_1413 : BitVec 32 := 1#32
  let v1099 : BitVec 32 := Scalar.muli v13 c1_i32_1413
  let v1100 : BitVec 32 := Scalar.addi c0_i32_1414 v1099
  v1100.toNat
def k0_dev54 (v8 : BitVec 32) : Nat :=
  let c0_i32_1417 : BitVec 32 := 0#32
  let c1_i32_1416 : BitVec 32 := 1#32
  let v1101 : BitVec 32 := Scalar.muli v8 c1_i32_1416
  let v1102 : BitVec 32 := Scalar.addi c0_i32_1417 v1101
  v1102.toNat
def k0_dev55 (v8 : BitVec 32) : Nat :=
  let c0_i32_1441 : BitVec 32 := 0#32
  let c1_i32_1440 : BitVec 32 := 1#32
  let v1111 : BitVec 32 := Scalar.muli v8 c1_i32_1440
  let v1112 : BitVec 32 := Scalar.addi c0_i32_1441 v1111
  v1112.toNat
def k0_dev56 (v13 : BitVec 32) : Nat :=
  let c0_i32_1465 : BitVec 32 := 0#32
  let c1_i32_1464 : BitVec 32 := 1#32
  let v1129 : BitVec 32 := Scalar.muli v13 c1_i32_1464
  let v1130 : BitVec 32 := Scalar.addi c0_i32_1465 v1129
  v1130.toNat
def k0_dev57 (v8 : BitVec 32) : Nat :=
  let c0_i32_1489 : BitVec 32 := 0#32
  let c1_i32_1488 : BitVec 32 := 1#32
  let v1147 : BitVec 32 := Scalar.muli v8 c1_i32_1488
  let v1148 : BitVec 32 := Scalar.addi c0_i32_1489 v1147
  v1148.toNat
def k0_dev58 (v13 : BitVec 32) : Nat :=
  let c0_i32_1513 : BitVec 32 := 0#32
  let c1_i32_1512 : BitVec 32 := 1#32
  let v1165 : BitVec 32 := Scalar.muli v13 c1_i32_1512
  let v1166 : BitVec 32 := Scalar.addi c0_i32_1513 v1165
  v1166.toNat
def k0_off37 (v4 : BitVec 32) : Fin 1 → Nat :=
  let c32_i32_1518 : BitVec 32 := 32#32
  let v1175 : BitVec 32 := Scalar.addi v4 c32_i32_1518
  let c1_i32_1519 : BitVec 32 := 1#32
  let v1176 : BitVec 32 := Scalar.subi v1175 c1_i32_1519
  let c8_i32 : BitVec 32 := 8#32
  let v1177 : BitVec 32 := Scalar.subi v1176 c8_i32
  let c32_i32_1520 : BitVec 32 := 32#32
  let v1178 : BitVec 32 := Scalar.remsi v1177 c32_i32_1520
  let v1179 : Index := Scalar.indexCast v1178
  ![v1179.toNat]
def k0_off38 (v4 : BitVec 32) : Fin 1 → Nat :=
  let c1_i32_1521 : BitVec 32 := 1#32
  let v1181 : BitVec 32 := Scalar.addi v4 c1_i32_1521
  let c8_i32_1522 : BitVec 32 := 8#32
  let v1182 : BitVec 32 := Scalar.addi v1181 c8_i32_1522
  let c32_i32_1523 : BitVec 32 := 32#32
  let v1183 : BitVec 32 := Scalar.remsi v1182 c32_i32_1523
  let v1184 : Index := Scalar.indexCast v1183
  ![v1184.toNat]
def k0_off39 (v1180 : BitVec 32) : Fin 2 → Nat :=
  let c256_i32_1527 : BitVec 32 := 256#32
  let v1188 : BitVec 32 := Scalar.muli v1180 c256_i32_1527
  let v1192 : Index := Scalar.indexCast v1188
  let c0_1529 : Index := 0#32
  ![v1192.toNat, 0]

def k0_chk20 (v1180 : BitVec 32) : Prop :=
  (∀ a, (k0_off39 v1180) a + S128x128.size a ≤ S8192x128.size a)
theorem k0_off39_inb : ∀ (v1180 : BitVec 32) (k0_hw20 : k0_chk20 v1180), ∀ a, (k0_off39 v1180) a + S128x128.size a ≤ S8192x128.size a := fun v1180 k0_hw20 => k0_hw20

def k0_off40 (v1185 : BitVec 32) : Fin 2 → Nat :=
  let c256_i32_1533 : BitVec 32 := 256#32
  let v1196 : BitVec 32 := Scalar.muli v1185 c256_i32_1533
  let c128_i32_1534 : BitVec 32 := 128#32
  let v1197 : BitVec 32 := Scalar.addi v1196 c128_i32_1534
  let v1201 : Index := Scalar.indexCast v1197
  let c0_1536 : Index := 0#32
  ![v1201.toNat, 0]

def k0_chk21 (v1185 : BitVec 32) : Prop :=
  (∀ a, (k0_off40 v1185) a + S128x128.size a ≤ S8192x128.size a)
theorem k0_off40_inb : ∀ (v1185 : BitVec 32) (k0_hw21 : k0_chk21 v1185), ∀ a, (k0_off40 v1185) a + S128x128.size a ≤ S8192x128.size a := fun v1185 k0_hw21 => k0_hw21

def k0_dev59 (v13 : BitVec 32) : Nat :=
  let c0_i32_1583 : BitVec 32 := 0#32
  let c1_i32_1582 : BitVec 32 := 1#32
  let v1227 : BitVec 32 := Scalar.muli v13 c1_i32_1582
  let v1228 : BitVec 32 := Scalar.addi c0_i32_1583 v1227
  v1228.toNat
def k0_dev60 (v8 : BitVec 32) : Nat :=
  let c0_i32_1586 : BitVec 32 := 0#32
  let c1_i32_1585 : BitVec 32 := 1#32
  let v1229 : BitVec 32 := Scalar.muli v8 c1_i32_1585
  let v1230 : BitVec 32 := Scalar.addi c0_i32_1586 v1229
  v1230.toNat
def k0_dev61 (v8 : BitVec 32) : Nat :=
  let c0_i32_1610 : BitVec 32 := 0#32
  let c1_i32_1609 : BitVec 32 := 1#32
  let v1239 : BitVec 32 := Scalar.muli v8 c1_i32_1609
  let v1240 : BitVec 32 := Scalar.addi c0_i32_1610 v1239
  v1240.toNat
def k0_dev62 (v13 : BitVec 32) : Nat :=
  let c0_i32_1634 : BitVec 32 := 0#32
  let c1_i32_1633 : BitVec 32 := 1#32
  let v1257 : BitVec 32 := Scalar.muli v13 c1_i32_1633
  let v1258 : BitVec 32 := Scalar.addi c0_i32_1634 v1257
  v1258.toNat
def k0_dev63 (v8 : BitVec 32) : Nat :=
  let c0_i32_1658 : BitVec 32 := 0#32
  let c1_i32_1657 : BitVec 32 := 1#32
  let v1275 : BitVec 32 := Scalar.muli v8 c1_i32_1657
  let v1276 : BitVec 32 := Scalar.addi c0_i32_1658 v1275
  v1276.toNat
def k0_dev64 (v13 : BitVec 32) : Nat :=
  let c0_i32_1682 : BitVec 32 := 0#32
  let c1_i32_1681 : BitVec 32 := 1#32
  let v1293 : BitVec 32 := Scalar.muli v13 c1_i32_1681
  let v1294 : BitVec 32 := Scalar.addi c0_i32_1682 v1293
  v1294.toNat
def k0_off41 (v4 : BitVec 32) : Fin 1 → Nat :=
  let c32_i32_1687 : BitVec 32 := 32#32
  let v1303 : BitVec 32 := Scalar.addi v4 c32_i32_1687
  let c1_i32_1688 : BitVec 32 := 1#32
  let v1304 : BitVec 32 := Scalar.subi v1303 c1_i32_1688
  let c9_i32 : BitVec 32 := 9#32
  let v1305 : BitVec 32 := Scalar.subi v1304 c9_i32
  let c32_i32_1689 : BitVec 32 := 32#32
  let v1306 : BitVec 32 := Scalar.remsi v1305 c32_i32_1689
  let v1307 : Index := Scalar.indexCast v1306
  ![v1307.toNat]
def k0_off42 (v4 : BitVec 32) : Fin 1 → Nat :=
  let c1_i32_1690 : BitVec 32 := 1#32
  let v1309 : BitVec 32 := Scalar.addi v4 c1_i32_1690
  let c9_i32_1691 : BitVec 32 := 9#32
  let v1310 : BitVec 32 := Scalar.addi v1309 c9_i32_1691
  let c32_i32_1692 : BitVec 32 := 32#32
  let v1311 : BitVec 32 := Scalar.remsi v1310 c32_i32_1692
  let v1312 : Index := Scalar.indexCast v1311
  ![v1312.toNat]
def k0_off43 (v1308 : BitVec 32) : Fin 2 → Nat :=
  let c256_i32_1696 : BitVec 32 := 256#32
  let v1316 : BitVec 32 := Scalar.muli v1308 c256_i32_1696
  let v1320 : Index := Scalar.indexCast v1316
  let c0_1698 : Index := 0#32
  ![v1320.toNat, 0]

def k0_chk22 (v1308 : BitVec 32) : Prop :=
  (∀ a, (k0_off43 v1308) a + S128x128.size a ≤ S8192x128.size a)
theorem k0_off43_inb : ∀ (v1308 : BitVec 32) (k0_hw22 : k0_chk22 v1308), ∀ a, (k0_off43 v1308) a + S128x128.size a ≤ S8192x128.size a := fun v1308 k0_hw22 => k0_hw22

def k0_off44 (v1313 : BitVec 32) : Fin 2 → Nat :=
  let c256_i32_1702 : BitVec 32 := 256#32
  let v1324 : BitVec 32 := Scalar.muli v1313 c256_i32_1702
  let c128_i32_1703 : BitVec 32 := 128#32
  let v1325 : BitVec 32 := Scalar.addi v1324 c128_i32_1703
  let v1329 : Index := Scalar.indexCast v1325
  let c0_1705 : Index := 0#32
  ![v1329.toNat, 0]

def k0_chk23 (v1313 : BitVec 32) : Prop :=
  (∀ a, (k0_off44 v1313) a + S128x128.size a ≤ S8192x128.size a)
theorem k0_off44_inb : ∀ (v1313 : BitVec 32) (k0_hw23 : k0_chk23 v1313), ∀ a, (k0_off44 v1313) a + S128x128.size a ≤ S8192x128.size a := fun v1313 k0_hw23 => k0_hw23

def k0_dev65 (v13 : BitVec 32) : Nat :=
  let c0_i32_1752 : BitVec 32 := 0#32
  let c1_i32_1751 : BitVec 32 := 1#32
  let v1355 : BitVec 32 := Scalar.muli v13 c1_i32_1751
  let v1356 : BitVec 32 := Scalar.addi c0_i32_1752 v1355
  v1356.toNat
def k0_dev66 (v8 : BitVec 32) : Nat :=
  let c0_i32_1755 : BitVec 32 := 0#32
  let c1_i32_1754 : BitVec 32 := 1#32
  let v1357 : BitVec 32 := Scalar.muli v8 c1_i32_1754
  let v1358 : BitVec 32 := Scalar.addi c0_i32_1755 v1357
  v1358.toNat
def k0_dev67 (v8 : BitVec 32) : Nat :=
  let c0_i32_1779 : BitVec 32 := 0#32
  let c1_i32_1778 : BitVec 32 := 1#32
  let v1367 : BitVec 32 := Scalar.muli v8 c1_i32_1778
  let v1368 : BitVec 32 := Scalar.addi c0_i32_1779 v1367
  v1368.toNat
def k0_dev68 (v13 : BitVec 32) : Nat :=
  let c0_i32_1803 : BitVec 32 := 0#32
  let c1_i32_1802 : BitVec 32 := 1#32
  let v1385 : BitVec 32 := Scalar.muli v13 c1_i32_1802
  let v1386 : BitVec 32 := Scalar.addi c0_i32_1803 v1385
  v1386.toNat
def k0_dev69 (v8 : BitVec 32) : Nat :=
  let c0_i32_1827 : BitVec 32 := 0#32
  let c1_i32_1826 : BitVec 32 := 1#32
  let v1403 : BitVec 32 := Scalar.muli v8 c1_i32_1826
  let v1404 : BitVec 32 := Scalar.addi c0_i32_1827 v1403
  v1404.toNat
def k0_dev70 (v13 : BitVec 32) : Nat :=
  let c0_i32_1851 : BitVec 32 := 0#32
  let c1_i32_1850 : BitVec 32 := 1#32
  let v1421 : BitVec 32 := Scalar.muli v13 c1_i32_1850
  let v1422 : BitVec 32 := Scalar.addi c0_i32_1851 v1421
  v1422.toNat
def k0_off45 (v4 : BitVec 32) : Fin 1 → Nat :=
  let c32_i32_1856 : BitVec 32 := 32#32
  let v1431 : BitVec 32 := Scalar.addi v4 c32_i32_1856
  let c1_i32_1857 : BitVec 32 := 1#32
  let v1432 : BitVec 32 := Scalar.subi v1431 c1_i32_1857
  let c10_i32 : BitVec 32 := 10#32
  let v1433 : BitVec 32 := Scalar.subi v1432 c10_i32
  let c32_i32_1858 : BitVec 32 := 32#32
  let v1434 : BitVec 32 := Scalar.remsi v1433 c32_i32_1858
  let v1435 : Index := Scalar.indexCast v1434
  ![v1435.toNat]
def k0_off46 (v4 : BitVec 32) : Fin 1 → Nat :=
  let c1_i32_1859 : BitVec 32 := 1#32
  let v1437 : BitVec 32 := Scalar.addi v4 c1_i32_1859
  let c10_i32_1860 : BitVec 32 := 10#32
  let v1438 : BitVec 32 := Scalar.addi v1437 c10_i32_1860
  let c32_i32_1861 : BitVec 32 := 32#32
  let v1439 : BitVec 32 := Scalar.remsi v1438 c32_i32_1861
  let v1440 : Index := Scalar.indexCast v1439
  ![v1440.toNat]
def k0_off47 (v1436 : BitVec 32) : Fin 2 → Nat :=
  let c256_i32_1865 : BitVec 32 := 256#32
  let v1444 : BitVec 32 := Scalar.muli v1436 c256_i32_1865
  let v1448 : Index := Scalar.indexCast v1444
  let c0_1867 : Index := 0#32
  ![v1448.toNat, 0]

def k0_chk24 (v1436 : BitVec 32) : Prop :=
  (∀ a, (k0_off47 v1436) a + S128x128.size a ≤ S8192x128.size a)
theorem k0_off47_inb : ∀ (v1436 : BitVec 32) (k0_hw24 : k0_chk24 v1436), ∀ a, (k0_off47 v1436) a + S128x128.size a ≤ S8192x128.size a := fun v1436 k0_hw24 => k0_hw24

def k0_off48 (v1441 : BitVec 32) : Fin 2 → Nat :=
  let c256_i32_1871 : BitVec 32 := 256#32
  let v1452 : BitVec 32 := Scalar.muli v1441 c256_i32_1871
  let c128_i32_1872 : BitVec 32 := 128#32
  let v1453 : BitVec 32 := Scalar.addi v1452 c128_i32_1872
  let v1457 : Index := Scalar.indexCast v1453
  let c0_1874 : Index := 0#32
  ![v1457.toNat, 0]

def k0_chk25 (v1441 : BitVec 32) : Prop :=
  (∀ a, (k0_off48 v1441) a + S128x128.size a ≤ S8192x128.size a)
theorem k0_off48_inb : ∀ (v1441 : BitVec 32) (k0_hw25 : k0_chk25 v1441), ∀ a, (k0_off48 v1441) a + S128x128.size a ≤ S8192x128.size a := fun v1441 k0_hw25 => k0_hw25

def k0_dev71 (v13 : BitVec 32) : Nat :=
  let c0_i32_1921 : BitVec 32 := 0#32
  let c1_i32_1920 : BitVec 32 := 1#32
  let v1483 : BitVec 32 := Scalar.muli v13 c1_i32_1920
  let v1484 : BitVec 32 := Scalar.addi c0_i32_1921 v1483
  v1484.toNat
def k0_dev72 (v8 : BitVec 32) : Nat :=
  let c0_i32_1924 : BitVec 32 := 0#32
  let c1_i32_1923 : BitVec 32 := 1#32
  let v1485 : BitVec 32 := Scalar.muli v8 c1_i32_1923
  let v1486 : BitVec 32 := Scalar.addi c0_i32_1924 v1485
  v1486.toNat
def k0_dev73 (v8 : BitVec 32) : Nat :=
  let c0_i32_1948 : BitVec 32 := 0#32
  let c1_i32_1947 : BitVec 32 := 1#32
  let v1495 : BitVec 32 := Scalar.muli v8 c1_i32_1947
  let v1496 : BitVec 32 := Scalar.addi c0_i32_1948 v1495
  v1496.toNat
def k0_dev74 (v13 : BitVec 32) : Nat :=
  let c0_i32_1972 : BitVec 32 := 0#32
  let c1_i32_1971 : BitVec 32 := 1#32
  let v1513 : BitVec 32 := Scalar.muli v13 c1_i32_1971
  let v1514 : BitVec 32 := Scalar.addi c0_i32_1972 v1513
  v1514.toNat
def k0_dev75 (v8 : BitVec 32) : Nat :=
  let c0_i32_1996 : BitVec 32 := 0#32
  let c1_i32_1995 : BitVec 32 := 1#32
  let v1531 : BitVec 32 := Scalar.muli v8 c1_i32_1995
  let v1532 : BitVec 32 := Scalar.addi c0_i32_1996 v1531
  v1532.toNat
def k0_dev76 (v13 : BitVec 32) : Nat :=
  let c0_i32_2020 : BitVec 32 := 0#32
  let c1_i32_2019 : BitVec 32 := 1#32
  let v1549 : BitVec 32 := Scalar.muli v13 c1_i32_2019
  let v1550 : BitVec 32 := Scalar.addi c0_i32_2020 v1549
  v1550.toNat
def k0_off49 (v4 : BitVec 32) : Fin 1 → Nat :=
  let c32_i32_2025 : BitVec 32 := 32#32
  let v1559 : BitVec 32 := Scalar.addi v4 c32_i32_2025
  let c1_i32_2026 : BitVec 32 := 1#32
  let v1560 : BitVec 32 := Scalar.subi v1559 c1_i32_2026
  let c11_i32 : BitVec 32 := 11#32
  let v1561 : BitVec 32 := Scalar.subi v1560 c11_i32
  let c32_i32_2027 : BitVec 32 := 32#32
  let v1562 : BitVec 32 := Scalar.remsi v1561 c32_i32_2027
  let v1563 : Index := Scalar.indexCast v1562
  ![v1563.toNat]
def k0_off50 (v4 : BitVec 32) : Fin 1 → Nat :=
  let c1_i32_2028 : BitVec 32 := 1#32
  let v1565 : BitVec 32 := Scalar.addi v4 c1_i32_2028
  let c11_i32_2029 : BitVec 32 := 11#32
  let v1566 : BitVec 32 := Scalar.addi v1565 c11_i32_2029
  let c32_i32_2030 : BitVec 32 := 32#32
  let v1567 : BitVec 32 := Scalar.remsi v1566 c32_i32_2030
  let v1568 : Index := Scalar.indexCast v1567
  ![v1568.toNat]
def k0_off51 (v1564 : BitVec 32) : Fin 2 → Nat :=
  let c256_i32_2034 : BitVec 32 := 256#32
  let v1572 : BitVec 32 := Scalar.muli v1564 c256_i32_2034
  let v1576 : Index := Scalar.indexCast v1572
  let c0_2036 : Index := 0#32
  ![v1576.toNat, 0]

def k0_chk26 (v1564 : BitVec 32) : Prop :=
  (∀ a, (k0_off51 v1564) a + S128x128.size a ≤ S8192x128.size a)
theorem k0_off51_inb : ∀ (v1564 : BitVec 32) (k0_hw26 : k0_chk26 v1564), ∀ a, (k0_off51 v1564) a + S128x128.size a ≤ S8192x128.size a := fun v1564 k0_hw26 => k0_hw26

def k0_off52 (v1569 : BitVec 32) : Fin 2 → Nat :=
  let c256_i32_2040 : BitVec 32 := 256#32
  let v1580 : BitVec 32 := Scalar.muli v1569 c256_i32_2040
  let c128_i32_2041 : BitVec 32 := 128#32
  let v1581 : BitVec 32 := Scalar.addi v1580 c128_i32_2041
  let v1585 : Index := Scalar.indexCast v1581
  let c0_2043 : Index := 0#32
  ![v1585.toNat, 0]

def k0_chk27 (v1569 : BitVec 32) : Prop :=
  (∀ a, (k0_off52 v1569) a + S128x128.size a ≤ S8192x128.size a)
theorem k0_off52_inb : ∀ (v1569 : BitVec 32) (k0_hw27 : k0_chk27 v1569), ∀ a, (k0_off52 v1569) a + S128x128.size a ≤ S8192x128.size a := fun v1569 k0_hw27 => k0_hw27

def k0_dev77 (v13 : BitVec 32) : Nat :=
  let c0_i32_2090 : BitVec 32 := 0#32
  let c1_i32_2089 : BitVec 32 := 1#32
  let v1611 : BitVec 32 := Scalar.muli v13 c1_i32_2089
  let v1612 : BitVec 32 := Scalar.addi c0_i32_2090 v1611
  v1612.toNat
def k0_dev78 (v8 : BitVec 32) : Nat :=
  let c0_i32_2093 : BitVec 32 := 0#32
  let c1_i32_2092 : BitVec 32 := 1#32
  let v1613 : BitVec 32 := Scalar.muli v8 c1_i32_2092
  let v1614 : BitVec 32 := Scalar.addi c0_i32_2093 v1613
  v1614.toNat
def k0_dev79 (v8 : BitVec 32) : Nat :=
  let c0_i32_2117 : BitVec 32 := 0#32
  let c1_i32_2116 : BitVec 32 := 1#32
  let v1623 : BitVec 32 := Scalar.muli v8 c1_i32_2116
  let v1624 : BitVec 32 := Scalar.addi c0_i32_2117 v1623
  v1624.toNat
def k0_dev80 (v13 : BitVec 32) : Nat :=
  let c0_i32_2141 : BitVec 32 := 0#32
  let c1_i32_2140 : BitVec 32 := 1#32
  let v1641 : BitVec 32 := Scalar.muli v13 c1_i32_2140
  let v1642 : BitVec 32 := Scalar.addi c0_i32_2141 v1641
  v1642.toNat
def k0_dev81 (v8 : BitVec 32) : Nat :=
  let c0_i32_2165 : BitVec 32 := 0#32
  let c1_i32_2164 : BitVec 32 := 1#32
  let v1659 : BitVec 32 := Scalar.muli v8 c1_i32_2164
  let v1660 : BitVec 32 := Scalar.addi c0_i32_2165 v1659
  v1660.toNat
def k0_dev82 (v13 : BitVec 32) : Nat :=
  let c0_i32_2189 : BitVec 32 := 0#32
  let c1_i32_2188 : BitVec 32 := 1#32
  let v1677 : BitVec 32 := Scalar.muli v13 c1_i32_2188
  let v1678 : BitVec 32 := Scalar.addi c0_i32_2189 v1677
  v1678.toNat
def k0_off53 (v4 : BitVec 32) : Fin 1 → Nat :=
  let c32_i32_2194 : BitVec 32 := 32#32
  let v1687 : BitVec 32 := Scalar.addi v4 c32_i32_2194
  let c1_i32_2195 : BitVec 32 := 1#32
  let v1688 : BitVec 32 := Scalar.subi v1687 c1_i32_2195
  let c12_i32 : BitVec 32 := 12#32
  let v1689 : BitVec 32 := Scalar.subi v1688 c12_i32
  let c32_i32_2196 : BitVec 32 := 32#32
  let v1690 : BitVec 32 := Scalar.remsi v1689 c32_i32_2196
  let v1691 : Index := Scalar.indexCast v1690
  ![v1691.toNat]
def k0_off54 (v4 : BitVec 32) : Fin 1 → Nat :=
  let c1_i32_2197 : BitVec 32 := 1#32
  let v1693 : BitVec 32 := Scalar.addi v4 c1_i32_2197
  let c12_i32_2198 : BitVec 32 := 12#32
  let v1694 : BitVec 32 := Scalar.addi v1693 c12_i32_2198
  let c32_i32_2199 : BitVec 32 := 32#32
  let v1695 : BitVec 32 := Scalar.remsi v1694 c32_i32_2199
  let v1696 : Index := Scalar.indexCast v1695
  ![v1696.toNat]
def k0_off55 (v1692 : BitVec 32) : Fin 2 → Nat :=
  let c256_i32_2203 : BitVec 32 := 256#32
  let v1700 : BitVec 32 := Scalar.muli v1692 c256_i32_2203
  let v1704 : Index := Scalar.indexCast v1700
  let c0_2205 : Index := 0#32
  ![v1704.toNat, 0]

def k0_chk28 (v1692 : BitVec 32) : Prop :=
  (∀ a, (k0_off55 v1692) a + S128x128.size a ≤ S8192x128.size a)
theorem k0_off55_inb : ∀ (v1692 : BitVec 32) (k0_hw28 : k0_chk28 v1692), ∀ a, (k0_off55 v1692) a + S128x128.size a ≤ S8192x128.size a := fun v1692 k0_hw28 => k0_hw28

def k0_off56 (v1697 : BitVec 32) : Fin 2 → Nat :=
  let c256_i32_2209 : BitVec 32 := 256#32
  let v1708 : BitVec 32 := Scalar.muli v1697 c256_i32_2209
  let c128_i32_2210 : BitVec 32 := 128#32
  let v1709 : BitVec 32 := Scalar.addi v1708 c128_i32_2210
  let v1713 : Index := Scalar.indexCast v1709
  let c0_2212 : Index := 0#32
  ![v1713.toNat, 0]

def k0_chk29 (v1697 : BitVec 32) : Prop :=
  (∀ a, (k0_off56 v1697) a + S128x128.size a ≤ S8192x128.size a)
theorem k0_off56_inb : ∀ (v1697 : BitVec 32) (k0_hw29 : k0_chk29 v1697), ∀ a, (k0_off56 v1697) a + S128x128.size a ≤ S8192x128.size a := fun v1697 k0_hw29 => k0_hw29

def k0_dev83 (v13 : BitVec 32) : Nat :=
  let c0_i32_2259 : BitVec 32 := 0#32
  let c1_i32_2258 : BitVec 32 := 1#32
  let v1739 : BitVec 32 := Scalar.muli v13 c1_i32_2258
  let v1740 : BitVec 32 := Scalar.addi c0_i32_2259 v1739
  v1740.toNat
def k0_dev84 (v8 : BitVec 32) : Nat :=
  let c0_i32_2262 : BitVec 32 := 0#32
  let c1_i32_2261 : BitVec 32 := 1#32
  let v1741 : BitVec 32 := Scalar.muli v8 c1_i32_2261
  let v1742 : BitVec 32 := Scalar.addi c0_i32_2262 v1741
  v1742.toNat
def k0_dev85 (v8 : BitVec 32) : Nat :=
  let c0_i32_2286 : BitVec 32 := 0#32
  let c1_i32_2285 : BitVec 32 := 1#32
  let v1751 : BitVec 32 := Scalar.muli v8 c1_i32_2285
  let v1752 : BitVec 32 := Scalar.addi c0_i32_2286 v1751
  v1752.toNat
def k0_dev86 (v13 : BitVec 32) : Nat :=
  let c0_i32_2310 : BitVec 32 := 0#32
  let c1_i32_2309 : BitVec 32 := 1#32
  let v1769 : BitVec 32 := Scalar.muli v13 c1_i32_2309
  let v1770 : BitVec 32 := Scalar.addi c0_i32_2310 v1769
  v1770.toNat
def k0_dev87 (v8 : BitVec 32) : Nat :=
  let c0_i32_2334 : BitVec 32 := 0#32
  let c1_i32_2333 : BitVec 32 := 1#32
  let v1787 : BitVec 32 := Scalar.muli v8 c1_i32_2333
  let v1788 : BitVec 32 := Scalar.addi c0_i32_2334 v1787
  v1788.toNat
def k0_dev88 (v13 : BitVec 32) : Nat :=
  let c0_i32_2358 : BitVec 32 := 0#32
  let c1_i32_2357 : BitVec 32 := 1#32
  let v1805 : BitVec 32 := Scalar.muli v13 c1_i32_2357
  let v1806 : BitVec 32 := Scalar.addi c0_i32_2358 v1805
  v1806.toNat
def k0_off57 (v4 : BitVec 32) : Fin 1 → Nat :=
  let c32_i32_2363 : BitVec 32 := 32#32
  let v1815 : BitVec 32 := Scalar.addi v4 c32_i32_2363
  let c1_i32_2364 : BitVec 32 := 1#32
  let v1816 : BitVec 32 := Scalar.subi v1815 c1_i32_2364
  let c13_i32 : BitVec 32 := 13#32
  let v1817 : BitVec 32 := Scalar.subi v1816 c13_i32
  let c32_i32_2365 : BitVec 32 := 32#32
  let v1818 : BitVec 32 := Scalar.remsi v1817 c32_i32_2365
  let v1819 : Index := Scalar.indexCast v1818
  ![v1819.toNat]
def k0_off58 (v4 : BitVec 32) : Fin 1 → Nat :=
  let c1_i32_2366 : BitVec 32 := 1#32
  let v1821 : BitVec 32 := Scalar.addi v4 c1_i32_2366
  let c13_i32_2367 : BitVec 32 := 13#32
  let v1822 : BitVec 32 := Scalar.addi v1821 c13_i32_2367
  let c32_i32_2368 : BitVec 32 := 32#32
  let v1823 : BitVec 32 := Scalar.remsi v1822 c32_i32_2368
  let v1824 : Index := Scalar.indexCast v1823
  ![v1824.toNat]
def k0_off59 (v1820 : BitVec 32) : Fin 2 → Nat :=
  let c256_i32_2372 : BitVec 32 := 256#32
  let v1828 : BitVec 32 := Scalar.muli v1820 c256_i32_2372
  let v1832 : Index := Scalar.indexCast v1828
  let c0_2374 : Index := 0#32
  ![v1832.toNat, 0]

def k0_chk30 (v1820 : BitVec 32) : Prop :=
  (∀ a, (k0_off59 v1820) a + S128x128.size a ≤ S8192x128.size a)
theorem k0_off59_inb : ∀ (v1820 : BitVec 32) (k0_hw30 : k0_chk30 v1820), ∀ a, (k0_off59 v1820) a + S128x128.size a ≤ S8192x128.size a := fun v1820 k0_hw30 => k0_hw30

def k0_off60 (v1825 : BitVec 32) : Fin 2 → Nat :=
  let c256_i32_2378 : BitVec 32 := 256#32
  let v1836 : BitVec 32 := Scalar.muli v1825 c256_i32_2378
  let c128_i32_2379 : BitVec 32 := 128#32
  let v1837 : BitVec 32 := Scalar.addi v1836 c128_i32_2379
  let v1841 : Index := Scalar.indexCast v1837
  let c0_2381 : Index := 0#32
  ![v1841.toNat, 0]

def k0_chk31 (v1825 : BitVec 32) : Prop :=
  (∀ a, (k0_off60 v1825) a + S128x128.size a ≤ S8192x128.size a)
theorem k0_off60_inb : ∀ (v1825 : BitVec 32) (k0_hw31 : k0_chk31 v1825), ∀ a, (k0_off60 v1825) a + S128x128.size a ≤ S8192x128.size a := fun v1825 k0_hw31 => k0_hw31

def k0_dev89 (v13 : BitVec 32) : Nat :=
  let c0_i32_2428 : BitVec 32 := 0#32
  let c1_i32_2427 : BitVec 32 := 1#32
  let v1867 : BitVec 32 := Scalar.muli v13 c1_i32_2427
  let v1868 : BitVec 32 := Scalar.addi c0_i32_2428 v1867
  v1868.toNat
def k0_dev90 (v8 : BitVec 32) : Nat :=
  let c0_i32_2431 : BitVec 32 := 0#32
  let c1_i32_2430 : BitVec 32 := 1#32
  let v1869 : BitVec 32 := Scalar.muli v8 c1_i32_2430
  let v1870 : BitVec 32 := Scalar.addi c0_i32_2431 v1869
  v1870.toNat
def k0_dev91 (v8 : BitVec 32) : Nat :=
  let c0_i32_2455 : BitVec 32 := 0#32
  let c1_i32_2454 : BitVec 32 := 1#32
  let v1879 : BitVec 32 := Scalar.muli v8 c1_i32_2454
  let v1880 : BitVec 32 := Scalar.addi c0_i32_2455 v1879
  v1880.toNat
def k0_dev92 (v13 : BitVec 32) : Nat :=
  let c0_i32_2479 : BitVec 32 := 0#32
  let c1_i32_2478 : BitVec 32 := 1#32
  let v1897 : BitVec 32 := Scalar.muli v13 c1_i32_2478
  let v1898 : BitVec 32 := Scalar.addi c0_i32_2479 v1897
  v1898.toNat
def k0_dev93 (v8 : BitVec 32) : Nat :=
  let c0_i32_2503 : BitVec 32 := 0#32
  let c1_i32_2502 : BitVec 32 := 1#32
  let v1915 : BitVec 32 := Scalar.muli v8 c1_i32_2502
  let v1916 : BitVec 32 := Scalar.addi c0_i32_2503 v1915
  v1916.toNat
def k0_dev94 (v13 : BitVec 32) : Nat :=
  let c0_i32_2527 : BitVec 32 := 0#32
  let c1_i32_2526 : BitVec 32 := 1#32
  let v1933 : BitVec 32 := Scalar.muli v13 c1_i32_2526
  let v1934 : BitVec 32 := Scalar.addi c0_i32_2527 v1933
  v1934.toNat
def k0_off61 (v4 : BitVec 32) : Fin 1 → Nat :=
  let c32_i32_2532 : BitVec 32 := 32#32
  let v1943 : BitVec 32 := Scalar.addi v4 c32_i32_2532
  let c1_i32_2533 : BitVec 32 := 1#32
  let v1944 : BitVec 32 := Scalar.subi v1943 c1_i32_2533
  let c14_i32 : BitVec 32 := 14#32
  let v1945 : BitVec 32 := Scalar.subi v1944 c14_i32
  let c32_i32_2534 : BitVec 32 := 32#32
  let v1946 : BitVec 32 := Scalar.remsi v1945 c32_i32_2534
  let v1947 : Index := Scalar.indexCast v1946
  ![v1947.toNat]
def k0_off62 (v4 : BitVec 32) : Fin 1 → Nat :=
  let c1_i32_2535 : BitVec 32 := 1#32
  let v1949 : BitVec 32 := Scalar.addi v4 c1_i32_2535
  let c14_i32_2536 : BitVec 32 := 14#32
  let v1950 : BitVec 32 := Scalar.addi v1949 c14_i32_2536
  let c32_i32_2537 : BitVec 32 := 32#32
  let v1951 : BitVec 32 := Scalar.remsi v1950 c32_i32_2537
  let v1952 : Index := Scalar.indexCast v1951
  ![v1952.toNat]
def k0_off63 (v1948 : BitVec 32) : Fin 2 → Nat :=
  let c256_i32_2541 : BitVec 32 := 256#32
  let v1956 : BitVec 32 := Scalar.muli v1948 c256_i32_2541
  let v1960 : Index := Scalar.indexCast v1956
  let c0_2543 : Index := 0#32
  ![v1960.toNat, 0]

def k0_chk32 (v1948 : BitVec 32) : Prop :=
  (∀ a, (k0_off63 v1948) a + S128x128.size a ≤ S8192x128.size a)
theorem k0_off63_inb : ∀ (v1948 : BitVec 32) (k0_hw32 : k0_chk32 v1948), ∀ a, (k0_off63 v1948) a + S128x128.size a ≤ S8192x128.size a := fun v1948 k0_hw32 => k0_hw32

def k0_off64 (v1953 : BitVec 32) : Fin 2 → Nat :=
  let c256_i32_2547 : BitVec 32 := 256#32
  let v1964 : BitVec 32 := Scalar.muli v1953 c256_i32_2547
  let c128_i32_2548 : BitVec 32 := 128#32
  let v1965 : BitVec 32 := Scalar.addi v1964 c128_i32_2548
  let v1969 : Index := Scalar.indexCast v1965
  let c0_2550 : Index := 0#32
  ![v1969.toNat, 0]

def k0_chk33 (v1953 : BitVec 32) : Prop :=
  (∀ a, (k0_off64 v1953) a + S128x128.size a ≤ S8192x128.size a)
theorem k0_off64_inb : ∀ (v1953 : BitVec 32) (k0_hw33 : k0_chk33 v1953), ∀ a, (k0_off64 v1953) a + S128x128.size a ≤ S8192x128.size a := fun v1953 k0_hw33 => k0_hw33

def k0_dev95 (v13 : BitVec 32) : Nat :=
  let c0_i32_2597 : BitVec 32 := 0#32
  let c1_i32_2596 : BitVec 32 := 1#32
  let v1995 : BitVec 32 := Scalar.muli v13 c1_i32_2596
  let v1996 : BitVec 32 := Scalar.addi c0_i32_2597 v1995
  v1996.toNat
def k0_dev96 (v8 : BitVec 32) : Nat :=
  let c0_i32_2600 : BitVec 32 := 0#32
  let c1_i32_2599 : BitVec 32 := 1#32
  let v1997 : BitVec 32 := Scalar.muli v8 c1_i32_2599
  let v1998 : BitVec 32 := Scalar.addi c0_i32_2600 v1997
  v1998.toNat
def k0_dev97 (v8 : BitVec 32) : Nat :=
  let c0_i32_2624 : BitVec 32 := 0#32
  let c1_i32_2623 : BitVec 32 := 1#32
  let v2007 : BitVec 32 := Scalar.muli v8 c1_i32_2623
  let v2008 : BitVec 32 := Scalar.addi c0_i32_2624 v2007
  v2008.toNat
def k0_dev98 (v13 : BitVec 32) : Nat :=
  let c0_i32_2648 : BitVec 32 := 0#32
  let c1_i32_2647 : BitVec 32 := 1#32
  let v2025 : BitVec 32 := Scalar.muli v13 c1_i32_2647
  let v2026 : BitVec 32 := Scalar.addi c0_i32_2648 v2025
  v2026.toNat
def k0_dev99 (v8 : BitVec 32) : Nat :=
  let c0_i32_2672 : BitVec 32 := 0#32
  let c1_i32_2671 : BitVec 32 := 1#32
  let v2043 : BitVec 32 := Scalar.muli v8 c1_i32_2671
  let v2044 : BitVec 32 := Scalar.addi c0_i32_2672 v2043
  v2044.toNat
def k0_dev100 (v13 : BitVec 32) : Nat :=
  let c0_i32_2696 : BitVec 32 := 0#32
  let c1_i32_2695 : BitVec 32 := 1#32
  let v2061 : BitVec 32 := Scalar.muli v13 c1_i32_2695
  let v2062 : BitVec 32 := Scalar.addi c0_i32_2696 v2061
  v2062.toNat
def k0_off65 (v4 : BitVec 32) : Fin 1 → Nat :=
  let c32_i32_2701 : BitVec 32 := 32#32
  let v2071 : BitVec 32 := Scalar.addi v4 c32_i32_2701
  let c1_i32_2702 : BitVec 32 := 1#32
  let v2072 : BitVec 32 := Scalar.subi v2071 c1_i32_2702
  let c15_i32 : BitVec 32 := 15#32
  let v2073 : BitVec 32 := Scalar.subi v2072 c15_i32
  let c32_i32_2703 : BitVec 32 := 32#32
  let v2074 : BitVec 32 := Scalar.remsi v2073 c32_i32_2703
  let v2075 : Index := Scalar.indexCast v2074
  ![v2075.toNat]
def k0_off66 (v4 : BitVec 32) : Fin 1 → Nat :=
  let c1_i32_2704 : BitVec 32 := 1#32
  let v2077 : BitVec 32 := Scalar.addi v4 c1_i32_2704
  let c15_i32_2705 : BitVec 32 := 15#32
  let v2078 : BitVec 32 := Scalar.addi v2077 c15_i32_2705
  let c32_i32_2706 : BitVec 32 := 32#32
  let v2079 : BitVec 32 := Scalar.remsi v2078 c32_i32_2706
  let v2080 : Index := Scalar.indexCast v2079
  ![v2080.toNat]
def k0_off67 (v2076 : BitVec 32) : Fin 2 → Nat :=
  let c256_i32_2710 : BitVec 32 := 256#32
  let v2084 : BitVec 32 := Scalar.muli v2076 c256_i32_2710
  let v2088 : Index := Scalar.indexCast v2084
  let c0_2712 : Index := 0#32
  ![v2088.toNat, 0]

def k0_chk34 (v2076 : BitVec 32) : Prop :=
  (∀ a, (k0_off67 v2076) a + S128x128.size a ≤ S8192x128.size a)
theorem k0_off67_inb : ∀ (v2076 : BitVec 32) (k0_hw34 : k0_chk34 v2076), ∀ a, (k0_off67 v2076) a + S128x128.size a ≤ S8192x128.size a := fun v2076 k0_hw34 => k0_hw34

def k0_off68 (v2081 : BitVec 32) : Fin 2 → Nat :=
  let c256_i32_2716 : BitVec 32 := 256#32
  let v2092 : BitVec 32 := Scalar.muli v2081 c256_i32_2716
  let c128_i32_2717 : BitVec 32 := 128#32
  let v2093 : BitVec 32 := Scalar.addi v2092 c128_i32_2717
  let v2097 : Index := Scalar.indexCast v2093
  let c0_2719 : Index := 0#32
  ![v2097.toNat, 0]

def k0_chk35 (v2081 : BitVec 32) : Prop :=
  (∀ a, (k0_off68 v2081) a + S128x128.size a ≤ S8192x128.size a)
theorem k0_off68_inb : ∀ (v2081 : BitVec 32) (k0_hw35 : k0_chk35 v2081), ∀ a, (k0_off68 v2081) a + S128x128.size a ≤ S8192x128.size a := fun v2081 k0_hw35 => k0_hw35

def k0_dev101 (v13 : BitVec 32) : Nat :=
  let c0_i32_2766 : BitVec 32 := 0#32
  let c1_i32_2765 : BitVec 32 := 1#32
  let v2123 : BitVec 32 := Scalar.muli v13 c1_i32_2765
  let v2124 : BitVec 32 := Scalar.addi c0_i32_2766 v2123
  v2124.toNat
def k0_dev102 (v8 : BitVec 32) : Nat :=
  let c0_i32_2769 : BitVec 32 := 0#32
  let c1_i32_2768 : BitVec 32 := 1#32
  let v2125 : BitVec 32 := Scalar.muli v8 c1_i32_2768
  let v2126 : BitVec 32 := Scalar.addi c0_i32_2769 v2125
  v2126.toNat
def k0_dev103 (v8 : BitVec 32) : Nat :=
  let c0_i32_2793 : BitVec 32 := 0#32
  let c1_i32_2792 : BitVec 32 := 1#32
  let v2135 : BitVec 32 := Scalar.muli v8 c1_i32_2792
  let v2136 : BitVec 32 := Scalar.addi c0_i32_2793 v2135
  v2136.toNat
def k0_dev104 (v13 : BitVec 32) : Nat :=
  let c0_i32_2817 : BitVec 32 := 0#32
  let c1_i32_2816 : BitVec 32 := 1#32
  let v2153 : BitVec 32 := Scalar.muli v13 c1_i32_2816
  let v2154 : BitVec 32 := Scalar.addi c0_i32_2817 v2153
  v2154.toNat
def k0_dev105 (v8 : BitVec 32) : Nat :=
  let c0_i32_2841 : BitVec 32 := 0#32
  let c1_i32_2840 : BitVec 32 := 1#32
  let v2171 : BitVec 32 := Scalar.muli v8 c1_i32_2840
  let v2172 : BitVec 32 := Scalar.addi c0_i32_2841 v2171
  v2172.toNat
def k0_dev106 (v13 : BitVec 32) : Nat :=
  let c0_i32_2865 : BitVec 32 := 0#32
  let c1_i32_2864 : BitVec 32 := 1#32
  let v2189 : BitVec 32 := Scalar.muli v13 c1_i32_2864
  let v2190 : BitVec 32 := Scalar.addi c0_i32_2865 v2189
  v2190.toNat
def k0_off69 (v4 : BitVec 32) : Fin 1 → Nat :=
  let c32_i32_2870 : BitVec 32 := 32#32
  let v2199 : BitVec 32 := Scalar.addi v4 c32_i32_2870
  let c1_i32_2871 : BitVec 32 := 1#32
  let v2200 : BitVec 32 := Scalar.subi v2199 c1_i32_2871
  let c16_i32 : BitVec 32 := 16#32
  let v2201 : BitVec 32 := Scalar.subi v2200 c16_i32
  let c32_i32_2872 : BitVec 32 := 32#32
  let v2202 : BitVec 32 := Scalar.remsi v2201 c32_i32_2872
  let v2203 : Index := Scalar.indexCast v2202
  ![v2203.toNat]
def k0_off70 (v4 : BitVec 32) : Fin 1 → Nat :=
  let c1_i32_2873 : BitVec 32 := 1#32
  let v2205 : BitVec 32 := Scalar.addi v4 c1_i32_2873
  let c16_i32_2874 : BitVec 32 := 16#32
  let v2206 : BitVec 32 := Scalar.addi v2205 c16_i32_2874
  let c32_i32_2875 : BitVec 32 := 32#32
  let v2207 : BitVec 32 := Scalar.remsi v2206 c32_i32_2875
  let v2208 : Index := Scalar.indexCast v2207
  ![v2208.toNat]
def k0_off71 (v2204 : BitVec 32) : Fin 2 → Nat :=
  let c256_i32_2879 : BitVec 32 := 256#32
  let v2212 : BitVec 32 := Scalar.muli v2204 c256_i32_2879
  let v2216 : Index := Scalar.indexCast v2212
  let c0_2881 : Index := 0#32
  ![v2216.toNat, 0]

def k0_chk36 (v2204 : BitVec 32) : Prop :=
  (∀ a, (k0_off71 v2204) a + S128x128.size a ≤ S8192x128.size a)
theorem k0_off71_inb : ∀ (v2204 : BitVec 32) (k0_hw36 : k0_chk36 v2204), ∀ a, (k0_off71 v2204) a + S128x128.size a ≤ S8192x128.size a := fun v2204 k0_hw36 => k0_hw36

def k0_off72 (v2209 : BitVec 32) : Fin 2 → Nat :=
  let c256_i32_2885 : BitVec 32 := 256#32
  let v2220 : BitVec 32 := Scalar.muli v2209 c256_i32_2885
  let c128_i32_2886 : BitVec 32 := 128#32
  let v2221 : BitVec 32 := Scalar.addi v2220 c128_i32_2886
  let v2225 : Index := Scalar.indexCast v2221
  let c0_2888 : Index := 0#32
  ![v2225.toNat, 0]

def k0_chk37 (v2209 : BitVec 32) : Prop :=
  (∀ a, (k0_off72 v2209) a + S128x128.size a ≤ S8192x128.size a)
theorem k0_off72_inb : ∀ (v2209 : BitVec 32) (k0_hw37 : k0_chk37 v2209), ∀ a, (k0_off72 v2209) a + S128x128.size a ≤ S8192x128.size a := fun v2209 k0_hw37 => k0_hw37

def k0_dev107 (v13 : BitVec 32) : Nat :=
  let c0_i32_2935 : BitVec 32 := 0#32
  let c1_i32_2934 : BitVec 32 := 1#32
  let v2251 : BitVec 32 := Scalar.muli v13 c1_i32_2934
  let v2252 : BitVec 32 := Scalar.addi c0_i32_2935 v2251
  v2252.toNat
def k0_dev108 (v8 : BitVec 32) : Nat :=
  let c0_i32_2938 : BitVec 32 := 0#32
  let c1_i32_2937 : BitVec 32 := 1#32
  let v2253 : BitVec 32 := Scalar.muli v8 c1_i32_2937
  let v2254 : BitVec 32 := Scalar.addi c0_i32_2938 v2253
  v2254.toNat
def k0_dev109 (v8 : BitVec 32) : Nat :=
  let c0_i32_2962 : BitVec 32 := 0#32
  let c1_i32_2961 : BitVec 32 := 1#32
  let v2263 : BitVec 32 := Scalar.muli v8 c1_i32_2961
  let v2264 : BitVec 32 := Scalar.addi c0_i32_2962 v2263
  v2264.toNat
def k0_dev110 (v13 : BitVec 32) : Nat :=
  let c0_i32_2986 : BitVec 32 := 0#32
  let c1_i32_2985 : BitVec 32 := 1#32
  let v2281 : BitVec 32 := Scalar.muli v13 c1_i32_2985
  let v2282 : BitVec 32 := Scalar.addi c0_i32_2986 v2281
  v2282.toNat
def k0_dev111 (v8 : BitVec 32) : Nat :=
  let c0_i32_3010 : BitVec 32 := 0#32
  let c1_i32_3009 : BitVec 32 := 1#32
  let v2299 : BitVec 32 := Scalar.muli v8 c1_i32_3009
  let v2300 : BitVec 32 := Scalar.addi c0_i32_3010 v2299
  v2300.toNat
def k0_dev112 (v13 : BitVec 32) : Nat :=
  let c0_i32_3034 : BitVec 32 := 0#32
  let c1_i32_3033 : BitVec 32 := 1#32
  let v2317 : BitVec 32 := Scalar.muli v13 c1_i32_3033
  let v2318 : BitVec 32 := Scalar.addi c0_i32_3034 v2317
  v2318.toNat
def k0_off73 (v4 : BitVec 32) : Fin 1 → Nat :=
  let c32_i32_3039 : BitVec 32 := 32#32
  let v2327 : BitVec 32 := Scalar.addi v4 c32_i32_3039
  let c1_i32_3040 : BitVec 32 := 1#32
  let v2328 : BitVec 32 := Scalar.subi v2327 c1_i32_3040
  let c17_i32 : BitVec 32 := 17#32
  let v2329 : BitVec 32 := Scalar.subi v2328 c17_i32
  let c32_i32_3041 : BitVec 32 := 32#32
  let v2330 : BitVec 32 := Scalar.remsi v2329 c32_i32_3041
  let v2331 : Index := Scalar.indexCast v2330
  ![v2331.toNat]
def k0_off74 (v4 : BitVec 32) : Fin 1 → Nat :=
  let c1_i32_3042 : BitVec 32 := 1#32
  let v2333 : BitVec 32 := Scalar.addi v4 c1_i32_3042
  let c17_i32_3043 : BitVec 32 := 17#32
  let v2334 : BitVec 32 := Scalar.addi v2333 c17_i32_3043
  let c32_i32_3044 : BitVec 32 := 32#32
  let v2335 : BitVec 32 := Scalar.remsi v2334 c32_i32_3044
  let v2336 : Index := Scalar.indexCast v2335
  ![v2336.toNat]
def k0_off75 (v2332 : BitVec 32) : Fin 2 → Nat :=
  let c256_i32_3048 : BitVec 32 := 256#32
  let v2340 : BitVec 32 := Scalar.muli v2332 c256_i32_3048
  let v2344 : Index := Scalar.indexCast v2340
  let c0_3050 : Index := 0#32
  ![v2344.toNat, 0]

def k0_chk38 (v2332 : BitVec 32) : Prop :=
  (∀ a, (k0_off75 v2332) a + S128x128.size a ≤ S8192x128.size a)
theorem k0_off75_inb : ∀ (v2332 : BitVec 32) (k0_hw38 : k0_chk38 v2332), ∀ a, (k0_off75 v2332) a + S128x128.size a ≤ S8192x128.size a := fun v2332 k0_hw38 => k0_hw38

def k0_off76 (v2337 : BitVec 32) : Fin 2 → Nat :=
  let c256_i32_3054 : BitVec 32 := 256#32
  let v2348 : BitVec 32 := Scalar.muli v2337 c256_i32_3054
  let c128_i32_3055 : BitVec 32 := 128#32
  let v2349 : BitVec 32 := Scalar.addi v2348 c128_i32_3055
  let v2353 : Index := Scalar.indexCast v2349
  let c0_3057 : Index := 0#32
  ![v2353.toNat, 0]

def k0_chk39 (v2337 : BitVec 32) : Prop :=
  (∀ a, (k0_off76 v2337) a + S128x128.size a ≤ S8192x128.size a)
theorem k0_off76_inb : ∀ (v2337 : BitVec 32) (k0_hw39 : k0_chk39 v2337), ∀ a, (k0_off76 v2337) a + S128x128.size a ≤ S8192x128.size a := fun v2337 k0_hw39 => k0_hw39

def k0_dev113 (v13 : BitVec 32) : Nat :=
  let c0_i32_3104 : BitVec 32 := 0#32
  let c1_i32_3103 : BitVec 32 := 1#32
  let v2379 : BitVec 32 := Scalar.muli v13 c1_i32_3103
  let v2380 : BitVec 32 := Scalar.addi c0_i32_3104 v2379
  v2380.toNat
def k0_dev114 (v8 : BitVec 32) : Nat :=
  let c0_i32_3107 : BitVec 32 := 0#32
  let c1_i32_3106 : BitVec 32 := 1#32
  let v2381 : BitVec 32 := Scalar.muli v8 c1_i32_3106
  let v2382 : BitVec 32 := Scalar.addi c0_i32_3107 v2381
  v2382.toNat
def k0_dev115 (v8 : BitVec 32) : Nat :=
  let c0_i32_3131 : BitVec 32 := 0#32
  let c1_i32_3130 : BitVec 32 := 1#32
  let v2391 : BitVec 32 := Scalar.muli v8 c1_i32_3130
  let v2392 : BitVec 32 := Scalar.addi c0_i32_3131 v2391
  v2392.toNat
def k0_dev116 (v13 : BitVec 32) : Nat :=
  let c0_i32_3155 : BitVec 32 := 0#32
  let c1_i32_3154 : BitVec 32 := 1#32
  let v2409 : BitVec 32 := Scalar.muli v13 c1_i32_3154
  let v2410 : BitVec 32 := Scalar.addi c0_i32_3155 v2409
  v2410.toNat
def k0_dev117 (v8 : BitVec 32) : Nat :=
  let c0_i32_3179 : BitVec 32 := 0#32
  let c1_i32_3178 : BitVec 32 := 1#32
  let v2427 : BitVec 32 := Scalar.muli v8 c1_i32_3178
  let v2428 : BitVec 32 := Scalar.addi c0_i32_3179 v2427
  v2428.toNat
def k0_dev118 (v13 : BitVec 32) : Nat :=
  let c0_i32_3203 : BitVec 32 := 0#32
  let c1_i32_3202 : BitVec 32 := 1#32
  let v2445 : BitVec 32 := Scalar.muli v13 c1_i32_3202
  let v2446 : BitVec 32 := Scalar.addi c0_i32_3203 v2445
  v2446.toNat
def k0_off77 (v4 : BitVec 32) : Fin 1 → Nat :=
  let c32_i32_3208 : BitVec 32 := 32#32
  let v2455 : BitVec 32 := Scalar.addi v4 c32_i32_3208
  let c1_i32_3209 : BitVec 32 := 1#32
  let v2456 : BitVec 32 := Scalar.subi v2455 c1_i32_3209
  let c18_i32 : BitVec 32 := 18#32
  let v2457 : BitVec 32 := Scalar.subi v2456 c18_i32
  let c32_i32_3210 : BitVec 32 := 32#32
  let v2458 : BitVec 32 := Scalar.remsi v2457 c32_i32_3210
  let v2459 : Index := Scalar.indexCast v2458
  ![v2459.toNat]
def k0_off78 (v4 : BitVec 32) : Fin 1 → Nat :=
  let c1_i32_3211 : BitVec 32 := 1#32
  let v2461 : BitVec 32 := Scalar.addi v4 c1_i32_3211
  let c18_i32_3212 : BitVec 32 := 18#32
  let v2462 : BitVec 32 := Scalar.addi v2461 c18_i32_3212
  let c32_i32_3213 : BitVec 32 := 32#32
  let v2463 : BitVec 32 := Scalar.remsi v2462 c32_i32_3213
  let v2464 : Index := Scalar.indexCast v2463
  ![v2464.toNat]
def k0_off79 (v2460 : BitVec 32) : Fin 2 → Nat :=
  let c256_i32_3217 : BitVec 32 := 256#32
  let v2468 : BitVec 32 := Scalar.muli v2460 c256_i32_3217
  let v2472 : Index := Scalar.indexCast v2468
  let c0_3219 : Index := 0#32
  ![v2472.toNat, 0]

def k0_chk40 (v2460 : BitVec 32) : Prop :=
  (∀ a, (k0_off79 v2460) a + S128x128.size a ≤ S8192x128.size a)
theorem k0_off79_inb : ∀ (v2460 : BitVec 32) (k0_hw40 : k0_chk40 v2460), ∀ a, (k0_off79 v2460) a + S128x128.size a ≤ S8192x128.size a := fun v2460 k0_hw40 => k0_hw40

def k0_off80 (v2465 : BitVec 32) : Fin 2 → Nat :=
  let c256_i32_3223 : BitVec 32 := 256#32
  let v2476 : BitVec 32 := Scalar.muli v2465 c256_i32_3223
  let c128_i32_3224 : BitVec 32 := 128#32
  let v2477 : BitVec 32 := Scalar.addi v2476 c128_i32_3224
  let v2481 : Index := Scalar.indexCast v2477
  let c0_3226 : Index := 0#32
  ![v2481.toNat, 0]

def k0_chk41 (v2465 : BitVec 32) : Prop :=
  (∀ a, (k0_off80 v2465) a + S128x128.size a ≤ S8192x128.size a)
theorem k0_off80_inb : ∀ (v2465 : BitVec 32) (k0_hw41 : k0_chk41 v2465), ∀ a, (k0_off80 v2465) a + S128x128.size a ≤ S8192x128.size a := fun v2465 k0_hw41 => k0_hw41

def k0_dev119 (v13 : BitVec 32) : Nat :=
  let c0_i32_3273 : BitVec 32 := 0#32
  let c1_i32_3272 : BitVec 32 := 1#32
  let v2507 : BitVec 32 := Scalar.muli v13 c1_i32_3272
  let v2508 : BitVec 32 := Scalar.addi c0_i32_3273 v2507
  v2508.toNat
def k0_dev120 (v8 : BitVec 32) : Nat :=
  let c0_i32_3276 : BitVec 32 := 0#32
  let c1_i32_3275 : BitVec 32 := 1#32
  let v2509 : BitVec 32 := Scalar.muli v8 c1_i32_3275
  let v2510 : BitVec 32 := Scalar.addi c0_i32_3276 v2509
  v2510.toNat
def k0_dev121 (v8 : BitVec 32) : Nat :=
  let c0_i32_3300 : BitVec 32 := 0#32
  let c1_i32_3299 : BitVec 32 := 1#32
  let v2519 : BitVec 32 := Scalar.muli v8 c1_i32_3299
  let v2520 : BitVec 32 := Scalar.addi c0_i32_3300 v2519
  v2520.toNat
def k0_dev122 (v13 : BitVec 32) : Nat :=
  let c0_i32_3324 : BitVec 32 := 0#32
  let c1_i32_3323 : BitVec 32 := 1#32
  let v2537 : BitVec 32 := Scalar.muli v13 c1_i32_3323
  let v2538 : BitVec 32 := Scalar.addi c0_i32_3324 v2537
  v2538.toNat
def k0_dev123 (v8 : BitVec 32) : Nat :=
  let c0_i32_3348 : BitVec 32 := 0#32
  let c1_i32_3347 : BitVec 32 := 1#32
  let v2555 : BitVec 32 := Scalar.muli v8 c1_i32_3347
  let v2556 : BitVec 32 := Scalar.addi c0_i32_3348 v2555
  v2556.toNat
def k0_dev124 (v13 : BitVec 32) : Nat :=
  let c0_i32_3372 : BitVec 32 := 0#32
  let c1_i32_3371 : BitVec 32 := 1#32
  let v2573 : BitVec 32 := Scalar.muli v13 c1_i32_3371
  let v2574 : BitVec 32 := Scalar.addi c0_i32_3372 v2573
  v2574.toNat
def k0_off81 (v4 : BitVec 32) : Fin 1 → Nat :=
  let c32_i32_3377 : BitVec 32 := 32#32
  let v2583 : BitVec 32 := Scalar.addi v4 c32_i32_3377
  let c1_i32_3378 : BitVec 32 := 1#32
  let v2584 : BitVec 32 := Scalar.subi v2583 c1_i32_3378
  let c19_i32 : BitVec 32 := 19#32
  let v2585 : BitVec 32 := Scalar.subi v2584 c19_i32
  let c32_i32_3379 : BitVec 32 := 32#32
  let v2586 : BitVec 32 := Scalar.remsi v2585 c32_i32_3379
  let v2587 : Index := Scalar.indexCast v2586
  ![v2587.toNat]
def k0_off82 (v4 : BitVec 32) : Fin 1 → Nat :=
  let c1_i32_3380 : BitVec 32 := 1#32
  let v2589 : BitVec 32 := Scalar.addi v4 c1_i32_3380
  let c19_i32_3381 : BitVec 32 := 19#32
  let v2590 : BitVec 32 := Scalar.addi v2589 c19_i32_3381
  let c32_i32_3382 : BitVec 32 := 32#32
  let v2591 : BitVec 32 := Scalar.remsi v2590 c32_i32_3382
  let v2592 : Index := Scalar.indexCast v2591
  ![v2592.toNat]
def k0_off83 (v2588 : BitVec 32) : Fin 2 → Nat :=
  let c256_i32_3386 : BitVec 32 := 256#32
  let v2596 : BitVec 32 := Scalar.muli v2588 c256_i32_3386
  let v2600 : Index := Scalar.indexCast v2596
  let c0_3388 : Index := 0#32
  ![v2600.toNat, 0]

def k0_chk42 (v2588 : BitVec 32) : Prop :=
  (∀ a, (k0_off83 v2588) a + S128x128.size a ≤ S8192x128.size a)
theorem k0_off83_inb : ∀ (v2588 : BitVec 32) (k0_hw42 : k0_chk42 v2588), ∀ a, (k0_off83 v2588) a + S128x128.size a ≤ S8192x128.size a := fun v2588 k0_hw42 => k0_hw42

def k0_off84 (v2593 : BitVec 32) : Fin 2 → Nat :=
  let c256_i32_3392 : BitVec 32 := 256#32
  let v2604 : BitVec 32 := Scalar.muli v2593 c256_i32_3392
  let c128_i32_3393 : BitVec 32 := 128#32
  let v2605 : BitVec 32 := Scalar.addi v2604 c128_i32_3393
  let v2609 : Index := Scalar.indexCast v2605
  let c0_3395 : Index := 0#32
  ![v2609.toNat, 0]

def k0_chk43 (v2593 : BitVec 32) : Prop :=
  (∀ a, (k0_off84 v2593) a + S128x128.size a ≤ S8192x128.size a)
theorem k0_off84_inb : ∀ (v2593 : BitVec 32) (k0_hw43 : k0_chk43 v2593), ∀ a, (k0_off84 v2593) a + S128x128.size a ≤ S8192x128.size a := fun v2593 k0_hw43 => k0_hw43

def k0_dev125 (v13 : BitVec 32) : Nat :=
  let c0_i32_3442 : BitVec 32 := 0#32
  let c1_i32_3441 : BitVec 32 := 1#32
  let v2635 : BitVec 32 := Scalar.muli v13 c1_i32_3441
  let v2636 : BitVec 32 := Scalar.addi c0_i32_3442 v2635
  v2636.toNat
def k0_dev126 (v8 : BitVec 32) : Nat :=
  let c0_i32_3445 : BitVec 32 := 0#32
  let c1_i32_3444 : BitVec 32 := 1#32
  let v2637 : BitVec 32 := Scalar.muli v8 c1_i32_3444
  let v2638 : BitVec 32 := Scalar.addi c0_i32_3445 v2637
  v2638.toNat
def k0_dev127 (v8 : BitVec 32) : Nat :=
  let c0_i32_3469 : BitVec 32 := 0#32
  let c1_i32_3468 : BitVec 32 := 1#32
  let v2647 : BitVec 32 := Scalar.muli v8 c1_i32_3468
  let v2648 : BitVec 32 := Scalar.addi c0_i32_3469 v2647
  v2648.toNat
def k0_dev128 (v13 : BitVec 32) : Nat :=
  let c0_i32_3493 : BitVec 32 := 0#32
  let c1_i32_3492 : BitVec 32 := 1#32
  let v2665 : BitVec 32 := Scalar.muli v13 c1_i32_3492
  let v2666 : BitVec 32 := Scalar.addi c0_i32_3493 v2665
  v2666.toNat
def k0_dev129 (v8 : BitVec 32) : Nat :=
  let c0_i32_3517 : BitVec 32 := 0#32
  let c1_i32_3516 : BitVec 32 := 1#32
  let v2683 : BitVec 32 := Scalar.muli v8 c1_i32_3516
  let v2684 : BitVec 32 := Scalar.addi c0_i32_3517 v2683
  v2684.toNat
def k0_dev130 (v13 : BitVec 32) : Nat :=
  let c0_i32_3541 : BitVec 32 := 0#32
  let c1_i32_3540 : BitVec 32 := 1#32
  let v2701 : BitVec 32 := Scalar.muli v13 c1_i32_3540
  let v2702 : BitVec 32 := Scalar.addi c0_i32_3541 v2701
  v2702.toNat
def k0_off85 (v4 : BitVec 32) : Fin 1 → Nat :=
  let c32_i32_3546 : BitVec 32 := 32#32
  let v2711 : BitVec 32 := Scalar.addi v4 c32_i32_3546
  let c1_i32_3547 : BitVec 32 := 1#32
  let v2712 : BitVec 32 := Scalar.subi v2711 c1_i32_3547
  let c20_i32 : BitVec 32 := 20#32
  let v2713 : BitVec 32 := Scalar.subi v2712 c20_i32
  let c32_i32_3548 : BitVec 32 := 32#32
  let v2714 : BitVec 32 := Scalar.remsi v2713 c32_i32_3548
  let v2715 : Index := Scalar.indexCast v2714
  ![v2715.toNat]
def k0_off86 (v4 : BitVec 32) : Fin 1 → Nat :=
  let c1_i32_3549 : BitVec 32 := 1#32
  let v2717 : BitVec 32 := Scalar.addi v4 c1_i32_3549
  let c20_i32_3550 : BitVec 32 := 20#32
  let v2718 : BitVec 32 := Scalar.addi v2717 c20_i32_3550
  let c32_i32_3551 : BitVec 32 := 32#32
  let v2719 : BitVec 32 := Scalar.remsi v2718 c32_i32_3551
  let v2720 : Index := Scalar.indexCast v2719
  ![v2720.toNat]
def k0_off87 (v2716 : BitVec 32) : Fin 2 → Nat :=
  let c256_i32_3555 : BitVec 32 := 256#32
  let v2724 : BitVec 32 := Scalar.muli v2716 c256_i32_3555
  let v2728 : Index := Scalar.indexCast v2724
  let c0_3557 : Index := 0#32
  ![v2728.toNat, 0]

def k0_chk44 (v2716 : BitVec 32) : Prop :=
  (∀ a, (k0_off87 v2716) a + S128x128.size a ≤ S8192x128.size a)
theorem k0_off87_inb : ∀ (v2716 : BitVec 32) (k0_hw44 : k0_chk44 v2716), ∀ a, (k0_off87 v2716) a + S128x128.size a ≤ S8192x128.size a := fun v2716 k0_hw44 => k0_hw44

def k0_off88 (v2721 : BitVec 32) : Fin 2 → Nat :=
  let c256_i32_3561 : BitVec 32 := 256#32
  let v2732 : BitVec 32 := Scalar.muli v2721 c256_i32_3561
  let c128_i32_3562 : BitVec 32 := 128#32
  let v2733 : BitVec 32 := Scalar.addi v2732 c128_i32_3562
  let v2737 : Index := Scalar.indexCast v2733
  let c0_3564 : Index := 0#32
  ![v2737.toNat, 0]

def k0_chk45 (v2721 : BitVec 32) : Prop :=
  (∀ a, (k0_off88 v2721) a + S128x128.size a ≤ S8192x128.size a)
theorem k0_off88_inb : ∀ (v2721 : BitVec 32) (k0_hw45 : k0_chk45 v2721), ∀ a, (k0_off88 v2721) a + S128x128.size a ≤ S8192x128.size a := fun v2721 k0_hw45 => k0_hw45

def k0_dev131 (v13 : BitVec 32) : Nat :=
  let c0_i32_3611 : BitVec 32 := 0#32
  let c1_i32_3610 : BitVec 32 := 1#32
  let v2763 : BitVec 32 := Scalar.muli v13 c1_i32_3610
  let v2764 : BitVec 32 := Scalar.addi c0_i32_3611 v2763
  v2764.toNat
def k0_dev132 (v8 : BitVec 32) : Nat :=
  let c0_i32_3614 : BitVec 32 := 0#32
  let c1_i32_3613 : BitVec 32 := 1#32
  let v2765 : BitVec 32 := Scalar.muli v8 c1_i32_3613
  let v2766 : BitVec 32 := Scalar.addi c0_i32_3614 v2765
  v2766.toNat
def k0_dev133 (v8 : BitVec 32) : Nat :=
  let c0_i32_3638 : BitVec 32 := 0#32
  let c1_i32_3637 : BitVec 32 := 1#32
  let v2775 : BitVec 32 := Scalar.muli v8 c1_i32_3637
  let v2776 : BitVec 32 := Scalar.addi c0_i32_3638 v2775
  v2776.toNat
def k0_dev134 (v13 : BitVec 32) : Nat :=
  let c0_i32_3662 : BitVec 32 := 0#32
  let c1_i32_3661 : BitVec 32 := 1#32
  let v2793 : BitVec 32 := Scalar.muli v13 c1_i32_3661
  let v2794 : BitVec 32 := Scalar.addi c0_i32_3662 v2793
  v2794.toNat
def k0_dev135 (v8 : BitVec 32) : Nat :=
  let c0_i32_3686 : BitVec 32 := 0#32
  let c1_i32_3685 : BitVec 32 := 1#32
  let v2811 : BitVec 32 := Scalar.muli v8 c1_i32_3685
  let v2812 : BitVec 32 := Scalar.addi c0_i32_3686 v2811
  v2812.toNat
def k0_dev136 (v13 : BitVec 32) : Nat :=
  let c0_i32_3710 : BitVec 32 := 0#32
  let c1_i32_3709 : BitVec 32 := 1#32
  let v2829 : BitVec 32 := Scalar.muli v13 c1_i32_3709
  let v2830 : BitVec 32 := Scalar.addi c0_i32_3710 v2829
  v2830.toNat
def k0_off89 (v4 : BitVec 32) : Fin 1 → Nat :=
  let c32_i32_3715 : BitVec 32 := 32#32
  let v2839 : BitVec 32 := Scalar.addi v4 c32_i32_3715
  let c1_i32_3716 : BitVec 32 := 1#32
  let v2840 : BitVec 32 := Scalar.subi v2839 c1_i32_3716
  let c21_i32 : BitVec 32 := 21#32
  let v2841 : BitVec 32 := Scalar.subi v2840 c21_i32
  let c32_i32_3717 : BitVec 32 := 32#32
  let v2842 : BitVec 32 := Scalar.remsi v2841 c32_i32_3717
  let v2843 : Index := Scalar.indexCast v2842
  ![v2843.toNat]
def k0_off90 (v4 : BitVec 32) : Fin 1 → Nat :=
  let c1_i32_3718 : BitVec 32 := 1#32
  let v2845 : BitVec 32 := Scalar.addi v4 c1_i32_3718
  let c21_i32_3719 : BitVec 32 := 21#32
  let v2846 : BitVec 32 := Scalar.addi v2845 c21_i32_3719
  let c32_i32_3720 : BitVec 32 := 32#32
  let v2847 : BitVec 32 := Scalar.remsi v2846 c32_i32_3720
  let v2848 : Index := Scalar.indexCast v2847
  ![v2848.toNat]
def k0_off91 (v2844 : BitVec 32) : Fin 2 → Nat :=
  let c256_i32_3724 : BitVec 32 := 256#32
  let v2852 : BitVec 32 := Scalar.muli v2844 c256_i32_3724
  let v2856 : Index := Scalar.indexCast v2852
  let c0_3726 : Index := 0#32
  ![v2856.toNat, 0]

def k0_chk46 (v2844 : BitVec 32) : Prop :=
  (∀ a, (k0_off91 v2844) a + S128x128.size a ≤ S8192x128.size a)
theorem k0_off91_inb : ∀ (v2844 : BitVec 32) (k0_hw46 : k0_chk46 v2844), ∀ a, (k0_off91 v2844) a + S128x128.size a ≤ S8192x128.size a := fun v2844 k0_hw46 => k0_hw46

def k0_off92 (v2849 : BitVec 32) : Fin 2 → Nat :=
  let c256_i32_3730 : BitVec 32 := 256#32
  let v2860 : BitVec 32 := Scalar.muli v2849 c256_i32_3730
  let c128_i32_3731 : BitVec 32 := 128#32
  let v2861 : BitVec 32 := Scalar.addi v2860 c128_i32_3731
  let v2865 : Index := Scalar.indexCast v2861
  let c0_3733 : Index := 0#32
  ![v2865.toNat, 0]

def k0_chk47 (v2849 : BitVec 32) : Prop :=
  (∀ a, (k0_off92 v2849) a + S128x128.size a ≤ S8192x128.size a)
theorem k0_off92_inb : ∀ (v2849 : BitVec 32) (k0_hw47 : k0_chk47 v2849), ∀ a, (k0_off92 v2849) a + S128x128.size a ≤ S8192x128.size a := fun v2849 k0_hw47 => k0_hw47

def k0_dev137 (v13 : BitVec 32) : Nat :=
  let c0_i32_3780 : BitVec 32 := 0#32
  let c1_i32_3779 : BitVec 32 := 1#32
  let v2891 : BitVec 32 := Scalar.muli v13 c1_i32_3779
  let v2892 : BitVec 32 := Scalar.addi c0_i32_3780 v2891
  v2892.toNat
def k0_dev138 (v8 : BitVec 32) : Nat :=
  let c0_i32_3783 : BitVec 32 := 0#32
  let c1_i32_3782 : BitVec 32 := 1#32
  let v2893 : BitVec 32 := Scalar.muli v8 c1_i32_3782
  let v2894 : BitVec 32 := Scalar.addi c0_i32_3783 v2893
  v2894.toNat
def k0_dev139 (v8 : BitVec 32) : Nat :=
  let c0_i32_3807 : BitVec 32 := 0#32
  let c1_i32_3806 : BitVec 32 := 1#32
  let v2903 : BitVec 32 := Scalar.muli v8 c1_i32_3806
  let v2904 : BitVec 32 := Scalar.addi c0_i32_3807 v2903
  v2904.toNat
def k0_dev140 (v13 : BitVec 32) : Nat :=
  let c0_i32_3831 : BitVec 32 := 0#32
  let c1_i32_3830 : BitVec 32 := 1#32
  let v2921 : BitVec 32 := Scalar.muli v13 c1_i32_3830
  let v2922 : BitVec 32 := Scalar.addi c0_i32_3831 v2921
  v2922.toNat
def k0_dev141 (v8 : BitVec 32) : Nat :=
  let c0_i32_3855 : BitVec 32 := 0#32
  let c1_i32_3854 : BitVec 32 := 1#32
  let v2939 : BitVec 32 := Scalar.muli v8 c1_i32_3854
  let v2940 : BitVec 32 := Scalar.addi c0_i32_3855 v2939
  v2940.toNat
def k0_dev142 (v13 : BitVec 32) : Nat :=
  let c0_i32_3879 : BitVec 32 := 0#32
  let c1_i32_3878 : BitVec 32 := 1#32
  let v2957 : BitVec 32 := Scalar.muli v13 c1_i32_3878
  let v2958 : BitVec 32 := Scalar.addi c0_i32_3879 v2957
  v2958.toNat
def k0_off93 (v4 : BitVec 32) : Fin 1 → Nat :=
  let c32_i32_3884 : BitVec 32 := 32#32
  let v2967 : BitVec 32 := Scalar.addi v4 c32_i32_3884
  let c1_i32_3885 : BitVec 32 := 1#32
  let v2968 : BitVec 32 := Scalar.subi v2967 c1_i32_3885
  let c22_i32 : BitVec 32 := 22#32
  let v2969 : BitVec 32 := Scalar.subi v2968 c22_i32
  let c32_i32_3886 : BitVec 32 := 32#32
  let v2970 : BitVec 32 := Scalar.remsi v2969 c32_i32_3886
  let v2971 : Index := Scalar.indexCast v2970
  ![v2971.toNat]
def k0_off94 (v4 : BitVec 32) : Fin 1 → Nat :=
  let c1_i32_3887 : BitVec 32 := 1#32
  let v2973 : BitVec 32 := Scalar.addi v4 c1_i32_3887
  let c22_i32_3888 : BitVec 32 := 22#32
  let v2974 : BitVec 32 := Scalar.addi v2973 c22_i32_3888
  let c32_i32_3889 : BitVec 32 := 32#32
  let v2975 : BitVec 32 := Scalar.remsi v2974 c32_i32_3889
  let v2976 : Index := Scalar.indexCast v2975
  ![v2976.toNat]
def k0_off95 (v2972 : BitVec 32) : Fin 2 → Nat :=
  let c256_i32_3893 : BitVec 32 := 256#32
  let v2980 : BitVec 32 := Scalar.muli v2972 c256_i32_3893
  let v2984 : Index := Scalar.indexCast v2980
  let c0_3895 : Index := 0#32
  ![v2984.toNat, 0]

def k0_chk48 (v2972 : BitVec 32) : Prop :=
  (∀ a, (k0_off95 v2972) a + S128x128.size a ≤ S8192x128.size a)
theorem k0_off95_inb : ∀ (v2972 : BitVec 32) (k0_hw48 : k0_chk48 v2972), ∀ a, (k0_off95 v2972) a + S128x128.size a ≤ S8192x128.size a := fun v2972 k0_hw48 => k0_hw48

def k0_off96 (v2977 : BitVec 32) : Fin 2 → Nat :=
  let c256_i32_3899 : BitVec 32 := 256#32
  let v2988 : BitVec 32 := Scalar.muli v2977 c256_i32_3899
  let c128_i32_3900 : BitVec 32 := 128#32
  let v2989 : BitVec 32 := Scalar.addi v2988 c128_i32_3900
  let v2993 : Index := Scalar.indexCast v2989
  let c0_3902 : Index := 0#32
  ![v2993.toNat, 0]

def k0_chk49 (v2977 : BitVec 32) : Prop :=
  (∀ a, (k0_off96 v2977) a + S128x128.size a ≤ S8192x128.size a)
theorem k0_off96_inb : ∀ (v2977 : BitVec 32) (k0_hw49 : k0_chk49 v2977), ∀ a, (k0_off96 v2977) a + S128x128.size a ≤ S8192x128.size a := fun v2977 k0_hw49 => k0_hw49

def k0_dev143 (v13 : BitVec 32) : Nat :=
  let c0_i32_3949 : BitVec 32 := 0#32
  let c1_i32_3948 : BitVec 32 := 1#32
  let v3019 : BitVec 32 := Scalar.muli v13 c1_i32_3948
  let v3020 : BitVec 32 := Scalar.addi c0_i32_3949 v3019
  v3020.toNat
def k0_dev144 (v8 : BitVec 32) : Nat :=
  let c0_i32_3952 : BitVec 32 := 0#32
  let c1_i32_3951 : BitVec 32 := 1#32
  let v3021 : BitVec 32 := Scalar.muli v8 c1_i32_3951
  let v3022 : BitVec 32 := Scalar.addi c0_i32_3952 v3021
  v3022.toNat
def k0_dev145 (v8 : BitVec 32) : Nat :=
  let c0_i32_3976 : BitVec 32 := 0#32
  let c1_i32_3975 : BitVec 32 := 1#32
  let v3031 : BitVec 32 := Scalar.muli v8 c1_i32_3975
  let v3032 : BitVec 32 := Scalar.addi c0_i32_3976 v3031
  v3032.toNat
def k0_dev146 (v13 : BitVec 32) : Nat :=
  let c0_i32_4000 : BitVec 32 := 0#32
  let c1_i32_3999 : BitVec 32 := 1#32
  let v3049 : BitVec 32 := Scalar.muli v13 c1_i32_3999
  let v3050 : BitVec 32 := Scalar.addi c0_i32_4000 v3049
  v3050.toNat
def k0_dev147 (v8 : BitVec 32) : Nat :=
  let c0_i32_4024 : BitVec 32 := 0#32
  let c1_i32_4023 : BitVec 32 := 1#32
  let v3067 : BitVec 32 := Scalar.muli v8 c1_i32_4023
  let v3068 : BitVec 32 := Scalar.addi c0_i32_4024 v3067
  v3068.toNat
def k0_dev148 (v13 : BitVec 32) : Nat :=
  let c0_i32_4048 : BitVec 32 := 0#32
  let c1_i32_4047 : BitVec 32 := 1#32
  let v3085 : BitVec 32 := Scalar.muli v13 c1_i32_4047
  let v3086 : BitVec 32 := Scalar.addi c0_i32_4048 v3085
  v3086.toNat
def k0_off97 (v4 : BitVec 32) : Fin 1 → Nat :=
  let c32_i32_4053 : BitVec 32 := 32#32
  let v3095 : BitVec 32 := Scalar.addi v4 c32_i32_4053
  let c1_i32_4054 : BitVec 32 := 1#32
  let v3096 : BitVec 32 := Scalar.subi v3095 c1_i32_4054
  let c23_i32 : BitVec 32 := 23#32
  let v3097 : BitVec 32 := Scalar.subi v3096 c23_i32
  let c32_i32_4055 : BitVec 32 := 32#32
  let v3098 : BitVec 32 := Scalar.remsi v3097 c32_i32_4055
  let v3099 : Index := Scalar.indexCast v3098
  ![v3099.toNat]
def k0_off98 (v4 : BitVec 32) : Fin 1 → Nat :=
  let c1_i32_4056 : BitVec 32 := 1#32
  let v3101 : BitVec 32 := Scalar.addi v4 c1_i32_4056
  let c23_i32_4057 : BitVec 32 := 23#32
  let v3102 : BitVec 32 := Scalar.addi v3101 c23_i32_4057
  let c32_i32_4058 : BitVec 32 := 32#32
  let v3103 : BitVec 32 := Scalar.remsi v3102 c32_i32_4058
  let v3104 : Index := Scalar.indexCast v3103
  ![v3104.toNat]
def k0_off99 (v3100 : BitVec 32) : Fin 2 → Nat :=
  let c256_i32_4062 : BitVec 32 := 256#32
  let v3108 : BitVec 32 := Scalar.muli v3100 c256_i32_4062
  let v3112 : Index := Scalar.indexCast v3108
  let c0_4064 : Index := 0#32
  ![v3112.toNat, 0]

def k0_chk50 (v3100 : BitVec 32) : Prop :=
  (∀ a, (k0_off99 v3100) a + S128x128.size a ≤ S8192x128.size a)
theorem k0_off99_inb : ∀ (v3100 : BitVec 32) (k0_hw50 : k0_chk50 v3100), ∀ a, (k0_off99 v3100) a + S128x128.size a ≤ S8192x128.size a := fun v3100 k0_hw50 => k0_hw50

def k0_off100 (v3105 : BitVec 32) : Fin 2 → Nat :=
  let c256_i32_4068 : BitVec 32 := 256#32
  let v3116 : BitVec 32 := Scalar.muli v3105 c256_i32_4068
  let c128_i32_4069 : BitVec 32 := 128#32
  let v3117 : BitVec 32 := Scalar.addi v3116 c128_i32_4069
  let v3121 : Index := Scalar.indexCast v3117
  let c0_4071 : Index := 0#32
  ![v3121.toNat, 0]

def k0_chk51 (v3105 : BitVec 32) : Prop :=
  (∀ a, (k0_off100 v3105) a + S128x128.size a ≤ S8192x128.size a)
theorem k0_off100_inb : ∀ (v3105 : BitVec 32) (k0_hw51 : k0_chk51 v3105), ∀ a, (k0_off100 v3105) a + S128x128.size a ≤ S8192x128.size a := fun v3105 k0_hw51 => k0_hw51

def k0_dev149 (v13 : BitVec 32) : Nat :=
  let c0_i32_4118 : BitVec 32 := 0#32
  let c1_i32_4117 : BitVec 32 := 1#32
  let v3147 : BitVec 32 := Scalar.muli v13 c1_i32_4117
  let v3148 : BitVec 32 := Scalar.addi c0_i32_4118 v3147
  v3148.toNat
def k0_dev150 (v8 : BitVec 32) : Nat :=
  let c0_i32_4121 : BitVec 32 := 0#32
  let c1_i32_4120 : BitVec 32 := 1#32
  let v3149 : BitVec 32 := Scalar.muli v8 c1_i32_4120
  let v3150 : BitVec 32 := Scalar.addi c0_i32_4121 v3149
  v3150.toNat
def k0_dev151 (v8 : BitVec 32) : Nat :=
  let c0_i32_4145 : BitVec 32 := 0#32
  let c1_i32_4144 : BitVec 32 := 1#32
  let v3159 : BitVec 32 := Scalar.muli v8 c1_i32_4144
  let v3160 : BitVec 32 := Scalar.addi c0_i32_4145 v3159
  v3160.toNat
def k0_dev152 (v13 : BitVec 32) : Nat :=
  let c0_i32_4169 : BitVec 32 := 0#32
  let c1_i32_4168 : BitVec 32 := 1#32
  let v3177 : BitVec 32 := Scalar.muli v13 c1_i32_4168
  let v3178 : BitVec 32 := Scalar.addi c0_i32_4169 v3177
  v3178.toNat
def k0_dev153 (v8 : BitVec 32) : Nat :=
  let c0_i32_4193 : BitVec 32 := 0#32
  let c1_i32_4192 : BitVec 32 := 1#32
  let v3195 : BitVec 32 := Scalar.muli v8 c1_i32_4192
  let v3196 : BitVec 32 := Scalar.addi c0_i32_4193 v3195
  v3196.toNat
def k0_dev154 (v13 : BitVec 32) : Nat :=
  let c0_i32_4217 : BitVec 32 := 0#32
  let c1_i32_4216 : BitVec 32 := 1#32
  let v3213 : BitVec 32 := Scalar.muli v13 c1_i32_4216
  let v3214 : BitVec 32 := Scalar.addi c0_i32_4217 v3213
  v3214.toNat
def k0_off101 (v4 : BitVec 32) : Fin 1 → Nat :=
  let c32_i32_4222 : BitVec 32 := 32#32
  let v3223 : BitVec 32 := Scalar.addi v4 c32_i32_4222
  let c1_i32_4223 : BitVec 32 := 1#32
  let v3224 : BitVec 32 := Scalar.subi v3223 c1_i32_4223
  let c24_i32 : BitVec 32 := 24#32
  let v3225 : BitVec 32 := Scalar.subi v3224 c24_i32
  let c32_i32_4224 : BitVec 32 := 32#32
  let v3226 : BitVec 32 := Scalar.remsi v3225 c32_i32_4224
  let v3227 : Index := Scalar.indexCast v3226
  ![v3227.toNat]
def k0_off102 (v4 : BitVec 32) : Fin 1 → Nat :=
  let c1_i32_4225 : BitVec 32 := 1#32
  let v3229 : BitVec 32 := Scalar.addi v4 c1_i32_4225
  let c24_i32_4226 : BitVec 32 := 24#32
  let v3230 : BitVec 32 := Scalar.addi v3229 c24_i32_4226
  let c32_i32_4227 : BitVec 32 := 32#32
  let v3231 : BitVec 32 := Scalar.remsi v3230 c32_i32_4227
  let v3232 : Index := Scalar.indexCast v3231
  ![v3232.toNat]
def k0_off103 (v3228 : BitVec 32) : Fin 2 → Nat :=
  let c256_i32_4231 : BitVec 32 := 256#32
  let v3236 : BitVec 32 := Scalar.muli v3228 c256_i32_4231
  let v3240 : Index := Scalar.indexCast v3236
  let c0_4233 : Index := 0#32
  ![v3240.toNat, 0]

def k0_chk52 (v3228 : BitVec 32) : Prop :=
  (∀ a, (k0_off103 v3228) a + S128x128.size a ≤ S8192x128.size a)
theorem k0_off103_inb : ∀ (v3228 : BitVec 32) (k0_hw52 : k0_chk52 v3228), ∀ a, (k0_off103 v3228) a + S128x128.size a ≤ S8192x128.size a := fun v3228 k0_hw52 => k0_hw52

def k0_off104 (v3233 : BitVec 32) : Fin 2 → Nat :=
  let c256_i32_4237 : BitVec 32 := 256#32
  let v3244 : BitVec 32 := Scalar.muli v3233 c256_i32_4237
  let c128_i32_4238 : BitVec 32 := 128#32
  let v3245 : BitVec 32 := Scalar.addi v3244 c128_i32_4238
  let v3249 : Index := Scalar.indexCast v3245
  let c0_4240 : Index := 0#32
  ![v3249.toNat, 0]

def k0_chk53 (v3233 : BitVec 32) : Prop :=
  (∀ a, (k0_off104 v3233) a + S128x128.size a ≤ S8192x128.size a)
theorem k0_off104_inb : ∀ (v3233 : BitVec 32) (k0_hw53 : k0_chk53 v3233), ∀ a, (k0_off104 v3233) a + S128x128.size a ≤ S8192x128.size a := fun v3233 k0_hw53 => k0_hw53

def k0_dev155 (v13 : BitVec 32) : Nat :=
  let c0_i32_4287 : BitVec 32 := 0#32
  let c1_i32_4286 : BitVec 32 := 1#32
  let v3275 : BitVec 32 := Scalar.muli v13 c1_i32_4286
  let v3276 : BitVec 32 := Scalar.addi c0_i32_4287 v3275
  v3276.toNat
def k0_dev156 (v8 : BitVec 32) : Nat :=
  let c0_i32_4290 : BitVec 32 := 0#32
  let c1_i32_4289 : BitVec 32 := 1#32
  let v3277 : BitVec 32 := Scalar.muli v8 c1_i32_4289
  let v3278 : BitVec 32 := Scalar.addi c0_i32_4290 v3277
  v3278.toNat
def k0_dev157 (v8 : BitVec 32) : Nat :=
  let c0_i32_4314 : BitVec 32 := 0#32
  let c1_i32_4313 : BitVec 32 := 1#32
  let v3287 : BitVec 32 := Scalar.muli v8 c1_i32_4313
  let v3288 : BitVec 32 := Scalar.addi c0_i32_4314 v3287
  v3288.toNat
def k0_dev158 (v13 : BitVec 32) : Nat :=
  let c0_i32_4338 : BitVec 32 := 0#32
  let c1_i32_4337 : BitVec 32 := 1#32
  let v3305 : BitVec 32 := Scalar.muli v13 c1_i32_4337
  let v3306 : BitVec 32 := Scalar.addi c0_i32_4338 v3305
  v3306.toNat
def k0_dev159 (v8 : BitVec 32) : Nat :=
  let c0_i32_4362 : BitVec 32 := 0#32
  let c1_i32_4361 : BitVec 32 := 1#32
  let v3323 : BitVec 32 := Scalar.muli v8 c1_i32_4361
  let v3324 : BitVec 32 := Scalar.addi c0_i32_4362 v3323
  v3324.toNat
def k0_dev160 (v13 : BitVec 32) : Nat :=
  let c0_i32_4386 : BitVec 32 := 0#32
  let c1_i32_4385 : BitVec 32 := 1#32
  let v3341 : BitVec 32 := Scalar.muli v13 c1_i32_4385
  let v3342 : BitVec 32 := Scalar.addi c0_i32_4386 v3341
  v3342.toNat
def k0_off105 (v4 : BitVec 32) : Fin 1 → Nat :=
  let c32_i32_4391 : BitVec 32 := 32#32
  let v3351 : BitVec 32 := Scalar.addi v4 c32_i32_4391
  let c1_i32_4392 : BitVec 32 := 1#32
  let v3352 : BitVec 32 := Scalar.subi v3351 c1_i32_4392
  let c25_i32 : BitVec 32 := 25#32
  let v3353 : BitVec 32 := Scalar.subi v3352 c25_i32
  let c32_i32_4393 : BitVec 32 := 32#32
  let v3354 : BitVec 32 := Scalar.remsi v3353 c32_i32_4393
  let v3355 : Index := Scalar.indexCast v3354
  ![v3355.toNat]
def k0_off106 (v4 : BitVec 32) : Fin 1 → Nat :=
  let c1_i32_4394 : BitVec 32 := 1#32
  let v3357 : BitVec 32 := Scalar.addi v4 c1_i32_4394
  let c25_i32_4395 : BitVec 32 := 25#32
  let v3358 : BitVec 32 := Scalar.addi v3357 c25_i32_4395
  let c32_i32_4396 : BitVec 32 := 32#32
  let v3359 : BitVec 32 := Scalar.remsi v3358 c32_i32_4396
  let v3360 : Index := Scalar.indexCast v3359
  ![v3360.toNat]
def k0_off107 (v3356 : BitVec 32) : Fin 2 → Nat :=
  let c256_i32_4400 : BitVec 32 := 256#32
  let v3364 : BitVec 32 := Scalar.muli v3356 c256_i32_4400
  let v3368 : Index := Scalar.indexCast v3364
  let c0_4402 : Index := 0#32
  ![v3368.toNat, 0]

def k0_chk54 (v3356 : BitVec 32) : Prop :=
  (∀ a, (k0_off107 v3356) a + S128x128.size a ≤ S8192x128.size a)
theorem k0_off107_inb : ∀ (v3356 : BitVec 32) (k0_hw54 : k0_chk54 v3356), ∀ a, (k0_off107 v3356) a + S128x128.size a ≤ S8192x128.size a := fun v3356 k0_hw54 => k0_hw54

def k0_off108 (v3361 : BitVec 32) : Fin 2 → Nat :=
  let c256_i32_4406 : BitVec 32 := 256#32
  let v3372 : BitVec 32 := Scalar.muli v3361 c256_i32_4406
  let c128_i32_4407 : BitVec 32 := 128#32
  let v3373 : BitVec 32 := Scalar.addi v3372 c128_i32_4407
  let v3377 : Index := Scalar.indexCast v3373
  let c0_4409 : Index := 0#32
  ![v3377.toNat, 0]

def k0_chk55 (v3361 : BitVec 32) : Prop :=
  (∀ a, (k0_off108 v3361) a + S128x128.size a ≤ S8192x128.size a)
theorem k0_off108_inb : ∀ (v3361 : BitVec 32) (k0_hw55 : k0_chk55 v3361), ∀ a, (k0_off108 v3361) a + S128x128.size a ≤ S8192x128.size a := fun v3361 k0_hw55 => k0_hw55

def k0_dev161 (v13 : BitVec 32) : Nat :=
  let c0_i32_4456 : BitVec 32 := 0#32
  let c1_i32_4455 : BitVec 32 := 1#32
  let v3403 : BitVec 32 := Scalar.muli v13 c1_i32_4455
  let v3404 : BitVec 32 := Scalar.addi c0_i32_4456 v3403
  v3404.toNat
def k0_dev162 (v8 : BitVec 32) : Nat :=
  let c0_i32_4459 : BitVec 32 := 0#32
  let c1_i32_4458 : BitVec 32 := 1#32
  let v3405 : BitVec 32 := Scalar.muli v8 c1_i32_4458
  let v3406 : BitVec 32 := Scalar.addi c0_i32_4459 v3405
  v3406.toNat
def k0_dev163 (v8 : BitVec 32) : Nat :=
  let c0_i32_4483 : BitVec 32 := 0#32
  let c1_i32_4482 : BitVec 32 := 1#32
  let v3415 : BitVec 32 := Scalar.muli v8 c1_i32_4482
  let v3416 : BitVec 32 := Scalar.addi c0_i32_4483 v3415
  v3416.toNat
def k0_dev164 (v13 : BitVec 32) : Nat :=
  let c0_i32_4507 : BitVec 32 := 0#32
  let c1_i32_4506 : BitVec 32 := 1#32
  let v3433 : BitVec 32 := Scalar.muli v13 c1_i32_4506
  let v3434 : BitVec 32 := Scalar.addi c0_i32_4507 v3433
  v3434.toNat
def k0_dev165 (v8 : BitVec 32) : Nat :=
  let c0_i32_4531 : BitVec 32 := 0#32
  let c1_i32_4530 : BitVec 32 := 1#32
  let v3451 : BitVec 32 := Scalar.muli v8 c1_i32_4530
  let v3452 : BitVec 32 := Scalar.addi c0_i32_4531 v3451
  v3452.toNat
def k0_dev166 (v13 : BitVec 32) : Nat :=
  let c0_i32_4555 : BitVec 32 := 0#32
  let c1_i32_4554 : BitVec 32 := 1#32
  let v3469 : BitVec 32 := Scalar.muli v13 c1_i32_4554
  let v3470 : BitVec 32 := Scalar.addi c0_i32_4555 v3469
  v3470.toNat
def k0_off109 (v4 : BitVec 32) : Fin 1 → Nat :=
  let c32_i32_4560 : BitVec 32 := 32#32
  let v3479 : BitVec 32 := Scalar.addi v4 c32_i32_4560
  let c1_i32_4561 : BitVec 32 := 1#32
  let v3480 : BitVec 32 := Scalar.subi v3479 c1_i32_4561
  let c26_i32 : BitVec 32 := 26#32
  let v3481 : BitVec 32 := Scalar.subi v3480 c26_i32
  let c32_i32_4562 : BitVec 32 := 32#32
  let v3482 : BitVec 32 := Scalar.remsi v3481 c32_i32_4562
  let v3483 : Index := Scalar.indexCast v3482
  ![v3483.toNat]
def k0_off110 (v4 : BitVec 32) : Fin 1 → Nat :=
  let c1_i32_4563 : BitVec 32 := 1#32
  let v3485 : BitVec 32 := Scalar.addi v4 c1_i32_4563
  let c26_i32_4564 : BitVec 32 := 26#32
  let v3486 : BitVec 32 := Scalar.addi v3485 c26_i32_4564
  let c32_i32_4565 : BitVec 32 := 32#32
  let v3487 : BitVec 32 := Scalar.remsi v3486 c32_i32_4565
  let v3488 : Index := Scalar.indexCast v3487
  ![v3488.toNat]
def k0_off111 (v3484 : BitVec 32) : Fin 2 → Nat :=
  let c256_i32_4569 : BitVec 32 := 256#32
  let v3492 : BitVec 32 := Scalar.muli v3484 c256_i32_4569
  let v3496 : Index := Scalar.indexCast v3492
  let c0_4571 : Index := 0#32
  ![v3496.toNat, 0]

def k0_chk56 (v3484 : BitVec 32) : Prop :=
  (∀ a, (k0_off111 v3484) a + S128x128.size a ≤ S8192x128.size a)
theorem k0_off111_inb : ∀ (v3484 : BitVec 32) (k0_hw56 : k0_chk56 v3484), ∀ a, (k0_off111 v3484) a + S128x128.size a ≤ S8192x128.size a := fun v3484 k0_hw56 => k0_hw56

def k0_off112 (v3489 : BitVec 32) : Fin 2 → Nat :=
  let c256_i32_4575 : BitVec 32 := 256#32
  let v3500 : BitVec 32 := Scalar.muli v3489 c256_i32_4575
  let c128_i32_4576 : BitVec 32 := 128#32
  let v3501 : BitVec 32 := Scalar.addi v3500 c128_i32_4576
  let v3505 : Index := Scalar.indexCast v3501
  let c0_4578 : Index := 0#32
  ![v3505.toNat, 0]

def k0_chk57 (v3489 : BitVec 32) : Prop :=
  (∀ a, (k0_off112 v3489) a + S128x128.size a ≤ S8192x128.size a)
theorem k0_off112_inb : ∀ (v3489 : BitVec 32) (k0_hw57 : k0_chk57 v3489), ∀ a, (k0_off112 v3489) a + S128x128.size a ≤ S8192x128.size a := fun v3489 k0_hw57 => k0_hw57

def k0_dev167 (v13 : BitVec 32) : Nat :=
  let c0_i32_4625 : BitVec 32 := 0#32
  let c1_i32_4624 : BitVec 32 := 1#32
  let v3531 : BitVec 32 := Scalar.muli v13 c1_i32_4624
  let v3532 : BitVec 32 := Scalar.addi c0_i32_4625 v3531
  v3532.toNat
def k0_dev168 (v8 : BitVec 32) : Nat :=
  let c0_i32_4628 : BitVec 32 := 0#32
  let c1_i32_4627 : BitVec 32 := 1#32
  let v3533 : BitVec 32 := Scalar.muli v8 c1_i32_4627
  let v3534 : BitVec 32 := Scalar.addi c0_i32_4628 v3533
  v3534.toNat
def k0_dev169 (v8 : BitVec 32) : Nat :=
  let c0_i32_4652 : BitVec 32 := 0#32
  let c1_i32_4651 : BitVec 32 := 1#32
  let v3543 : BitVec 32 := Scalar.muli v8 c1_i32_4651
  let v3544 : BitVec 32 := Scalar.addi c0_i32_4652 v3543
  v3544.toNat
def k0_dev170 (v13 : BitVec 32) : Nat :=
  let c0_i32_4676 : BitVec 32 := 0#32
  let c1_i32_4675 : BitVec 32 := 1#32
  let v3561 : BitVec 32 := Scalar.muli v13 c1_i32_4675
  let v3562 : BitVec 32 := Scalar.addi c0_i32_4676 v3561
  v3562.toNat
def k0_dev171 (v8 : BitVec 32) : Nat :=
  let c0_i32_4700 : BitVec 32 := 0#32
  let c1_i32_4699 : BitVec 32 := 1#32
  let v3579 : BitVec 32 := Scalar.muli v8 c1_i32_4699
  let v3580 : BitVec 32 := Scalar.addi c0_i32_4700 v3579
  v3580.toNat
def k0_dev172 (v13 : BitVec 32) : Nat :=
  let c0_i32_4724 : BitVec 32 := 0#32
  let c1_i32_4723 : BitVec 32 := 1#32
  let v3597 : BitVec 32 := Scalar.muli v13 c1_i32_4723
  let v3598 : BitVec 32 := Scalar.addi c0_i32_4724 v3597
  v3598.toNat
def k0_off113 (v4 : BitVec 32) : Fin 1 → Nat :=
  let c32_i32_4729 : BitVec 32 := 32#32
  let v3607 : BitVec 32 := Scalar.addi v4 c32_i32_4729
  let c1_i32_4730 : BitVec 32 := 1#32
  let v3608 : BitVec 32 := Scalar.subi v3607 c1_i32_4730
  let c27_i32 : BitVec 32 := 27#32
  let v3609 : BitVec 32 := Scalar.subi v3608 c27_i32
  let c32_i32_4731 : BitVec 32 := 32#32
  let v3610 : BitVec 32 := Scalar.remsi v3609 c32_i32_4731
  let v3611 : Index := Scalar.indexCast v3610
  ![v3611.toNat]
def k0_off114 (v4 : BitVec 32) : Fin 1 → Nat :=
  let c1_i32_4732 : BitVec 32 := 1#32
  let v3613 : BitVec 32 := Scalar.addi v4 c1_i32_4732
  let c27_i32_4733 : BitVec 32 := 27#32
  let v3614 : BitVec 32 := Scalar.addi v3613 c27_i32_4733
  let c32_i32_4734 : BitVec 32 := 32#32
  let v3615 : BitVec 32 := Scalar.remsi v3614 c32_i32_4734
  let v3616 : Index := Scalar.indexCast v3615
  ![v3616.toNat]
def k0_off115 (v3612 : BitVec 32) : Fin 2 → Nat :=
  let c256_i32_4738 : BitVec 32 := 256#32
  let v3620 : BitVec 32 := Scalar.muli v3612 c256_i32_4738
  let v3624 : Index := Scalar.indexCast v3620
  let c0_4740 : Index := 0#32
  ![v3624.toNat, 0]

def k0_chk58 (v3612 : BitVec 32) : Prop :=
  (∀ a, (k0_off115 v3612) a + S128x128.size a ≤ S8192x128.size a)
theorem k0_off115_inb : ∀ (v3612 : BitVec 32) (k0_hw58 : k0_chk58 v3612), ∀ a, (k0_off115 v3612) a + S128x128.size a ≤ S8192x128.size a := fun v3612 k0_hw58 => k0_hw58

def k0_off116 (v3617 : BitVec 32) : Fin 2 → Nat :=
  let c256_i32_4744 : BitVec 32 := 256#32
  let v3628 : BitVec 32 := Scalar.muli v3617 c256_i32_4744
  let c128_i32_4745 : BitVec 32 := 128#32
  let v3629 : BitVec 32 := Scalar.addi v3628 c128_i32_4745
  let v3633 : Index := Scalar.indexCast v3629
  let c0_4747 : Index := 0#32
  ![v3633.toNat, 0]

def k0_chk59 (v3617 : BitVec 32) : Prop :=
  (∀ a, (k0_off116 v3617) a + S128x128.size a ≤ S8192x128.size a)
theorem k0_off116_inb : ∀ (v3617 : BitVec 32) (k0_hw59 : k0_chk59 v3617), ∀ a, (k0_off116 v3617) a + S128x128.size a ≤ S8192x128.size a := fun v3617 k0_hw59 => k0_hw59

def k0_dev173 (v13 : BitVec 32) : Nat :=
  let c0_i32_4794 : BitVec 32 := 0#32
  let c1_i32_4793 : BitVec 32 := 1#32
  let v3659 : BitVec 32 := Scalar.muli v13 c1_i32_4793
  let v3660 : BitVec 32 := Scalar.addi c0_i32_4794 v3659
  v3660.toNat
def k0_dev174 (v8 : BitVec 32) : Nat :=
  let c0_i32_4797 : BitVec 32 := 0#32
  let c1_i32_4796 : BitVec 32 := 1#32
  let v3661 : BitVec 32 := Scalar.muli v8 c1_i32_4796
  let v3662 : BitVec 32 := Scalar.addi c0_i32_4797 v3661
  v3662.toNat
def k0_dev175 (v8 : BitVec 32) : Nat :=
  let c0_i32_4821 : BitVec 32 := 0#32
  let c1_i32_4820 : BitVec 32 := 1#32
  let v3671 : BitVec 32 := Scalar.muli v8 c1_i32_4820
  let v3672 : BitVec 32 := Scalar.addi c0_i32_4821 v3671
  v3672.toNat
def k0_dev176 (v13 : BitVec 32) : Nat :=
  let c0_i32_4845 : BitVec 32 := 0#32
  let c1_i32_4844 : BitVec 32 := 1#32
  let v3689 : BitVec 32 := Scalar.muli v13 c1_i32_4844
  let v3690 : BitVec 32 := Scalar.addi c0_i32_4845 v3689
  v3690.toNat
def k0_dev177 (v8 : BitVec 32) : Nat :=
  let c0_i32_4869 : BitVec 32 := 0#32
  let c1_i32_4868 : BitVec 32 := 1#32
  let v3707 : BitVec 32 := Scalar.muli v8 c1_i32_4868
  let v3708 : BitVec 32 := Scalar.addi c0_i32_4869 v3707
  v3708.toNat
def k0_dev178 (v13 : BitVec 32) : Nat :=
  let c0_i32_4893 : BitVec 32 := 0#32
  let c1_i32_4892 : BitVec 32 := 1#32
  let v3725 : BitVec 32 := Scalar.muli v13 c1_i32_4892
  let v3726 : BitVec 32 := Scalar.addi c0_i32_4893 v3725
  v3726.toNat
def k0_off117 (v4 : BitVec 32) : Fin 1 → Nat :=
  let c32_i32_4898 : BitVec 32 := 32#32
  let v3735 : BitVec 32 := Scalar.addi v4 c32_i32_4898
  let c1_i32_4899 : BitVec 32 := 1#32
  let v3736 : BitVec 32 := Scalar.subi v3735 c1_i32_4899
  let c28_i32 : BitVec 32 := 28#32
  let v3737 : BitVec 32 := Scalar.subi v3736 c28_i32
  let c32_i32_4900 : BitVec 32 := 32#32
  let v3738 : BitVec 32 := Scalar.remsi v3737 c32_i32_4900
  let v3739 : Index := Scalar.indexCast v3738
  ![v3739.toNat]
def k0_off118 (v4 : BitVec 32) : Fin 1 → Nat :=
  let c1_i32_4901 : BitVec 32 := 1#32
  let v3741 : BitVec 32 := Scalar.addi v4 c1_i32_4901
  let c28_i32_4902 : BitVec 32 := 28#32
  let v3742 : BitVec 32 := Scalar.addi v3741 c28_i32_4902
  let c32_i32_4903 : BitVec 32 := 32#32
  let v3743 : BitVec 32 := Scalar.remsi v3742 c32_i32_4903
  let v3744 : Index := Scalar.indexCast v3743
  ![v3744.toNat]
def k0_off119 (v3740 : BitVec 32) : Fin 2 → Nat :=
  let c256_i32_4907 : BitVec 32 := 256#32
  let v3748 : BitVec 32 := Scalar.muli v3740 c256_i32_4907
  let v3752 : Index := Scalar.indexCast v3748
  let c0_4909 : Index := 0#32
  ![v3752.toNat, 0]

def k0_chk60 (v3740 : BitVec 32) : Prop :=
  (∀ a, (k0_off119 v3740) a + S128x128.size a ≤ S8192x128.size a)
theorem k0_off119_inb : ∀ (v3740 : BitVec 32) (k0_hw60 : k0_chk60 v3740), ∀ a, (k0_off119 v3740) a + S128x128.size a ≤ S8192x128.size a := fun v3740 k0_hw60 => k0_hw60

def k0_off120 (v3745 : BitVec 32) : Fin 2 → Nat :=
  let c256_i32_4913 : BitVec 32 := 256#32
  let v3756 : BitVec 32 := Scalar.muli v3745 c256_i32_4913
  let c128_i32_4914 : BitVec 32 := 128#32
  let v3757 : BitVec 32 := Scalar.addi v3756 c128_i32_4914
  let v3761 : Index := Scalar.indexCast v3757
  let c0_4916 : Index := 0#32
  ![v3761.toNat, 0]

def k0_chk61 (v3745 : BitVec 32) : Prop :=
  (∀ a, (k0_off120 v3745) a + S128x128.size a ≤ S8192x128.size a)
theorem k0_off120_inb : ∀ (v3745 : BitVec 32) (k0_hw61 : k0_chk61 v3745), ∀ a, (k0_off120 v3745) a + S128x128.size a ≤ S8192x128.size a := fun v3745 k0_hw61 => k0_hw61

def k0_dev179 (v13 : BitVec 32) : Nat :=
  let c0_i32_4963 : BitVec 32 := 0#32
  let c1_i32_4962 : BitVec 32 := 1#32
  let v3787 : BitVec 32 := Scalar.muli v13 c1_i32_4962
  let v3788 : BitVec 32 := Scalar.addi c0_i32_4963 v3787
  v3788.toNat
def k0_dev180 (v8 : BitVec 32) : Nat :=
  let c0_i32_4966 : BitVec 32 := 0#32
  let c1_i32_4965 : BitVec 32 := 1#32
  let v3789 : BitVec 32 := Scalar.muli v8 c1_i32_4965
  let v3790 : BitVec 32 := Scalar.addi c0_i32_4966 v3789
  v3790.toNat
def k0_dev181 (v8 : BitVec 32) : Nat :=
  let c0_i32_4990 : BitVec 32 := 0#32
  let c1_i32_4989 : BitVec 32 := 1#32
  let v3799 : BitVec 32 := Scalar.muli v8 c1_i32_4989
  let v3800 : BitVec 32 := Scalar.addi c0_i32_4990 v3799
  v3800.toNat
def k0_dev182 (v13 : BitVec 32) : Nat :=
  let c0_i32_5014 : BitVec 32 := 0#32
  let c1_i32_5013 : BitVec 32 := 1#32
  let v3817 : BitVec 32 := Scalar.muli v13 c1_i32_5013
  let v3818 : BitVec 32 := Scalar.addi c0_i32_5014 v3817
  v3818.toNat
def k0_dev183 (v8 : BitVec 32) : Nat :=
  let c0_i32_5038 : BitVec 32 := 0#32
  let c1_i32_5037 : BitVec 32 := 1#32
  let v3835 : BitVec 32 := Scalar.muli v8 c1_i32_5037
  let v3836 : BitVec 32 := Scalar.addi c0_i32_5038 v3835
  v3836.toNat

def k0_chk3_0 (v8 : BitVec 32) : Prop :=
  ((k0_dev2 v8) < nD) ∧
  ((k0_dev3 v8) < nD) ∧
  ((k0_dev5 v8) < nD) ∧
  ((k0_dev7 v8) < nD) ∧
  ((k0_dev9 v8) < nD) ∧
  ((k0_dev12 v8) < nD) ∧
  ((k0_dev13 v8) < nD) ∧
  ((k0_dev15 v8) < nD) ∧
  ((k0_dev18 v8) < nD) ∧
  ((k0_dev19 v8) < nD) ∧
  ((k0_dev21 v8) < nD) ∧
  ((k0_dev24 v8) < nD) ∧
  ((k0_dev25 v8) < nD) ∧
  ((k0_dev27 v8) < nD) ∧
  ((k0_dev30 v8) < nD) ∧
  ((k0_dev31 v8) < nD) ∧
  ((k0_dev33 v8) < nD) ∧
  ((k0_dev36 v8) < nD) ∧
  ((k0_dev37 v8) < nD) ∧
  ((k0_dev39 v8) < nD) ∧
  ((k0_dev42 v8) < nD) ∧
  ((k0_dev43 v8) < nD) ∧
  ((k0_dev45 v8) < nD) ∧
  ((k0_dev48 v8) < nD) ∧
  ((k0_dev49 v8) < nD) ∧
  ((k0_dev51 v8) < nD) ∧
  ((k0_dev54 v8) < nD) ∧
  ((k0_dev55 v8) < nD) ∧
  ((k0_dev57 v8) < nD) ∧
  ((k0_dev60 v8) < nD) ∧
  ((k0_dev61 v8) < nD) ∧
  ((k0_dev63 v8) < nD)
def k0_chk3_1 (v8 : BitVec 32) : Prop :=
  ((k0_dev66 v8) < nD) ∧
  ((k0_dev67 v8) < nD) ∧
  ((k0_dev69 v8) < nD) ∧
  ((k0_dev72 v8) < nD) ∧
  ((k0_dev73 v8) < nD) ∧
  ((k0_dev75 v8) < nD) ∧
  ((k0_dev78 v8) < nD) ∧
  ((k0_dev79 v8) < nD) ∧
  ((k0_dev81 v8) < nD) ∧
  ((k0_dev84 v8) < nD) ∧
  ((k0_dev85 v8) < nD) ∧
  ((k0_dev87 v8) < nD) ∧
  ((k0_dev90 v8) < nD) ∧
  ((k0_dev91 v8) < nD) ∧
  ((k0_dev93 v8) < nD) ∧
  ((k0_dev96 v8) < nD) ∧
  ((k0_dev97 v8) < nD) ∧
  ((k0_dev99 v8) < nD) ∧
  ((k0_dev102 v8) < nD) ∧
  ((k0_dev103 v8) < nD) ∧
  ((k0_dev105 v8) < nD) ∧
  ((k0_dev108 v8) < nD) ∧
  ((k0_dev109 v8) < nD) ∧
  ((k0_dev111 v8) < nD) ∧
  ((k0_dev114 v8) < nD) ∧
  ((k0_dev115 v8) < nD) ∧
  ((k0_dev117 v8) < nD) ∧
  ((k0_dev120 v8) < nD) ∧
  ((k0_dev121 v8) < nD) ∧
  ((k0_dev123 v8) < nD) ∧
  ((k0_dev126 v8) < nD) ∧
  ((k0_dev127 v8) < nD)
def k0_chk3_2 (v8 : BitVec 32) : Prop :=
  ((k0_dev129 v8) < nD) ∧
  ((k0_dev132 v8) < nD) ∧
  ((k0_dev133 v8) < nD) ∧
  ((k0_dev135 v8) < nD) ∧
  ((k0_dev138 v8) < nD) ∧
  ((k0_dev139 v8) < nD) ∧
  ((k0_dev141 v8) < nD) ∧
  ((k0_dev144 v8) < nD) ∧
  ((k0_dev145 v8) < nD) ∧
  ((k0_dev147 v8) < nD) ∧
  ((k0_dev150 v8) < nD) ∧
  ((k0_dev151 v8) < nD) ∧
  ((k0_dev153 v8) < nD) ∧
  ((k0_dev156 v8) < nD) ∧
  ((k0_dev157 v8) < nD) ∧
  ((k0_dev159 v8) < nD) ∧
  ((k0_dev162 v8) < nD) ∧
  ((k0_dev163 v8) < nD) ∧
  ((k0_dev165 v8) < nD) ∧
  ((k0_dev168 v8) < nD) ∧
  ((k0_dev169 v8) < nD) ∧
  ((k0_dev171 v8) < nD) ∧
  ((k0_dev174 v8) < nD) ∧
  ((k0_dev175 v8) < nD) ∧
  ((k0_dev177 v8) < nD) ∧
  ((k0_dev180 v8) < nD) ∧
  ((k0_dev181 v8) < nD) ∧
  ((k0_dev183 v8) < nD)
def k0_chk3 (v8 : BitVec 32) : Prop :=
  k0_chk3_0 v8 ∧
  k0_chk3_1 v8 ∧
  k0_chk3_2 v8
theorem k0_dev2_lt : ∀ (v8 : BitVec 32) (k0_hw3 : k0_chk3 v8), (k0_dev2 v8) < nD := fun v8 k0_hw3 => k0_hw3.1.1
theorem k0_dev3_lt : ∀ (v8 : BitVec 32) (k0_hw3 : k0_chk3 v8), (k0_dev3 v8) < nD := fun v8 k0_hw3 => k0_hw3.1.2.1
theorem k0_dev5_lt : ∀ (v8 : BitVec 32) (k0_hw3 : k0_chk3 v8), (k0_dev5 v8) < nD := fun v8 k0_hw3 => k0_hw3.1.2.2.1
theorem k0_dev7_lt : ∀ (v8 : BitVec 32) (k0_hw3 : k0_chk3 v8), (k0_dev7 v8) < nD := fun v8 k0_hw3 => k0_hw3.1.2.2.2.1
theorem k0_dev9_lt : ∀ (v8 : BitVec 32) (k0_hw3 : k0_chk3 v8), (k0_dev9 v8) < nD := fun v8 k0_hw3 => k0_hw3.1.2.2.2.2.1
theorem k0_dev12_lt : ∀ (v8 : BitVec 32) (k0_hw3 : k0_chk3 v8), (k0_dev12 v8) < nD := fun v8 k0_hw3 => k0_hw3.1.2.2.2.2.2.1
theorem k0_dev13_lt : ∀ (v8 : BitVec 32) (k0_hw3 : k0_chk3 v8), (k0_dev13 v8) < nD := fun v8 k0_hw3 => k0_hw3.1.2.2.2.2.2.2.1
theorem k0_dev15_lt : ∀ (v8 : BitVec 32) (k0_hw3 : k0_chk3 v8), (k0_dev15 v8) < nD := fun v8 k0_hw3 => k0_hw3.1.2.2.2.2.2.2.2.1
theorem k0_dev18_lt : ∀ (v8 : BitVec 32) (k0_hw3 : k0_chk3 v8), (k0_dev18 v8) < nD := fun v8 k0_hw3 => k0_hw3.1.2.2.2.2.2.2.2.2.1
theorem k0_dev19_lt : ∀ (v8 : BitVec 32) (k0_hw3 : k0_chk3 v8), (k0_dev19 v8) < nD := fun v8 k0_hw3 => k0_hw3.1.2.2.2.2.2.2.2.2.2.1
theorem k0_dev21_lt : ∀ (v8 : BitVec 32) (k0_hw3 : k0_chk3 v8), (k0_dev21 v8) < nD := fun v8 k0_hw3 => k0_hw3.1.2.2.2.2.2.2.2.2.2.2.1
theorem k0_dev24_lt : ∀ (v8 : BitVec 32) (k0_hw3 : k0_chk3 v8), (k0_dev24 v8) < nD := fun v8 k0_hw3 => k0_hw3.1.2.2.2.2.2.2.2.2.2.2.2.1
theorem k0_dev25_lt : ∀ (v8 : BitVec 32) (k0_hw3 : k0_chk3 v8), (k0_dev25 v8) < nD := fun v8 k0_hw3 => k0_hw3.1.2.2.2.2.2.2.2.2.2.2.2.2.1
theorem k0_dev27_lt : ∀ (v8 : BitVec 32) (k0_hw3 : k0_chk3 v8), (k0_dev27 v8) < nD := fun v8 k0_hw3 => k0_hw3.1.2.2.2.2.2.2.2.2.2.2.2.2.2.1
theorem k0_dev30_lt : ∀ (v8 : BitVec 32) (k0_hw3 : k0_chk3 v8), (k0_dev30 v8) < nD := fun v8 k0_hw3 => k0_hw3.1.2.2.2.2.2.2.2.2.2.2.2.2.2.2.1
theorem k0_dev31_lt : ∀ (v8 : BitVec 32) (k0_hw3 : k0_chk3 v8), (k0_dev31 v8) < nD := fun v8 k0_hw3 => k0_hw3.1.2.2.2.2.2.2.2.2.2.2.2.2.2.2.2.1
theorem k0_dev33_lt : ∀ (v8 : BitVec 32) (k0_hw3 : k0_chk3 v8), (k0_dev33 v8) < nD := fun v8 k0_hw3 => k0_hw3.1.2.2.2.2.2.2.2.2.2.2.2.2.2.2.2.2.1
theorem k0_dev36_lt : ∀ (v8 : BitVec 32) (k0_hw3 : k0_chk3 v8), (k0_dev36 v8) < nD := fun v8 k0_hw3 => k0_hw3.1.2.2.2.2.2.2.2.2.2.2.2.2.2.2.2.2.2.1
theorem k0_dev37_lt : ∀ (v8 : BitVec 32) (k0_hw3 : k0_chk3 v8), (k0_dev37 v8) < nD := fun v8 k0_hw3 => k0_hw3.1.2.2.2.2.2.2.2.2.2.2.2.2.2.2.2.2.2.2.1
theorem k0_dev39_lt : ∀ (v8 : BitVec 32) (k0_hw3 : k0_chk3 v8), (k0_dev39 v8) < nD := fun v8 k0_hw3 => k0_hw3.1.2.2.2.2.2.2.2.2.2.2.2.2.2.2.2.2.2.2.2.1
theorem k0_dev42_lt : ∀ (v8 : BitVec 32) (k0_hw3 : k0_chk3 v8), (k0_dev42 v8) < nD := fun v8 k0_hw3 => k0_hw3.1.2.2.2.2.2.2.2.2.2.2.2.2.2.2.2.2.2.2.2.2.1
theorem k0_dev43_lt : ∀ (v8 : BitVec 32) (k0_hw3 : k0_chk3 v8), (k0_dev43 v8) < nD := fun v8 k0_hw3 => k0_hw3.1.2.2.2.2.2.2.2.2.2.2.2.2.2.2.2.2.2.2.2.2.2.1
theorem k0_dev45_lt : ∀ (v8 : BitVec 32) (k0_hw3 : k0_chk3 v8), (k0_dev45 v8) < nD := fun v8 k0_hw3 => k0_hw3.1.2.2.2.2.2.2.2.2.2.2.2.2.2.2.2.2.2.2.2.2.2.2.1
theorem k0_dev48_lt : ∀ (v8 : BitVec 32) (k0_hw3 : k0_chk3 v8), (k0_dev48 v8) < nD := fun v8 k0_hw3 => k0_hw3.1.2.2.2.2.2.2.2.2.2.2.2.2.2.2.2.2.2.2.2.2.2.2.2.1
theorem k0_dev49_lt : ∀ (v8 : BitVec 32) (k0_hw3 : k0_chk3 v8), (k0_dev49 v8) < nD := fun v8 k0_hw3 => k0_hw3.1.2.2.2.2.2.2.2.2.2.2.2.2.2.2.2.2.2.2.2.2.2.2.2.2.1
theorem k0_dev51_lt : ∀ (v8 : BitVec 32) (k0_hw3 : k0_chk3 v8), (k0_dev51 v8) < nD := fun v8 k0_hw3 => k0_hw3.1.2.2.2.2.2.2.2.2.2.2.2.2.2.2.2.2.2.2.2.2.2.2.2.2.2.1
theorem k0_dev54_lt : ∀ (v8 : BitVec 32) (k0_hw3 : k0_chk3 v8), (k0_dev54 v8) < nD := fun v8 k0_hw3 => k0_hw3.1.2.2.2.2.2.2.2.2.2.2.2.2.2.2.2.2.2.2.2.2.2.2.2.2.2.2.1
theorem k0_dev55_lt : ∀ (v8 : BitVec 32) (k0_hw3 : k0_chk3 v8), (k0_dev55 v8) < nD := fun v8 k0_hw3 => k0_hw3.1.2.2.2.2.2.2.2.2.2.2.2.2.2.2.2.2.2.2.2.2.2.2.2.2.2.2.2.1
theorem k0_dev57_lt : ∀ (v8 : BitVec 32) (k0_hw3 : k0_chk3 v8), (k0_dev57 v8) < nD := fun v8 k0_hw3 => k0_hw3.1.2.2.2.2.2.2.2.2.2.2.2.2.2.2.2.2.2.2.2.2.2.2.2.2.2.2.2.2.1
theorem k0_dev60_lt : ∀ (v8 : BitVec 32) (k0_hw3 : k0_chk3 v8), (k0_dev60 v8) < nD := fun v8 k0_hw3 => k0_hw3.1.2.2.2.2.2.2.2.2.2.2.2.2.2.2.2.2.2.2.2.2.2.2.2.2.2.2.2.2.2.1
theorem k0_dev61_lt : ∀ (v8 : BitVec 32) (k0_hw3 : k0_chk3 v8), (k0_dev61 v8) < nD := fun v8 k0_hw3 => k0_hw3.1.2.2.2.2.2.2.2.2.2.2.2.2.2.2.2.2.2.2.2.2.2.2.2.2.2.2.2.2.2.2.1
theorem k0_dev63_lt : ∀ (v8 : BitVec 32) (k0_hw3 : k0_chk3 v8), (k0_dev63 v8) < nD := fun v8 k0_hw3 => k0_hw3.1.2.2.2.2.2.2.2.2.2.2.2.2.2.2.2.2.2.2.2.2.2.2.2.2.2.2.2.2.2.2.2
theorem k0_dev66_lt : ∀ (v8 : BitVec 32) (k0_hw3 : k0_chk3 v8), (k0_dev66 v8) < nD := fun v8 k0_hw3 => k0_hw3.2.1.1
theorem k0_dev67_lt : ∀ (v8 : BitVec 32) (k0_hw3 : k0_chk3 v8), (k0_dev67 v8) < nD := fun v8 k0_hw3 => k0_hw3.2.1.2.1
theorem k0_dev69_lt : ∀ (v8 : BitVec 32) (k0_hw3 : k0_chk3 v8), (k0_dev69 v8) < nD := fun v8 k0_hw3 => k0_hw3.2.1.2.2.1
theorem k0_dev72_lt : ∀ (v8 : BitVec 32) (k0_hw3 : k0_chk3 v8), (k0_dev72 v8) < nD := fun v8 k0_hw3 => k0_hw3.2.1.2.2.2.1
theorem k0_dev73_lt : ∀ (v8 : BitVec 32) (k0_hw3 : k0_chk3 v8), (k0_dev73 v8) < nD := fun v8 k0_hw3 => k0_hw3.2.1.2.2.2.2.1
theorem k0_dev75_lt : ∀ (v8 : BitVec 32) (k0_hw3 : k0_chk3 v8), (k0_dev75 v8) < nD := fun v8 k0_hw3 => k0_hw3.2.1.2.2.2.2.2.1
theorem k0_dev78_lt : ∀ (v8 : BitVec 32) (k0_hw3 : k0_chk3 v8), (k0_dev78 v8) < nD := fun v8 k0_hw3 => k0_hw3.2.1.2.2.2.2.2.2.1
theorem k0_dev79_lt : ∀ (v8 : BitVec 32) (k0_hw3 : k0_chk3 v8), (k0_dev79 v8) < nD := fun v8 k0_hw3 => k0_hw3.2.1.2.2.2.2.2.2.2.1
theorem k0_dev81_lt : ∀ (v8 : BitVec 32) (k0_hw3 : k0_chk3 v8), (k0_dev81 v8) < nD := fun v8 k0_hw3 => k0_hw3.2.1.2.2.2.2.2.2.2.2.1
theorem k0_dev84_lt : ∀ (v8 : BitVec 32) (k0_hw3 : k0_chk3 v8), (k0_dev84 v8) < nD := fun v8 k0_hw3 => k0_hw3.2.1.2.2.2.2.2.2.2.2.2.1
theorem k0_dev85_lt : ∀ (v8 : BitVec 32) (k0_hw3 : k0_chk3 v8), (k0_dev85 v8) < nD := fun v8 k0_hw3 => k0_hw3.2.1.2.2.2.2.2.2.2.2.2.2.1
theorem k0_dev87_lt : ∀ (v8 : BitVec 32) (k0_hw3 : k0_chk3 v8), (k0_dev87 v8) < nD := fun v8 k0_hw3 => k0_hw3.2.1.2.2.2.2.2.2.2.2.2.2.2.1
theorem k0_dev90_lt : ∀ (v8 : BitVec 32) (k0_hw3 : k0_chk3 v8), (k0_dev90 v8) < nD := fun v8 k0_hw3 => k0_hw3.2.1.2.2.2.2.2.2.2.2.2.2.2.2.1
theorem k0_dev91_lt : ∀ (v8 : BitVec 32) (k0_hw3 : k0_chk3 v8), (k0_dev91 v8) < nD := fun v8 k0_hw3 => k0_hw3.2.1.2.2.2.2.2.2.2.2.2.2.2.2.2.1
theorem k0_dev93_lt : ∀ (v8 : BitVec 32) (k0_hw3 : k0_chk3 v8), (k0_dev93 v8) < nD := fun v8 k0_hw3 => k0_hw3.2.1.2.2.2.2.2.2.2.2.2.2.2.2.2.2.1
theorem k0_dev96_lt : ∀ (v8 : BitVec 32) (k0_hw3 : k0_chk3 v8), (k0_dev96 v8) < nD := fun v8 k0_hw3 => k0_hw3.2.1.2.2.2.2.2.2.2.2.2.2.2.2.2.2.2.1
theorem k0_dev97_lt : ∀ (v8 : BitVec 32) (k0_hw3 : k0_chk3 v8), (k0_dev97 v8) < nD := fun v8 k0_hw3 => k0_hw3.2.1.2.2.2.2.2.2.2.2.2.2.2.2.2.2.2.2.1
theorem k0_dev99_lt : ∀ (v8 : BitVec 32) (k0_hw3 : k0_chk3 v8), (k0_dev99 v8) < nD := fun v8 k0_hw3 => k0_hw3.2.1.2.2.2.2.2.2.2.2.2.2.2.2.2.2.2.2.2.1
theorem k0_dev102_lt : ∀ (v8 : BitVec 32) (k0_hw3 : k0_chk3 v8), (k0_dev102 v8) < nD := fun v8 k0_hw3 => k0_hw3.2.1.2.2.2.2.2.2.2.2.2.2.2.2.2.2.2.2.2.2.1
theorem k0_dev103_lt : ∀ (v8 : BitVec 32) (k0_hw3 : k0_chk3 v8), (k0_dev103 v8) < nD := fun v8 k0_hw3 => k0_hw3.2.1.2.2.2.2.2.2.2.2.2.2.2.2.2.2.2.2.2.2.2.1
theorem k0_dev105_lt : ∀ (v8 : BitVec 32) (k0_hw3 : k0_chk3 v8), (k0_dev105 v8) < nD := fun v8 k0_hw3 => k0_hw3.2.1.2.2.2.2.2.2.2.2.2.2.2.2.2.2.2.2.2.2.2.2.1
theorem k0_dev108_lt : ∀ (v8 : BitVec 32) (k0_hw3 : k0_chk3 v8), (k0_dev108 v8) < nD := fun v8 k0_hw3 => k0_hw3.2.1.2.2.2.2.2.2.2.2.2.2.2.2.2.2.2.2.2.2.2.2.2.1
theorem k0_dev109_lt : ∀ (v8 : BitVec 32) (k0_hw3 : k0_chk3 v8), (k0_dev109 v8) < nD := fun v8 k0_hw3 => k0_hw3.2.1.2.2.2.2.2.2.2.2.2.2.2.2.2.2.2.2.2.2.2.2.2.2.1
theorem k0_dev111_lt : ∀ (v8 : BitVec 32) (k0_hw3 : k0_chk3 v8), (k0_dev111 v8) < nD := fun v8 k0_hw3 => k0_hw3.2.1.2.2.2.2.2.2.2.2.2.2.2.2.2.2.2.2.2.2.2.2.2.2.2.1
theorem k0_dev114_lt : ∀ (v8 : BitVec 32) (k0_hw3 : k0_chk3 v8), (k0_dev114 v8) < nD := fun v8 k0_hw3 => k0_hw3.2.1.2.2.2.2.2.2.2.2.2.2.2.2.2.2.2.2.2.2.2.2.2.2.2.2.1
theorem k0_dev115_lt : ∀ (v8 : BitVec 32) (k0_hw3 : k0_chk3 v8), (k0_dev115 v8) < nD := fun v8 k0_hw3 => k0_hw3.2.1.2.2.2.2.2.2.2.2.2.2.2.2.2.2.2.2.2.2.2.2.2.2.2.2.2.1
theorem k0_dev117_lt : ∀ (v8 : BitVec 32) (k0_hw3 : k0_chk3 v8), (k0_dev117 v8) < nD := fun v8 k0_hw3 => k0_hw3.2.1.2.2.2.2.2.2.2.2.2.2.2.2.2.2.2.2.2.2.2.2.2.2.2.2.2.2.1
theorem k0_dev120_lt : ∀ (v8 : BitVec 32) (k0_hw3 : k0_chk3 v8), (k0_dev120 v8) < nD := fun v8 k0_hw3 => k0_hw3.2.1.2.2.2.2.2.2.2.2.2.2.2.2.2.2.2.2.2.2.2.2.2.2.2.2.2.2.2.1
theorem k0_dev121_lt : ∀ (v8 : BitVec 32) (k0_hw3 : k0_chk3 v8), (k0_dev121 v8) < nD := fun v8 k0_hw3 => k0_hw3.2.1.2.2.2.2.2.2.2.2.2.2.2.2.2.2.2.2.2.2.2.2.2.2.2.2.2.2.2.2.1
theorem k0_dev123_lt : ∀ (v8 : BitVec 32) (k0_hw3 : k0_chk3 v8), (k0_dev123 v8) < nD := fun v8 k0_hw3 => k0_hw3.2.1.2.2.2.2.2.2.2.2.2.2.2.2.2.2.2.2.2.2.2.2.2.2.2.2.2.2.2.2.2.1
theorem k0_dev126_lt : ∀ (v8 : BitVec 32) (k0_hw3 : k0_chk3 v8), (k0_dev126 v8) < nD := fun v8 k0_hw3 => k0_hw3.2.1.2.2.2.2.2.2.2.2.2.2.2.2.2.2.2.2.2.2.2.2.2.2.2.2.2.2.2.2.2.2.1
theorem k0_dev127_lt : ∀ (v8 : BitVec 32) (k0_hw3 : k0_chk3 v8), (k0_dev127 v8) < nD := fun v8 k0_hw3 => k0_hw3.2.1.2.2.2.2.2.2.2.2.2.2.2.2.2.2.2.2.2.2.2.2.2.2.2.2.2.2.2.2.2.2.2
theorem k0_dev129_lt : ∀ (v8 : BitVec 32) (k0_hw3 : k0_chk3 v8), (k0_dev129 v8) < nD := fun v8 k0_hw3 => k0_hw3.2.2.1
theorem k0_dev132_lt : ∀ (v8 : BitVec 32) (k0_hw3 : k0_chk3 v8), (k0_dev132 v8) < nD := fun v8 k0_hw3 => k0_hw3.2.2.2.1
theorem k0_dev133_lt : ∀ (v8 : BitVec 32) (k0_hw3 : k0_chk3 v8), (k0_dev133 v8) < nD := fun v8 k0_hw3 => k0_hw3.2.2.2.2.1
theorem k0_dev135_lt : ∀ (v8 : BitVec 32) (k0_hw3 : k0_chk3 v8), (k0_dev135 v8) < nD := fun v8 k0_hw3 => k0_hw3.2.2.2.2.2.1
theorem k0_dev138_lt : ∀ (v8 : BitVec 32) (k0_hw3 : k0_chk3 v8), (k0_dev138 v8) < nD := fun v8 k0_hw3 => k0_hw3.2.2.2.2.2.2.1
theorem k0_dev139_lt : ∀ (v8 : BitVec 32) (k0_hw3 : k0_chk3 v8), (k0_dev139 v8) < nD := fun v8 k0_hw3 => k0_hw3.2.2.2.2.2.2.2.1
theorem k0_dev141_lt : ∀ (v8 : BitVec 32) (k0_hw3 : k0_chk3 v8), (k0_dev141 v8) < nD := fun v8 k0_hw3 => k0_hw3.2.2.2.2.2.2.2.2.1
theorem k0_dev144_lt : ∀ (v8 : BitVec 32) (k0_hw3 : k0_chk3 v8), (k0_dev144 v8) < nD := fun v8 k0_hw3 => k0_hw3.2.2.2.2.2.2.2.2.2.1
theorem k0_dev145_lt : ∀ (v8 : BitVec 32) (k0_hw3 : k0_chk3 v8), (k0_dev145 v8) < nD := fun v8 k0_hw3 => k0_hw3.2.2.2.2.2.2.2.2.2.2.1
theorem k0_dev147_lt : ∀ (v8 : BitVec 32) (k0_hw3 : k0_chk3 v8), (k0_dev147 v8) < nD := fun v8 k0_hw3 => k0_hw3.2.2.2.2.2.2.2.2.2.2.2.1
theorem k0_dev150_lt : ∀ (v8 : BitVec 32) (k0_hw3 : k0_chk3 v8), (k0_dev150 v8) < nD := fun v8 k0_hw3 => k0_hw3.2.2.2.2.2.2.2.2.2.2.2.2.1
theorem k0_dev151_lt : ∀ (v8 : BitVec 32) (k0_hw3 : k0_chk3 v8), (k0_dev151 v8) < nD := fun v8 k0_hw3 => k0_hw3.2.2.2.2.2.2.2.2.2.2.2.2.2.1
theorem k0_dev153_lt : ∀ (v8 : BitVec 32) (k0_hw3 : k0_chk3 v8), (k0_dev153 v8) < nD := fun v8 k0_hw3 => k0_hw3.2.2.2.2.2.2.2.2.2.2.2.2.2.2.1
theorem k0_dev156_lt : ∀ (v8 : BitVec 32) (k0_hw3 : k0_chk3 v8), (k0_dev156 v8) < nD := fun v8 k0_hw3 => k0_hw3.2.2.2.2.2.2.2.2.2.2.2.2.2.2.2.1
theorem k0_dev157_lt : ∀ (v8 : BitVec 32) (k0_hw3 : k0_chk3 v8), (k0_dev157 v8) < nD := fun v8 k0_hw3 => k0_hw3.2.2.2.2.2.2.2.2.2.2.2.2.2.2.2.2.1
theorem k0_dev159_lt : ∀ (v8 : BitVec 32) (k0_hw3 : k0_chk3 v8), (k0_dev159 v8) < nD := fun v8 k0_hw3 => k0_hw3.2.2.2.2.2.2.2.2.2.2.2.2.2.2.2.2.2.1
theorem k0_dev162_lt : ∀ (v8 : BitVec 32) (k0_hw3 : k0_chk3 v8), (k0_dev162 v8) < nD := fun v8 k0_hw3 => k0_hw3.2.2.2.2.2.2.2.2.2.2.2.2.2.2.2.2.2.2.1
theorem k0_dev163_lt : ∀ (v8 : BitVec 32) (k0_hw3 : k0_chk3 v8), (k0_dev163 v8) < nD := fun v8 k0_hw3 => k0_hw3.2.2.2.2.2.2.2.2.2.2.2.2.2.2.2.2.2.2.2.1
theorem k0_dev165_lt : ∀ (v8 : BitVec 32) (k0_hw3 : k0_chk3 v8), (k0_dev165 v8) < nD := fun v8 k0_hw3 => k0_hw3.2.2.2.2.2.2.2.2.2.2.2.2.2.2.2.2.2.2.2.2.1
theorem k0_dev168_lt : ∀ (v8 : BitVec 32) (k0_hw3 : k0_chk3 v8), (k0_dev168 v8) < nD := fun v8 k0_hw3 => k0_hw3.2.2.2.2.2.2.2.2.2.2.2.2.2.2.2.2.2.2.2.2.2.1
theorem k0_dev169_lt : ∀ (v8 : BitVec 32) (k0_hw3 : k0_chk3 v8), (k0_dev169 v8) < nD := fun v8 k0_hw3 => k0_hw3.2.2.2.2.2.2.2.2.2.2.2.2.2.2.2.2.2.2.2.2.2.2.1
theorem k0_dev171_lt : ∀ (v8 : BitVec 32) (k0_hw3 : k0_chk3 v8), (k0_dev171 v8) < nD := fun v8 k0_hw3 => k0_hw3.2.2.2.2.2.2.2.2.2.2.2.2.2.2.2.2.2.2.2.2.2.2.2.1
theorem k0_dev174_lt : ∀ (v8 : BitVec 32) (k0_hw3 : k0_chk3 v8), (k0_dev174 v8) < nD := fun v8 k0_hw3 => k0_hw3.2.2.2.2.2.2.2.2.2.2.2.2.2.2.2.2.2.2.2.2.2.2.2.2.1
theorem k0_dev175_lt : ∀ (v8 : BitVec 32) (k0_hw3 : k0_chk3 v8), (k0_dev175 v8) < nD := fun v8 k0_hw3 => k0_hw3.2.2.2.2.2.2.2.2.2.2.2.2.2.2.2.2.2.2.2.2.2.2.2.2.2.1
theorem k0_dev177_lt : ∀ (v8 : BitVec 32) (k0_hw3 : k0_chk3 v8), (k0_dev177 v8) < nD := fun v8 k0_hw3 => k0_hw3.2.2.2.2.2.2.2.2.2.2.2.2.2.2.2.2.2.2.2.2.2.2.2.2.2.2.1
theorem k0_dev180_lt : ∀ (v8 : BitVec 32) (k0_hw3 : k0_chk3 v8), (k0_dev180 v8) < nD := fun v8 k0_hw3 => k0_hw3.2.2.2.2.2.2.2.2.2.2.2.2.2.2.2.2.2.2.2.2.2.2.2.2.2.2.2.1
theorem k0_dev181_lt : ∀ (v8 : BitVec 32) (k0_hw3 : k0_chk3 v8), (k0_dev181 v8) < nD := fun v8 k0_hw3 => k0_hw3.2.2.2.2.2.2.2.2.2.2.2.2.2.2.2.2.2.2.2.2.2.2.2.2.2.2.2.2.1
theorem k0_dev183_lt : ∀ (v8 : BitVec 32) (k0_hw3 : k0_chk3 v8), (k0_dev183 v8) < nD := fun v8 k0_hw3 => k0_hw3.2.2.2.2.2.2.2.2.2.2.2.2.2.2.2.2.2.2.2.2.2.2.2.2.2.2.2.2.2

def k0_dev184 (v13 : BitVec 32) : Nat :=
  let c0_i32_5062 : BitVec 32 := 0#32
  let c1_i32_5061 : BitVec 32 := 1#32
  let v3853 : BitVec 32 := Scalar.muli v13 c1_i32_5061
  let v3854 : BitVec 32 := Scalar.addi c0_i32_5062 v3853
  v3854.toNat

def k0_chk2_0 (v13 : BitVec 32) : Prop :=
  ((k0_dev1 v13) < nD) ∧
  ((k0_dev4 v13) < nD) ∧
  ((k0_dev6 v13) < nD) ∧
  ((k0_dev8 v13) < nD) ∧
  ((k0_dev10 v13) < nD) ∧
  ((k0_dev11 v13) < nD) ∧
  ((k0_dev14 v13) < nD) ∧
  ((k0_dev16 v13) < nD) ∧
  ((k0_dev17 v13) < nD) ∧
  ((k0_dev20 v13) < nD) ∧
  ((k0_dev22 v13) < nD) ∧
  ((k0_dev23 v13) < nD) ∧
  ((k0_dev26 v13) < nD) ∧
  ((k0_dev28 v13) < nD) ∧
  ((k0_dev29 v13) < nD) ∧
  ((k0_dev32 v13) < nD) ∧
  ((k0_dev34 v13) < nD) ∧
  ((k0_dev35 v13) < nD) ∧
  ((k0_dev38 v13) < nD) ∧
  ((k0_dev40 v13) < nD) ∧
  ((k0_dev41 v13) < nD) ∧
  ((k0_dev44 v13) < nD) ∧
  ((k0_dev46 v13) < nD) ∧
  ((k0_dev47 v13) < nD) ∧
  ((k0_dev50 v13) < nD) ∧
  ((k0_dev52 v13) < nD) ∧
  ((k0_dev53 v13) < nD) ∧
  ((k0_dev56 v13) < nD) ∧
  ((k0_dev58 v13) < nD) ∧
  ((k0_dev59 v13) < nD) ∧
  ((k0_dev62 v13) < nD) ∧
  ((k0_dev64 v13) < nD)
def k0_chk2_1 (v13 : BitVec 32) : Prop :=
  ((k0_dev65 v13) < nD) ∧
  ((k0_dev68 v13) < nD) ∧
  ((k0_dev70 v13) < nD) ∧
  ((k0_dev71 v13) < nD) ∧
  ((k0_dev74 v13) < nD) ∧
  ((k0_dev76 v13) < nD) ∧
  ((k0_dev77 v13) < nD) ∧
  ((k0_dev80 v13) < nD) ∧
  ((k0_dev82 v13) < nD) ∧
  ((k0_dev83 v13) < nD) ∧
  ((k0_dev86 v13) < nD) ∧
  ((k0_dev88 v13) < nD) ∧
  ((k0_dev89 v13) < nD) ∧
  ((k0_dev92 v13) < nD) ∧
  ((k0_dev94 v13) < nD) ∧
  ((k0_dev95 v13) < nD) ∧
  ((k0_dev98 v13) < nD) ∧
  ((k0_dev100 v13) < nD) ∧
  ((k0_dev101 v13) < nD) ∧
  ((k0_dev104 v13) < nD) ∧
  ((k0_dev106 v13) < nD) ∧
  ((k0_dev107 v13) < nD) ∧
  ((k0_dev110 v13) < nD) ∧
  ((k0_dev112 v13) < nD) ∧
  ((k0_dev113 v13) < nD) ∧
  ((k0_dev116 v13) < nD) ∧
  ((k0_dev118 v13) < nD) ∧
  ((k0_dev119 v13) < nD) ∧
  ((k0_dev122 v13) < nD) ∧
  ((k0_dev124 v13) < nD) ∧
  ((k0_dev125 v13) < nD) ∧
  ((k0_dev128 v13) < nD)
def k0_chk2_2 (v13 : BitVec 32) : Prop :=
  ((k0_dev130 v13) < nD) ∧
  ((k0_dev131 v13) < nD) ∧
  ((k0_dev134 v13) < nD) ∧
  ((k0_dev136 v13) < nD) ∧
  ((k0_dev137 v13) < nD) ∧
  ((k0_dev140 v13) < nD) ∧
  ((k0_dev142 v13) < nD) ∧
  ((k0_dev143 v13) < nD) ∧
  ((k0_dev146 v13) < nD) ∧
  ((k0_dev148 v13) < nD) ∧
  ((k0_dev149 v13) < nD) ∧
  ((k0_dev152 v13) < nD) ∧
  ((k0_dev154 v13) < nD) ∧
  ((k0_dev155 v13) < nD) ∧
  ((k0_dev158 v13) < nD) ∧
  ((k0_dev160 v13) < nD) ∧
  ((k0_dev161 v13) < nD) ∧
  ((k0_dev164 v13) < nD) ∧
  ((k0_dev166 v13) < nD) ∧
  ((k0_dev167 v13) < nD) ∧
  ((k0_dev170 v13) < nD) ∧
  ((k0_dev172 v13) < nD) ∧
  ((k0_dev173 v13) < nD) ∧
  ((k0_dev176 v13) < nD) ∧
  ((k0_dev178 v13) < nD) ∧
  ((k0_dev179 v13) < nD) ∧
  ((k0_dev182 v13) < nD) ∧
  ((k0_dev184 v13) < nD)
def k0_chk2 (v13 : BitVec 32) : Prop :=
  k0_chk2_0 v13 ∧
  k0_chk2_1 v13 ∧
  k0_chk2_2 v13
theorem k0_dev1_lt : ∀ (v13 : BitVec 32) (k0_hw2 : k0_chk2 v13), (k0_dev1 v13) < nD := fun v13 k0_hw2 => k0_hw2.1.1
theorem k0_dev4_lt : ∀ (v13 : BitVec 32) (k0_hw2 : k0_chk2 v13), (k0_dev4 v13) < nD := fun v13 k0_hw2 => k0_hw2.1.2.1
theorem k0_dev6_lt : ∀ (v13 : BitVec 32) (k0_hw2 : k0_chk2 v13), (k0_dev6 v13) < nD := fun v13 k0_hw2 => k0_hw2.1.2.2.1
theorem k0_dev8_lt : ∀ (v13 : BitVec 32) (k0_hw2 : k0_chk2 v13), (k0_dev8 v13) < nD := fun v13 k0_hw2 => k0_hw2.1.2.2.2.1
theorem k0_dev10_lt : ∀ (v13 : BitVec 32) (k0_hw2 : k0_chk2 v13), (k0_dev10 v13) < nD := fun v13 k0_hw2 => k0_hw2.1.2.2.2.2.1
theorem k0_dev11_lt : ∀ (v13 : BitVec 32) (k0_hw2 : k0_chk2 v13), (k0_dev11 v13) < nD := fun v13 k0_hw2 => k0_hw2.1.2.2.2.2.2.1
theorem k0_dev14_lt : ∀ (v13 : BitVec 32) (k0_hw2 : k0_chk2 v13), (k0_dev14 v13) < nD := fun v13 k0_hw2 => k0_hw2.1.2.2.2.2.2.2.1
theorem k0_dev16_lt : ∀ (v13 : BitVec 32) (k0_hw2 : k0_chk2 v13), (k0_dev16 v13) < nD := fun v13 k0_hw2 => k0_hw2.1.2.2.2.2.2.2.2.1
theorem k0_dev17_lt : ∀ (v13 : BitVec 32) (k0_hw2 : k0_chk2 v13), (k0_dev17 v13) < nD := fun v13 k0_hw2 => k0_hw2.1.2.2.2.2.2.2.2.2.1
theorem k0_dev20_lt : ∀ (v13 : BitVec 32) (k0_hw2 : k0_chk2 v13), (k0_dev20 v13) < nD := fun v13 k0_hw2 => k0_hw2.1.2.2.2.2.2.2.2.2.2.1
theorem k0_dev22_lt : ∀ (v13 : BitVec 32) (k0_hw2 : k0_chk2 v13), (k0_dev22 v13) < nD := fun v13 k0_hw2 => k0_hw2.1.2.2.2.2.2.2.2.2.2.2.1
theorem k0_dev23_lt : ∀ (v13 : BitVec 32) (k0_hw2 : k0_chk2 v13), (k0_dev23 v13) < nD := fun v13 k0_hw2 => k0_hw2.1.2.2.2.2.2.2.2.2.2.2.2.1
theorem k0_dev26_lt : ∀ (v13 : BitVec 32) (k0_hw2 : k0_chk2 v13), (k0_dev26 v13) < nD := fun v13 k0_hw2 => k0_hw2.1.2.2.2.2.2.2.2.2.2.2.2.2.1
theorem k0_dev28_lt : ∀ (v13 : BitVec 32) (k0_hw2 : k0_chk2 v13), (k0_dev28 v13) < nD := fun v13 k0_hw2 => k0_hw2.1.2.2.2.2.2.2.2.2.2.2.2.2.2.1
theorem k0_dev29_lt : ∀ (v13 : BitVec 32) (k0_hw2 : k0_chk2 v13), (k0_dev29 v13) < nD := fun v13 k0_hw2 => k0_hw2.1.2.2.2.2.2.2.2.2.2.2.2.2.2.2.1
theorem k0_dev32_lt : ∀ (v13 : BitVec 32) (k0_hw2 : k0_chk2 v13), (k0_dev32 v13) < nD := fun v13 k0_hw2 => k0_hw2.1.2.2.2.2.2.2.2.2.2.2.2.2.2.2.2.1
theorem k0_dev34_lt : ∀ (v13 : BitVec 32) (k0_hw2 : k0_chk2 v13), (k0_dev34 v13) < nD := fun v13 k0_hw2 => k0_hw2.1.2.2.2.2.2.2.2.2.2.2.2.2.2.2.2.2.1
theorem k0_dev35_lt : ∀ (v13 : BitVec 32) (k0_hw2 : k0_chk2 v13), (k0_dev35 v13) < nD := fun v13 k0_hw2 => k0_hw2.1.2.2.2.2.2.2.2.2.2.2.2.2.2.2.2.2.2.1
theorem k0_dev38_lt : ∀ (v13 : BitVec 32) (k0_hw2 : k0_chk2 v13), (k0_dev38 v13) < nD := fun v13 k0_hw2 => k0_hw2.1.2.2.2.2.2.2.2.2.2.2.2.2.2.2.2.2.2.2.1
theorem k0_dev40_lt : ∀ (v13 : BitVec 32) (k0_hw2 : k0_chk2 v13), (k0_dev40 v13) < nD := fun v13 k0_hw2 => k0_hw2.1.2.2.2.2.2.2.2.2.2.2.2.2.2.2.2.2.2.2.2.1
theorem k0_dev41_lt : ∀ (v13 : BitVec 32) (k0_hw2 : k0_chk2 v13), (k0_dev41 v13) < nD := fun v13 k0_hw2 => k0_hw2.1.2.2.2.2.2.2.2.2.2.2.2.2.2.2.2.2.2.2.2.2.1
theorem k0_dev44_lt : ∀ (v13 : BitVec 32) (k0_hw2 : k0_chk2 v13), (k0_dev44 v13) < nD := fun v13 k0_hw2 => k0_hw2.1.2.2.2.2.2.2.2.2.2.2.2.2.2.2.2.2.2.2.2.2.2.1
theorem k0_dev46_lt : ∀ (v13 : BitVec 32) (k0_hw2 : k0_chk2 v13), (k0_dev46 v13) < nD := fun v13 k0_hw2 => k0_hw2.1.2.2.2.2.2.2.2.2.2.2.2.2.2.2.2.2.2.2.2.2.2.2.1
theorem k0_dev47_lt : ∀ (v13 : BitVec 32) (k0_hw2 : k0_chk2 v13), (k0_dev47 v13) < nD := fun v13 k0_hw2 => k0_hw2.1.2.2.2.2.2.2.2.2.2.2.2.2.2.2.2.2.2.2.2.2.2.2.2.1
theorem k0_dev50_lt : ∀ (v13 : BitVec 32) (k0_hw2 : k0_chk2 v13), (k0_dev50 v13) < nD := fun v13 k0_hw2 => k0_hw2.1.2.2.2.2.2.2.2.2.2.2.2.2.2.2.2.2.2.2.2.2.2.2.2.2.1
theorem k0_dev52_lt : ∀ (v13 : BitVec 32) (k0_hw2 : k0_chk2 v13), (k0_dev52 v13) < nD := fun v13 k0_hw2 => k0_hw2.1.2.2.2.2.2.2.2.2.2.2.2.2.2.2.2.2.2.2.2.2.2.2.2.2.2.1
theorem k0_dev53_lt : ∀ (v13 : BitVec 32) (k0_hw2 : k0_chk2 v13), (k0_dev53 v13) < nD := fun v13 k0_hw2 => k0_hw2.1.2.2.2.2.2.2.2.2.2.2.2.2.2.2.2.2.2.2.2.2.2.2.2.2.2.2.1
theorem k0_dev56_lt : ∀ (v13 : BitVec 32) (k0_hw2 : k0_chk2 v13), (k0_dev56 v13) < nD := fun v13 k0_hw2 => k0_hw2.1.2.2.2.2.2.2.2.2.2.2.2.2.2.2.2.2.2.2.2.2.2.2.2.2.2.2.2.1
theorem k0_dev58_lt : ∀ (v13 : BitVec 32) (k0_hw2 : k0_chk2 v13), (k0_dev58 v13) < nD := fun v13 k0_hw2 => k0_hw2.1.2.2.2.2.2.2.2.2.2.2.2.2.2.2.2.2.2.2.2.2.2.2.2.2.2.2.2.2.1
theorem k0_dev59_lt : ∀ (v13 : BitVec 32) (k0_hw2 : k0_chk2 v13), (k0_dev59 v13) < nD := fun v13 k0_hw2 => k0_hw2.1.2.2.2.2.2.2.2.2.2.2.2.2.2.2.2.2.2.2.2.2.2.2.2.2.2.2.2.2.2.1
theorem k0_dev62_lt : ∀ (v13 : BitVec 32) (k0_hw2 : k0_chk2 v13), (k0_dev62 v13) < nD := fun v13 k0_hw2 => k0_hw2.1.2.2.2.2.2.2.2.2.2.2.2.2.2.2.2.2.2.2.2.2.2.2.2.2.2.2.2.2.2.2.1
theorem k0_dev64_lt : ∀ (v13 : BitVec 32) (k0_hw2 : k0_chk2 v13), (k0_dev64 v13) < nD := fun v13 k0_hw2 => k0_hw2.1.2.2.2.2.2.2.2.2.2.2.2.2.2.2.2.2.2.2.2.2.2.2.2.2.2.2.2.2.2.2.2
theorem k0_dev65_lt : ∀ (v13 : BitVec 32) (k0_hw2 : k0_chk2 v13), (k0_dev65 v13) < nD := fun v13 k0_hw2 => k0_hw2.2.1.1
theorem k0_dev68_lt : ∀ (v13 : BitVec 32) (k0_hw2 : k0_chk2 v13), (k0_dev68 v13) < nD := fun v13 k0_hw2 => k0_hw2.2.1.2.1
theorem k0_dev70_lt : ∀ (v13 : BitVec 32) (k0_hw2 : k0_chk2 v13), (k0_dev70 v13) < nD := fun v13 k0_hw2 => k0_hw2.2.1.2.2.1
theorem k0_dev71_lt : ∀ (v13 : BitVec 32) (k0_hw2 : k0_chk2 v13), (k0_dev71 v13) < nD := fun v13 k0_hw2 => k0_hw2.2.1.2.2.2.1
theorem k0_dev74_lt : ∀ (v13 : BitVec 32) (k0_hw2 : k0_chk2 v13), (k0_dev74 v13) < nD := fun v13 k0_hw2 => k0_hw2.2.1.2.2.2.2.1
theorem k0_dev76_lt : ∀ (v13 : BitVec 32) (k0_hw2 : k0_chk2 v13), (k0_dev76 v13) < nD := fun v13 k0_hw2 => k0_hw2.2.1.2.2.2.2.2.1
theorem k0_dev77_lt : ∀ (v13 : BitVec 32) (k0_hw2 : k0_chk2 v13), (k0_dev77 v13) < nD := fun v13 k0_hw2 => k0_hw2.2.1.2.2.2.2.2.2.1
theorem k0_dev80_lt : ∀ (v13 : BitVec 32) (k0_hw2 : k0_chk2 v13), (k0_dev80 v13) < nD := fun v13 k0_hw2 => k0_hw2.2.1.2.2.2.2.2.2.2.1
theorem k0_dev82_lt : ∀ (v13 : BitVec 32) (k0_hw2 : k0_chk2 v13), (k0_dev82 v13) < nD := fun v13 k0_hw2 => k0_hw2.2.1.2.2.2.2.2.2.2.2.1
theorem k0_dev83_lt : ∀ (v13 : BitVec 32) (k0_hw2 : k0_chk2 v13), (k0_dev83 v13) < nD := fun v13 k0_hw2 => k0_hw2.2.1.2.2.2.2.2.2.2.2.2.1
theorem k0_dev86_lt : ∀ (v13 : BitVec 32) (k0_hw2 : k0_chk2 v13), (k0_dev86 v13) < nD := fun v13 k0_hw2 => k0_hw2.2.1.2.2.2.2.2.2.2.2.2.2.1
theorem k0_dev88_lt : ∀ (v13 : BitVec 32) (k0_hw2 : k0_chk2 v13), (k0_dev88 v13) < nD := fun v13 k0_hw2 => k0_hw2.2.1.2.2.2.2.2.2.2.2.2.2.2.1
theorem k0_dev89_lt : ∀ (v13 : BitVec 32) (k0_hw2 : k0_chk2 v13), (k0_dev89 v13) < nD := fun v13 k0_hw2 => k0_hw2.2.1.2.2.2.2.2.2.2.2.2.2.2.2.1
theorem k0_dev92_lt : ∀ (v13 : BitVec 32) (k0_hw2 : k0_chk2 v13), (k0_dev92 v13) < nD := fun v13 k0_hw2 => k0_hw2.2.1.2.2.2.2.2.2.2.2.2.2.2.2.2.1
theorem k0_dev94_lt : ∀ (v13 : BitVec 32) (k0_hw2 : k0_chk2 v13), (k0_dev94 v13) < nD := fun v13 k0_hw2 => k0_hw2.2.1.2.2.2.2.2.2.2.2.2.2.2.2.2.2.1
theorem k0_dev95_lt : ∀ (v13 : BitVec 32) (k0_hw2 : k0_chk2 v13), (k0_dev95 v13) < nD := fun v13 k0_hw2 => k0_hw2.2.1.2.2.2.2.2.2.2.2.2.2.2.2.2.2.2.1
theorem k0_dev98_lt : ∀ (v13 : BitVec 32) (k0_hw2 : k0_chk2 v13), (k0_dev98 v13) < nD := fun v13 k0_hw2 => k0_hw2.2.1.2.2.2.2.2.2.2.2.2.2.2.2.2.2.2.2.1
theorem k0_dev100_lt : ∀ (v13 : BitVec 32) (k0_hw2 : k0_chk2 v13), (k0_dev100 v13) < nD := fun v13 k0_hw2 => k0_hw2.2.1.2.2.2.2.2.2.2.2.2.2.2.2.2.2.2.2.2.1
theorem k0_dev101_lt : ∀ (v13 : BitVec 32) (k0_hw2 : k0_chk2 v13), (k0_dev101 v13) < nD := fun v13 k0_hw2 => k0_hw2.2.1.2.2.2.2.2.2.2.2.2.2.2.2.2.2.2.2.2.2.1
theorem k0_dev104_lt : ∀ (v13 : BitVec 32) (k0_hw2 : k0_chk2 v13), (k0_dev104 v13) < nD := fun v13 k0_hw2 => k0_hw2.2.1.2.2.2.2.2.2.2.2.2.2.2.2.2.2.2.2.2.2.2.1
theorem k0_dev106_lt : ∀ (v13 : BitVec 32) (k0_hw2 : k0_chk2 v13), (k0_dev106 v13) < nD := fun v13 k0_hw2 => k0_hw2.2.1.2.2.2.2.2.2.2.2.2.2.2.2.2.2.2.2.2.2.2.2.1
theorem k0_dev107_lt : ∀ (v13 : BitVec 32) (k0_hw2 : k0_chk2 v13), (k0_dev107 v13) < nD := fun v13 k0_hw2 => k0_hw2.2.1.2.2.2.2.2.2.2.2.2.2.2.2.2.2.2.2.2.2.2.2.2.1
theorem k0_dev110_lt : ∀ (v13 : BitVec 32) (k0_hw2 : k0_chk2 v13), (k0_dev110 v13) < nD := fun v13 k0_hw2 => k0_hw2.2.1.2.2.2.2.2.2.2.2.2.2.2.2.2.2.2.2.2.2.2.2.2.2.1
theorem k0_dev112_lt : ∀ (v13 : BitVec 32) (k0_hw2 : k0_chk2 v13), (k0_dev112 v13) < nD := fun v13 k0_hw2 => k0_hw2.2.1.2.2.2.2.2.2.2.2.2.2.2.2.2.2.2.2.2.2.2.2.2.2.2.1
theorem k0_dev113_lt : ∀ (v13 : BitVec 32) (k0_hw2 : k0_chk2 v13), (k0_dev113 v13) < nD := fun v13 k0_hw2 => k0_hw2.2.1.2.2.2.2.2.2.2.2.2.2.2.2.2.2.2.2.2.2.2.2.2.2.2.2.1
theorem k0_dev116_lt : ∀ (v13 : BitVec 32) (k0_hw2 : k0_chk2 v13), (k0_dev116 v13) < nD := fun v13 k0_hw2 => k0_hw2.2.1.2.2.2.2.2.2.2.2.2.2.2.2.2.2.2.2.2.2.2.2.2.2.2.2.2.1
theorem k0_dev118_lt : ∀ (v13 : BitVec 32) (k0_hw2 : k0_chk2 v13), (k0_dev118 v13) < nD := fun v13 k0_hw2 => k0_hw2.2.1.2.2.2.2.2.2.2.2.2.2.2.2.2.2.2.2.2.2.2.2.2.2.2.2.2.2.1
theorem k0_dev119_lt : ∀ (v13 : BitVec 32) (k0_hw2 : k0_chk2 v13), (k0_dev119 v13) < nD := fun v13 k0_hw2 => k0_hw2.2.1.2.2.2.2.2.2.2.2.2.2.2.2.2.2.2.2.2.2.2.2.2.2.2.2.2.2.2.1
theorem k0_dev122_lt : ∀ (v13 : BitVec 32) (k0_hw2 : k0_chk2 v13), (k0_dev122 v13) < nD := fun v13 k0_hw2 => k0_hw2.2.1.2.2.2.2.2.2.2.2.2.2.2.2.2.2.2.2.2.2.2.2.2.2.2.2.2.2.2.2.1
theorem k0_dev124_lt : ∀ (v13 : BitVec 32) (k0_hw2 : k0_chk2 v13), (k0_dev124 v13) < nD := fun v13 k0_hw2 => k0_hw2.2.1.2.2.2.2.2.2.2.2.2.2.2.2.2.2.2.2.2.2.2.2.2.2.2.2.2.2.2.2.2.1
theorem k0_dev125_lt : ∀ (v13 : BitVec 32) (k0_hw2 : k0_chk2 v13), (k0_dev125 v13) < nD := fun v13 k0_hw2 => k0_hw2.2.1.2.2.2.2.2.2.2.2.2.2.2.2.2.2.2.2.2.2.2.2.2.2.2.2.2.2.2.2.2.2.1
theorem k0_dev128_lt : ∀ (v13 : BitVec 32) (k0_hw2 : k0_chk2 v13), (k0_dev128 v13) < nD := fun v13 k0_hw2 => k0_hw2.2.1.2.2.2.2.2.2.2.2.2.2.2.2.2.2.2.2.2.2.2.2.2.2.2.2.2.2.2.2.2.2.2
theorem k0_dev130_lt : ∀ (v13 : BitVec 32) (k0_hw2 : k0_chk2 v13), (k0_dev130 v13) < nD := fun v13 k0_hw2 => k0_hw2.2.2.1
theorem k0_dev131_lt : ∀ (v13 : BitVec 32) (k0_hw2 : k0_chk2 v13), (k0_dev131 v13) < nD := fun v13 k0_hw2 => k0_hw2.2.2.2.1
theorem k0_dev134_lt : ∀ (v13 : BitVec 32) (k0_hw2 : k0_chk2 v13), (k0_dev134 v13) < nD := fun v13 k0_hw2 => k0_hw2.2.2.2.2.1
theorem k0_dev136_lt : ∀ (v13 : BitVec 32) (k0_hw2 : k0_chk2 v13), (k0_dev136 v13) < nD := fun v13 k0_hw2 => k0_hw2.2.2.2.2.2.1
theorem k0_dev137_lt : ∀ (v13 : BitVec 32) (k0_hw2 : k0_chk2 v13), (k0_dev137 v13) < nD := fun v13 k0_hw2 => k0_hw2.2.2.2.2.2.2.1
theorem k0_dev140_lt : ∀ (v13 : BitVec 32) (k0_hw2 : k0_chk2 v13), (k0_dev140 v13) < nD := fun v13 k0_hw2 => k0_hw2.2.2.2.2.2.2.2.1
theorem k0_dev142_lt : ∀ (v13 : BitVec 32) (k0_hw2 : k0_chk2 v13), (k0_dev142 v13) < nD := fun v13 k0_hw2 => k0_hw2.2.2.2.2.2.2.2.2.1
theorem k0_dev143_lt : ∀ (v13 : BitVec 32) (k0_hw2 : k0_chk2 v13), (k0_dev143 v13) < nD := fun v13 k0_hw2 => k0_hw2.2.2.2.2.2.2.2.2.2.1
theorem k0_dev146_lt : ∀ (v13 : BitVec 32) (k0_hw2 : k0_chk2 v13), (k0_dev146 v13) < nD := fun v13 k0_hw2 => k0_hw2.2.2.2.2.2.2.2.2.2.2.1
theorem k0_dev148_lt : ∀ (v13 : BitVec 32) (k0_hw2 : k0_chk2 v13), (k0_dev148 v13) < nD := fun v13 k0_hw2 => k0_hw2.2.2.2.2.2.2.2.2.2.2.2.1
theorem k0_dev149_lt : ∀ (v13 : BitVec 32) (k0_hw2 : k0_chk2 v13), (k0_dev149 v13) < nD := fun v13 k0_hw2 => k0_hw2.2.2.2.2.2.2.2.2.2.2.2.2.1
theorem k0_dev152_lt : ∀ (v13 : BitVec 32) (k0_hw2 : k0_chk2 v13), (k0_dev152 v13) < nD := fun v13 k0_hw2 => k0_hw2.2.2.2.2.2.2.2.2.2.2.2.2.2.1
theorem k0_dev154_lt : ∀ (v13 : BitVec 32) (k0_hw2 : k0_chk2 v13), (k0_dev154 v13) < nD := fun v13 k0_hw2 => k0_hw2.2.2.2.2.2.2.2.2.2.2.2.2.2.2.1
theorem k0_dev155_lt : ∀ (v13 : BitVec 32) (k0_hw2 : k0_chk2 v13), (k0_dev155 v13) < nD := fun v13 k0_hw2 => k0_hw2.2.2.2.2.2.2.2.2.2.2.2.2.2.2.2.1
theorem k0_dev158_lt : ∀ (v13 : BitVec 32) (k0_hw2 : k0_chk2 v13), (k0_dev158 v13) < nD := fun v13 k0_hw2 => k0_hw2.2.2.2.2.2.2.2.2.2.2.2.2.2.2.2.2.1
theorem k0_dev160_lt : ∀ (v13 : BitVec 32) (k0_hw2 : k0_chk2 v13), (k0_dev160 v13) < nD := fun v13 k0_hw2 => k0_hw2.2.2.2.2.2.2.2.2.2.2.2.2.2.2.2.2.2.1
theorem k0_dev161_lt : ∀ (v13 : BitVec 32) (k0_hw2 : k0_chk2 v13), (k0_dev161 v13) < nD := fun v13 k0_hw2 => k0_hw2.2.2.2.2.2.2.2.2.2.2.2.2.2.2.2.2.2.2.1
theorem k0_dev164_lt : ∀ (v13 : BitVec 32) (k0_hw2 : k0_chk2 v13), (k0_dev164 v13) < nD := fun v13 k0_hw2 => k0_hw2.2.2.2.2.2.2.2.2.2.2.2.2.2.2.2.2.2.2.2.1
theorem k0_dev166_lt : ∀ (v13 : BitVec 32) (k0_hw2 : k0_chk2 v13), (k0_dev166 v13) < nD := fun v13 k0_hw2 => k0_hw2.2.2.2.2.2.2.2.2.2.2.2.2.2.2.2.2.2.2.2.2.1
theorem k0_dev167_lt : ∀ (v13 : BitVec 32) (k0_hw2 : k0_chk2 v13), (k0_dev167 v13) < nD := fun v13 k0_hw2 => k0_hw2.2.2.2.2.2.2.2.2.2.2.2.2.2.2.2.2.2.2.2.2.2.1
theorem k0_dev170_lt : ∀ (v13 : BitVec 32) (k0_hw2 : k0_chk2 v13), (k0_dev170 v13) < nD := fun v13 k0_hw2 => k0_hw2.2.2.2.2.2.2.2.2.2.2.2.2.2.2.2.2.2.2.2.2.2.2.1
theorem k0_dev172_lt : ∀ (v13 : BitVec 32) (k0_hw2 : k0_chk2 v13), (k0_dev172 v13) < nD := fun v13 k0_hw2 => k0_hw2.2.2.2.2.2.2.2.2.2.2.2.2.2.2.2.2.2.2.2.2.2.2.2.1
theorem k0_dev173_lt : ∀ (v13 : BitVec 32) (k0_hw2 : k0_chk2 v13), (k0_dev173 v13) < nD := fun v13 k0_hw2 => k0_hw2.2.2.2.2.2.2.2.2.2.2.2.2.2.2.2.2.2.2.2.2.2.2.2.2.1
theorem k0_dev176_lt : ∀ (v13 : BitVec 32) (k0_hw2 : k0_chk2 v13), (k0_dev176 v13) < nD := fun v13 k0_hw2 => k0_hw2.2.2.2.2.2.2.2.2.2.2.2.2.2.2.2.2.2.2.2.2.2.2.2.2.2.1
theorem k0_dev178_lt : ∀ (v13 : BitVec 32) (k0_hw2 : k0_chk2 v13), (k0_dev178 v13) < nD := fun v13 k0_hw2 => k0_hw2.2.2.2.2.2.2.2.2.2.2.2.2.2.2.2.2.2.2.2.2.2.2.2.2.2.2.1
theorem k0_dev179_lt : ∀ (v13 : BitVec 32) (k0_hw2 : k0_chk2 v13), (k0_dev179 v13) < nD := fun v13 k0_hw2 => k0_hw2.2.2.2.2.2.2.2.2.2.2.2.2.2.2.2.2.2.2.2.2.2.2.2.2.2.2.2.1
theorem k0_dev182_lt : ∀ (v13 : BitVec 32) (k0_hw2 : k0_chk2 v13), (k0_dev182 v13) < nD := fun v13 k0_hw2 => k0_hw2.2.2.2.2.2.2.2.2.2.2.2.2.2.2.2.2.2.2.2.2.2.2.2.2.2.2.2.2.1
theorem k0_dev184_lt : ∀ (v13 : BitVec 32) (k0_hw2 : k0_chk2 v13), (k0_dev184 v13) < nD := fun v13 k0_hw2 => k0_hw2.2.2.2.2.2.2.2.2.2.2.2.2.2.2.2.2.2.2.2.2.2.2.2.2.2.2.2.2.2

def k0_off121 (v4 : BitVec 32) : Fin 1 → Nat :=
  let c32_i32_5067 : BitVec 32 := 32#32
  let v3863 : BitVec 32 := Scalar.addi v4 c32_i32_5067
  let c1_i32_5068 : BitVec 32 := 1#32
  let v3864 : BitVec 32 := Scalar.subi v3863 c1_i32_5068
  let c29_i32 : BitVec 32 := 29#32
  let v3865 : BitVec 32 := Scalar.subi v3864 c29_i32
  let c32_i32_5069 : BitVec 32 := 32#32
  let v3866 : BitVec 32 := Scalar.remsi v3865 c32_i32_5069
  let v3867 : Index := Scalar.indexCast v3866
  ![v3867.toNat]
def k0_off122 (v4 : BitVec 32) : Fin 1 → Nat :=
  let c1_i32_5070 : BitVec 32 := 1#32
  let v3869 : BitVec 32 := Scalar.addi v4 c1_i32_5070
  let c29_i32_5071 : BitVec 32 := 29#32
  let v3870 : BitVec 32 := Scalar.addi v3869 c29_i32_5071
  let c32_i32_5072 : BitVec 32 := 32#32
  let v3871 : BitVec 32 := Scalar.remsi v3870 c32_i32_5072
  let v3872 : Index := Scalar.indexCast v3871
  ![v3872.toNat]
def k0_off123 (v3868 : BitVec 32) : Fin 2 → Nat :=
  let c256_i32_5076 : BitVec 32 := 256#32
  let v3876 : BitVec 32 := Scalar.muli v3868 c256_i32_5076
  let v3880 : Index := Scalar.indexCast v3876
  let c0_5078 : Index := 0#32
  ![v3880.toNat, 0]

def k0_chk62 (v3868 : BitVec 32) : Prop :=
  (∀ a, (k0_off123 v3868) a + S128x128.size a ≤ S8192x128.size a)
theorem k0_off123_inb : ∀ (v3868 : BitVec 32) (k0_hw62 : k0_chk62 v3868), ∀ a, (k0_off123 v3868) a + S128x128.size a ≤ S8192x128.size a := fun v3868 k0_hw62 => k0_hw62

def k0_off124 (v3873 : BitVec 32) : Fin 2 → Nat :=
  let c256_i32_5082 : BitVec 32 := 256#32
  let v3884 : BitVec 32 := Scalar.muli v3873 c256_i32_5082
  let c128_i32_5083 : BitVec 32 := 128#32
  let v3885 : BitVec 32 := Scalar.addi v3884 c128_i32_5083
  let v3889 : Index := Scalar.indexCast v3885
  let c0_5085 : Index := 0#32
  ![v3889.toNat, 0]

def k0_chk63 (v3873 : BitVec 32) : Prop :=
  (∀ a, (k0_off124 v3873) a + S128x128.size a ≤ S8192x128.size a)
theorem k0_off124_inb : ∀ (v3873 : BitVec 32) (k0_hw63 : k0_chk63 v3873), ∀ a, (k0_off124 v3873) a + S128x128.size a ≤ S8192x128.size a := fun v3873 k0_hw63 => k0_hw63

def k0_off125 (v4 : BitVec 32) : Fin 1 → Nat :=
  let c32_i32_5178 : BitVec 32 := 32#32
  let v3947 : BitVec 32 := Scalar.addi v4 c32_i32_5178
  let c1_i32_5179 : BitVec 32 := 1#32
  let v3948 : BitVec 32 := Scalar.subi v3947 c1_i32_5179
  let c30_i32 : BitVec 32 := 30#32
  let v3949 : BitVec 32 := Scalar.subi v3948 c30_i32
  let c32_i32_5180 : BitVec 32 := 32#32
  let v3950 : BitVec 32 := Scalar.remsi v3949 c32_i32_5180
  let v3951 : Index := Scalar.indexCast v3950
  ![v3951.toNat]
def k0_off126 (v4 : BitVec 32) : Fin 1 → Nat :=
  let c1_i32_5181 : BitVec 32 := 1#32
  let v3953 : BitVec 32 := Scalar.addi v4 c1_i32_5181
  let c30_i32_5182 : BitVec 32 := 30#32
  let v3954 : BitVec 32 := Scalar.addi v3953 c30_i32_5182
  let c32_i32_5183 : BitVec 32 := 32#32
  let v3955 : BitVec 32 := Scalar.remsi v3954 c32_i32_5183
  let v3956 : Index := Scalar.indexCast v3955
  ![v3956.toNat]

def k0_chk1_0 (v4 : BitVec 32) : Prop :=
  (∀ a, (k0_off2 v4) a + S1.size a ≤ S32.size a) ∧
  (∀ a, (k0_off3 v4) a + S1.size a ≤ S32.size a) ∧
  (∀ a, (k0_off5 v4) a + S1.size a ≤ S32.size a) ∧
  (∀ a, (k0_off6 v4) a + S1.size a ≤ S32.size a) ∧
  (∀ a, (k0_off9 v4) a + S1.size a ≤ S32.size a) ∧
  (∀ a, (k0_off10 v4) a + S1.size a ≤ S32.size a) ∧
  (∀ a, (k0_off13 v4) a + S1.size a ≤ S32.size a) ∧
  (∀ a, (k0_off14 v4) a + S1.size a ≤ S32.size a) ∧
  (∀ a, (k0_off17 v4) a + S1.size a ≤ S32.size a) ∧
  (∀ a, (k0_off18 v4) a + S1.size a ≤ S32.size a) ∧
  (∀ a, (k0_off21 v4) a + S1.size a ≤ S32.size a) ∧
  (∀ a, (k0_off22 v4) a + S1.size a ≤ S32.size a) ∧
  (∀ a, (k0_off25 v4) a + S1.size a ≤ S32.size a) ∧
  (∀ a, (k0_off26 v4) a + S1.size a ≤ S32.size a) ∧
  (∀ a, (k0_off29 v4) a + S1.size a ≤ S32.size a) ∧
  (∀ a, (k0_off30 v4) a + S1.size a ≤ S32.size a) ∧
  (∀ a, (k0_off33 v4) a + S1.size a ≤ S32.size a) ∧
  (∀ a, (k0_off34 v4) a + S1.size a ≤ S32.size a) ∧
  (∀ a, (k0_off37 v4) a + S1.size a ≤ S32.size a) ∧
  (∀ a, (k0_off38 v4) a + S1.size a ≤ S32.size a) ∧
  (∀ a, (k0_off41 v4) a + S1.size a ≤ S32.size a) ∧
  (∀ a, (k0_off42 v4) a + S1.size a ≤ S32.size a) ∧
  (∀ a, (k0_off45 v4) a + S1.size a ≤ S32.size a) ∧
  (∀ a, (k0_off46 v4) a + S1.size a ≤ S32.size a) ∧
  (∀ a, (k0_off49 v4) a + S1.size a ≤ S32.size a) ∧
  (∀ a, (k0_off50 v4) a + S1.size a ≤ S32.size a) ∧
  (∀ a, (k0_off53 v4) a + S1.size a ≤ S32.size a) ∧
  (∀ a, (k0_off54 v4) a + S1.size a ≤ S32.size a) ∧
  (∀ a, (k0_off57 v4) a + S1.size a ≤ S32.size a) ∧
  (∀ a, (k0_off58 v4) a + S1.size a ≤ S32.size a) ∧
  (∀ a, (k0_off61 v4) a + S1.size a ≤ S32.size a) ∧
  (∀ a, (k0_off62 v4) a + S1.size a ≤ S32.size a)
def k0_chk1_1 (v4 : BitVec 32) : Prop :=
  (∀ a, (k0_off65 v4) a + S1.size a ≤ S32.size a) ∧
  (∀ a, (k0_off66 v4) a + S1.size a ≤ S32.size a) ∧
  (∀ a, (k0_off69 v4) a + S1.size a ≤ S32.size a) ∧
  (∀ a, (k0_off70 v4) a + S1.size a ≤ S32.size a) ∧
  (∀ a, (k0_off73 v4) a + S1.size a ≤ S32.size a) ∧
  (∀ a, (k0_off74 v4) a + S1.size a ≤ S32.size a) ∧
  (∀ a, (k0_off77 v4) a + S1.size a ≤ S32.size a) ∧
  (∀ a, (k0_off78 v4) a + S1.size a ≤ S32.size a) ∧
  (∀ a, (k0_off81 v4) a + S1.size a ≤ S32.size a) ∧
  (∀ a, (k0_off82 v4) a + S1.size a ≤ S32.size a) ∧
  (∀ a, (k0_off85 v4) a + S1.size a ≤ S32.size a) ∧
  (∀ a, (k0_off86 v4) a + S1.size a ≤ S32.size a) ∧
  (∀ a, (k0_off89 v4) a + S1.size a ≤ S32.size a) ∧
  (∀ a, (k0_off90 v4) a + S1.size a ≤ S32.size a) ∧
  (∀ a, (k0_off93 v4) a + S1.size a ≤ S32.size a) ∧
  (∀ a, (k0_off94 v4) a + S1.size a ≤ S32.size a) ∧
  (∀ a, (k0_off97 v4) a + S1.size a ≤ S32.size a) ∧
  (∀ a, (k0_off98 v4) a + S1.size a ≤ S32.size a) ∧
  (∀ a, (k0_off101 v4) a + S1.size a ≤ S32.size a) ∧
  (∀ a, (k0_off102 v4) a + S1.size a ≤ S32.size a) ∧
  (∀ a, (k0_off105 v4) a + S1.size a ≤ S32.size a) ∧
  (∀ a, (k0_off106 v4) a + S1.size a ≤ S32.size a) ∧
  (∀ a, (k0_off109 v4) a + S1.size a ≤ S32.size a) ∧
  (∀ a, (k0_off110 v4) a + S1.size a ≤ S32.size a) ∧
  (∀ a, (k0_off113 v4) a + S1.size a ≤ S32.size a) ∧
  (∀ a, (k0_off114 v4) a + S1.size a ≤ S32.size a) ∧
  (∀ a, (k0_off117 v4) a + S1.size a ≤ S32.size a) ∧
  (∀ a, (k0_off118 v4) a + S1.size a ≤ S32.size a) ∧
  (∀ a, (k0_off121 v4) a + S1.size a ≤ S32.size a) ∧
  (∀ a, (k0_off122 v4) a + S1.size a ≤ S32.size a) ∧
  (∀ a, (k0_off125 v4) a + S1.size a ≤ S32.size a) ∧
  (∀ a, (k0_off126 v4) a + S1.size a ≤ S32.size a)
def k0_chk1 (v4 : BitVec 32) : Prop :=
  k0_chk1_0 v4 ∧
  k0_chk1_1 v4
theorem k0_off2_inb : ∀ (v4 : BitVec 32) (k0_hw1 : k0_chk1 v4), ∀ a, (k0_off2 v4) a + S1.size a ≤ S32.size a := fun v4 k0_hw1 => k0_hw1.1.1
theorem k0_off3_inb : ∀ (v4 : BitVec 32) (k0_hw1 : k0_chk1 v4), ∀ a, (k0_off3 v4) a + S1.size a ≤ S32.size a := fun v4 k0_hw1 => k0_hw1.1.2.1
theorem k0_off5_inb : ∀ (v4 : BitVec 32) (k0_hw1 : k0_chk1 v4), ∀ a, (k0_off5 v4) a + S1.size a ≤ S32.size a := fun v4 k0_hw1 => k0_hw1.1.2.2.1
theorem k0_off6_inb : ∀ (v4 : BitVec 32) (k0_hw1 : k0_chk1 v4), ∀ a, (k0_off6 v4) a + S1.size a ≤ S32.size a := fun v4 k0_hw1 => k0_hw1.1.2.2.2.1
theorem k0_off9_inb : ∀ (v4 : BitVec 32) (k0_hw1 : k0_chk1 v4), ∀ a, (k0_off9 v4) a + S1.size a ≤ S32.size a := fun v4 k0_hw1 => k0_hw1.1.2.2.2.2.1
theorem k0_off10_inb : ∀ (v4 : BitVec 32) (k0_hw1 : k0_chk1 v4), ∀ a, (k0_off10 v4) a + S1.size a ≤ S32.size a := fun v4 k0_hw1 => k0_hw1.1.2.2.2.2.2.1
theorem k0_off13_inb : ∀ (v4 : BitVec 32) (k0_hw1 : k0_chk1 v4), ∀ a, (k0_off13 v4) a + S1.size a ≤ S32.size a := fun v4 k0_hw1 => k0_hw1.1.2.2.2.2.2.2.1
theorem k0_off14_inb : ∀ (v4 : BitVec 32) (k0_hw1 : k0_chk1 v4), ∀ a, (k0_off14 v4) a + S1.size a ≤ S32.size a := fun v4 k0_hw1 => k0_hw1.1.2.2.2.2.2.2.2.1
theorem k0_off17_inb : ∀ (v4 : BitVec 32) (k0_hw1 : k0_chk1 v4), ∀ a, (k0_off17 v4) a + S1.size a ≤ S32.size a := fun v4 k0_hw1 => k0_hw1.1.2.2.2.2.2.2.2.2.1
theorem k0_off18_inb : ∀ (v4 : BitVec 32) (k0_hw1 : k0_chk1 v4), ∀ a, (k0_off18 v4) a + S1.size a ≤ S32.size a := fun v4 k0_hw1 => k0_hw1.1.2.2.2.2.2.2.2.2.2.1
theorem k0_off21_inb : ∀ (v4 : BitVec 32) (k0_hw1 : k0_chk1 v4), ∀ a, (k0_off21 v4) a + S1.size a ≤ S32.size a := fun v4 k0_hw1 => k0_hw1.1.2.2.2.2.2.2.2.2.2.2.1
theorem k0_off22_inb : ∀ (v4 : BitVec 32) (k0_hw1 : k0_chk1 v4), ∀ a, (k0_off22 v4) a + S1.size a ≤ S32.size a := fun v4 k0_hw1 => k0_hw1.1.2.2.2.2.2.2.2.2.2.2.2.1
theorem k0_off25_inb : ∀ (v4 : BitVec 32) (k0_hw1 : k0_chk1 v4), ∀ a, (k0_off25 v4) a + S1.size a ≤ S32.size a := fun v4 k0_hw1 => k0_hw1.1.2.2.2.2.2.2.2.2.2.2.2.2.1
theorem k0_off26_inb : ∀ (v4 : BitVec 32) (k0_hw1 : k0_chk1 v4), ∀ a, (k0_off26 v4) a + S1.size a ≤ S32.size a := fun v4 k0_hw1 => k0_hw1.1.2.2.2.2.2.2.2.2.2.2.2.2.2.1
theorem k0_off29_inb : ∀ (v4 : BitVec 32) (k0_hw1 : k0_chk1 v4), ∀ a, (k0_off29 v4) a + S1.size a ≤ S32.size a := fun v4 k0_hw1 => k0_hw1.1.2.2.2.2.2.2.2.2.2.2.2.2.2.2.1
theorem k0_off30_inb : ∀ (v4 : BitVec 32) (k0_hw1 : k0_chk1 v4), ∀ a, (k0_off30 v4) a + S1.size a ≤ S32.size a := fun v4 k0_hw1 => k0_hw1.1.2.2.2.2.2.2.2.2.2.2.2.2.2.2.2.1
theorem k0_off33_inb : ∀ (v4 : BitVec 32) (k0_hw1 : k0_chk1 v4), ∀ a, (k0_off33 v4) a + S1.size a ≤ S32.size a := fun v4 k0_hw1 => k0_hw1.1.2.2.2.2.2.2.2.2.2.2.2.2.2.2.2.2.1
theorem k0_off34_inb : ∀ (v4 : BitVec 32) (k0_hw1 : k0_chk1 v4), ∀ a, (k0_off34 v4) a + S1.size a ≤ S32.size a := fun v4 k0_hw1 => k0_hw1.1.2.2.2.2.2.2.2.2.2.2.2.2.2.2.2.2.2.1
theorem k0_off37_inb : ∀ (v4 : BitVec 32) (k0_hw1 : k0_chk1 v4), ∀ a, (k0_off37 v4) a + S1.size a ≤ S32.size a := fun v4 k0_hw1 => k0_hw1.1.2.2.2.2.2.2.2.2.2.2.2.2.2.2.2.2.2.2.1
theorem k0_off38_inb : ∀ (v4 : BitVec 32) (k0_hw1 : k0_chk1 v4), ∀ a, (k0_off38 v4) a + S1.size a ≤ S32.size a := fun v4 k0_hw1 => k0_hw1.1.2.2.2.2.2.2.2.2.2.2.2.2.2.2.2.2.2.2.2.1
theorem k0_off41_inb : ∀ (v4 : BitVec 32) (k0_hw1 : k0_chk1 v4), ∀ a, (k0_off41 v4) a + S1.size a ≤ S32.size a := fun v4 k0_hw1 => k0_hw1.1.2.2.2.2.2.2.2.2.2.2.2.2.2.2.2.2.2.2.2.2.1
theorem k0_off42_inb : ∀ (v4 : BitVec 32) (k0_hw1 : k0_chk1 v4), ∀ a, (k0_off42 v4) a + S1.size a ≤ S32.size a := fun v4 k0_hw1 => k0_hw1.1.2.2.2.2.2.2.2.2.2.2.2.2.2.2.2.2.2.2.2.2.2.1
theorem k0_off45_inb : ∀ (v4 : BitVec 32) (k0_hw1 : k0_chk1 v4), ∀ a, (k0_off45 v4) a + S1.size a ≤ S32.size a := fun v4 k0_hw1 => k0_hw1.1.2.2.2.2.2.2.2.2.2.2.2.2.2.2.2.2.2.2.2.2.2.2.1
theorem k0_off46_inb : ∀ (v4 : BitVec 32) (k0_hw1 : k0_chk1 v4), ∀ a, (k0_off46 v4) a + S1.size a ≤ S32.size a := fun v4 k0_hw1 => k0_hw1.1.2.2.2.2.2.2.2.2.2.2.2.2.2.2.2.2.2.2.2.2.2.2.2.1
theorem k0_off49_inb : ∀ (v4 : BitVec 32) (k0_hw1 : k0_chk1 v4), ∀ a, (k0_off49 v4) a + S1.size a ≤ S32.size a := fun v4 k0_hw1 => k0_hw1.1.2.2.2.2.2.2.2.2.2.2.2.2.2.2.2.2.2.2.2.2.2.2.2.2.1
theorem k0_off50_inb : ∀ (v4 : BitVec 32) (k0_hw1 : k0_chk1 v4), ∀ a, (k0_off50 v4) a + S1.size a ≤ S32.size a := fun v4 k0_hw1 => k0_hw1.1.2.2.2.2.2.2.2.2.2.2.2.2.2.2.2.2.2.2.2.2.2.2.2.2.2.1
theorem k0_off53_inb : ∀ (v4 : BitVec 32) (k0_hw1 : k0_chk1 v4), ∀ a, (k0_off53 v4) a + S1.size a ≤ S32.size a := fun v4 k0_hw1 => k0_hw1.1.2.2.2.2.2.2.2.2.2.2.2.2.2.2.2.2.2.2.2.2.2.2.2.2.2.2.1
theorem k0_off54_inb : ∀ (v4 : BitVec 32) (k0_hw1 : k0_chk1 v4), ∀ a, (k0_off54 v4) a + S1.size a ≤ S32.size a := fun v4 k0_hw1 => k0_hw1.1.2.2.2.2.2.2.2.2.2.2.2.2.2.2.2.2.2.2.2.2.2.2.2.2.2.2.2.1
theorem k0_off57_inb : ∀ (v4 : BitVec 32) (k0_hw1 : k0_chk1 v4), ∀ a, (k0_off57 v4) a + S1.size a ≤ S32.size a := fun v4 k0_hw1 => k0_hw1.1.2.2.2.2.2.2.2.2.2.2.2.2.2.2.2.2.2.2.2.2.2.2.2.2.2.2.2.2.1
theorem k0_off58_inb : ∀ (v4 : BitVec 32) (k0_hw1 : k0_chk1 v4), ∀ a, (k0_off58 v4) a + S1.size a ≤ S32.size a := fun v4 k0_hw1 => k0_hw1.1.2.2.2.2.2.2.2.2.2.2.2.2.2.2.2.2.2.2.2.2.2.2.2.2.2.2.2.2.2.1
theorem k0_off61_inb : ∀ (v4 : BitVec 32) (k0_hw1 : k0_chk1 v4), ∀ a, (k0_off61 v4) a + S1.size a ≤ S32.size a := fun v4 k0_hw1 => k0_hw1.1.2.2.2.2.2.2.2.2.2.2.2.2.2.2.2.2.2.2.2.2.2.2.2.2.2.2.2.2.2.2.1
theorem k0_off62_inb : ∀ (v4 : BitVec 32) (k0_hw1 : k0_chk1 v4), ∀ a, (k0_off62 v4) a + S1.size a ≤ S32.size a := fun v4 k0_hw1 => k0_hw1.1.2.2.2.2.2.2.2.2.2.2.2.2.2.2.2.2.2.2.2.2.2.2.2.2.2.2.2.2.2.2.2
theorem k0_off65_inb : ∀ (v4 : BitVec 32) (k0_hw1 : k0_chk1 v4), ∀ a, (k0_off65 v4) a + S1.size a ≤ S32.size a := fun v4 k0_hw1 => k0_hw1.2.1
theorem k0_off66_inb : ∀ (v4 : BitVec 32) (k0_hw1 : k0_chk1 v4), ∀ a, (k0_off66 v4) a + S1.size a ≤ S32.size a := fun v4 k0_hw1 => k0_hw1.2.2.1
theorem k0_off69_inb : ∀ (v4 : BitVec 32) (k0_hw1 : k0_chk1 v4), ∀ a, (k0_off69 v4) a + S1.size a ≤ S32.size a := fun v4 k0_hw1 => k0_hw1.2.2.2.1
theorem k0_off70_inb : ∀ (v4 : BitVec 32) (k0_hw1 : k0_chk1 v4), ∀ a, (k0_off70 v4) a + S1.size a ≤ S32.size a := fun v4 k0_hw1 => k0_hw1.2.2.2.2.1
theorem k0_off73_inb : ∀ (v4 : BitVec 32) (k0_hw1 : k0_chk1 v4), ∀ a, (k0_off73 v4) a + S1.size a ≤ S32.size a := fun v4 k0_hw1 => k0_hw1.2.2.2.2.2.1
theorem k0_off74_inb : ∀ (v4 : BitVec 32) (k0_hw1 : k0_chk1 v4), ∀ a, (k0_off74 v4) a + S1.size a ≤ S32.size a := fun v4 k0_hw1 => k0_hw1.2.2.2.2.2.2.1
theorem k0_off77_inb : ∀ (v4 : BitVec 32) (k0_hw1 : k0_chk1 v4), ∀ a, (k0_off77 v4) a + S1.size a ≤ S32.size a := fun v4 k0_hw1 => k0_hw1.2.2.2.2.2.2.2.1
theorem k0_off78_inb : ∀ (v4 : BitVec 32) (k0_hw1 : k0_chk1 v4), ∀ a, (k0_off78 v4) a + S1.size a ≤ S32.size a := fun v4 k0_hw1 => k0_hw1.2.2.2.2.2.2.2.2.1
theorem k0_off81_inb : ∀ (v4 : BitVec 32) (k0_hw1 : k0_chk1 v4), ∀ a, (k0_off81 v4) a + S1.size a ≤ S32.size a := fun v4 k0_hw1 => k0_hw1.2.2.2.2.2.2.2.2.2.1
theorem k0_off82_inb : ∀ (v4 : BitVec 32) (k0_hw1 : k0_chk1 v4), ∀ a, (k0_off82 v4) a + S1.size a ≤ S32.size a := fun v4 k0_hw1 => k0_hw1.2.2.2.2.2.2.2.2.2.2.1
theorem k0_off85_inb : ∀ (v4 : BitVec 32) (k0_hw1 : k0_chk1 v4), ∀ a, (k0_off85 v4) a + S1.size a ≤ S32.size a := fun v4 k0_hw1 => k0_hw1.2.2.2.2.2.2.2.2.2.2.2.1
theorem k0_off86_inb : ∀ (v4 : BitVec 32) (k0_hw1 : k0_chk1 v4), ∀ a, (k0_off86 v4) a + S1.size a ≤ S32.size a := fun v4 k0_hw1 => k0_hw1.2.2.2.2.2.2.2.2.2.2.2.2.1
theorem k0_off89_inb : ∀ (v4 : BitVec 32) (k0_hw1 : k0_chk1 v4), ∀ a, (k0_off89 v4) a + S1.size a ≤ S32.size a := fun v4 k0_hw1 => k0_hw1.2.2.2.2.2.2.2.2.2.2.2.2.2.1
theorem k0_off90_inb : ∀ (v4 : BitVec 32) (k0_hw1 : k0_chk1 v4), ∀ a, (k0_off90 v4) a + S1.size a ≤ S32.size a := fun v4 k0_hw1 => k0_hw1.2.2.2.2.2.2.2.2.2.2.2.2.2.2.1
theorem k0_off93_inb : ∀ (v4 : BitVec 32) (k0_hw1 : k0_chk1 v4), ∀ a, (k0_off93 v4) a + S1.size a ≤ S32.size a := fun v4 k0_hw1 => k0_hw1.2.2.2.2.2.2.2.2.2.2.2.2.2.2.2.1
theorem k0_off94_inb : ∀ (v4 : BitVec 32) (k0_hw1 : k0_chk1 v4), ∀ a, (k0_off94 v4) a + S1.size a ≤ S32.size a := fun v4 k0_hw1 => k0_hw1.2.2.2.2.2.2.2.2.2.2.2.2.2.2.2.2.1
theorem k0_off97_inb : ∀ (v4 : BitVec 32) (k0_hw1 : k0_chk1 v4), ∀ a, (k0_off97 v4) a + S1.size a ≤ S32.size a := fun v4 k0_hw1 => k0_hw1.2.2.2.2.2.2.2.2.2.2.2.2.2.2.2.2.2.1
theorem k0_off98_inb : ∀ (v4 : BitVec 32) (k0_hw1 : k0_chk1 v4), ∀ a, (k0_off98 v4) a + S1.size a ≤ S32.size a := fun v4 k0_hw1 => k0_hw1.2.2.2.2.2.2.2.2.2.2.2.2.2.2.2.2.2.2.1
theorem k0_off101_inb : ∀ (v4 : BitVec 32) (k0_hw1 : k0_chk1 v4), ∀ a, (k0_off101 v4) a + S1.size a ≤ S32.size a := fun v4 k0_hw1 => k0_hw1.2.2.2.2.2.2.2.2.2.2.2.2.2.2.2.2.2.2.2.1
theorem k0_off102_inb : ∀ (v4 : BitVec 32) (k0_hw1 : k0_chk1 v4), ∀ a, (k0_off102 v4) a + S1.size a ≤ S32.size a := fun v4 k0_hw1 => k0_hw1.2.2.2.2.2.2.2.2.2.2.2.2.2.2.2.2.2.2.2.2.1
theorem k0_off105_inb : ∀ (v4 : BitVec 32) (k0_hw1 : k0_chk1 v4), ∀ a, (k0_off105 v4) a + S1.size a ≤ S32.size a := fun v4 k0_hw1 => k0_hw1.2.2.2.2.2.2.2.2.2.2.2.2.2.2.2.2.2.2.2.2.2.1
theorem k0_off106_inb : ∀ (v4 : BitVec 32) (k0_hw1 : k0_chk1 v4), ∀ a, (k0_off106 v4) a + S1.size a ≤ S32.size a := fun v4 k0_hw1 => k0_hw1.2.2.2.2.2.2.2.2.2.2.2.2.2.2.2.2.2.2.2.2.2.2.1
theorem k0_off109_inb : ∀ (v4 : BitVec 32) (k0_hw1 : k0_chk1 v4), ∀ a, (k0_off109 v4) a + S1.size a ≤ S32.size a := fun v4 k0_hw1 => k0_hw1.2.2.2.2.2.2.2.2.2.2.2.2.2.2.2.2.2.2.2.2.2.2.2.1
theorem k0_off110_inb : ∀ (v4 : BitVec 32) (k0_hw1 : k0_chk1 v4), ∀ a, (k0_off110 v4) a + S1.size a ≤ S32.size a := fun v4 k0_hw1 => k0_hw1.2.2.2.2.2.2.2.2.2.2.2.2.2.2.2.2.2.2.2.2.2.2.2.2.1
theorem k0_off113_inb : ∀ (v4 : BitVec 32) (k0_hw1 : k0_chk1 v4), ∀ a, (k0_off113 v4) a + S1.size a ≤ S32.size a := fun v4 k0_hw1 => k0_hw1.2.2.2.2.2.2.2.2.2.2.2.2.2.2.2.2.2.2.2.2.2.2.2.2.2.1
theorem k0_off114_inb : ∀ (v4 : BitVec 32) (k0_hw1 : k0_chk1 v4), ∀ a, (k0_off114 v4) a + S1.size a ≤ S32.size a := fun v4 k0_hw1 => k0_hw1.2.2.2.2.2.2.2.2.2.2.2.2.2.2.2.2.2.2.2.2.2.2.2.2.2.2.1
theorem k0_off117_inb : ∀ (v4 : BitVec 32) (k0_hw1 : k0_chk1 v4), ∀ a, (k0_off117 v4) a + S1.size a ≤ S32.size a := fun v4 k0_hw1 => k0_hw1.2.2.2.2.2.2.2.2.2.2.2.2.2.2.2.2.2.2.2.2.2.2.2.2.2.2.2.1
theorem k0_off118_inb : ∀ (v4 : BitVec 32) (k0_hw1 : k0_chk1 v4), ∀ a, (k0_off118 v4) a + S1.size a ≤ S32.size a := fun v4 k0_hw1 => k0_hw1.2.2.2.2.2.2.2.2.2.2.2.2.2.2.2.2.2.2.2.2.2.2.2.2.2.2.2.2.1
theorem k0_off121_inb : ∀ (v4 : BitVec 32) (k0_hw1 : k0_chk1 v4), ∀ a, (k0_off121 v4) a + S1.size a ≤ S32.size a := fun v4 k0_hw1 => k0_hw1.2.2.2.2.2.2.2.2.2.2.2.2.2.2.2.2.2.2.2.2.2.2.2.2.2.2.2.2.2.1
theorem k0_off122_inb : ∀ (v4 : BitVec 32) (k0_hw1 : k0_chk1 v4), ∀ a, (k0_off122 v4) a + S1.size a ≤ S32.size a := fun v4 k0_hw1 => k0_hw1.2.2.2.2.2.2.2.2.2.2.2.2.2.2.2.2.2.2.2.2.2.2.2.2.2.2.2.2.2.2.1
theorem k0_off125_inb : ∀ (v4 : BitVec 32) (k0_hw1 : k0_chk1 v4), ∀ a, (k0_off125 v4) a + S1.size a ≤ S32.size a := fun v4 k0_hw1 => k0_hw1.2.2.2.2.2.2.2.2.2.2.2.2.2.2.2.2.2.2.2.2.2.2.2.2.2.2.2.2.2.2.2.1
theorem k0_off126_inb : ∀ (v4 : BitVec 32) (k0_hw1 : k0_chk1 v4), ∀ a, (k0_off126 v4) a + S1.size a ≤ S32.size a := fun v4 k0_hw1 => k0_hw1.2.2.2.2.2.2.2.2.2.2.2.2.2.2.2.2.2.2.2.2.2.2.2.2.2.2.2.2.2.2.2.2

def k0_off127 (v3952 : BitVec 32) : Fin 2 → Nat :=
  let c256_i32_5187 : BitVec 32 := 256#32
  let v3960 : BitVec 32 := Scalar.muli v3952 c256_i32_5187
  let v3964 : Index := Scalar.indexCast v3960
  let c0_5189 : Index := 0#32
  ![v3964.toNat, 0]

def k0_chk64 (v3952 : BitVec 32) : Prop :=
  (∀ a, (k0_off127 v3952) a + S128x128.size a ≤ S8192x128.size a)
theorem k0_off127_inb : ∀ (v3952 : BitVec 32) (k0_hw64 : k0_chk64 v3952), ∀ a, (k0_off127 v3952) a + S128x128.size a ≤ S8192x128.size a := fun v3952 k0_hw64 => k0_hw64

def k0_off128 (v3957 : BitVec 32) : Fin 2 → Nat :=
  let c256_i32_5193 : BitVec 32 := 256#32
  let v3968 : BitVec 32 := Scalar.muli v3957 c256_i32_5193
  let c128_i32_5194 : BitVec 32 := 128#32
  let v3969 : BitVec 32 := Scalar.addi v3968 c128_i32_5194
  let v3973 : Index := Scalar.indexCast v3969
  let c0_5196 : Index := 0#32
  ![v3973.toNat, 0]

def k0_chk65 (v3957 : BitVec 32) : Prop :=
  (∀ a, (k0_off128 v3957) a + S128x128.size a ≤ S8192x128.size a)
theorem k0_off128_inb : ∀ (v3957 : BitVec 32) (k0_hw65 : k0_chk65 v3957), ∀ a, (k0_off128 v3957) a + S128x128.size a ≤ S8192x128.size a := fun v3957 k0_hw65 => k0_hw65

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Prog.lean ====
/- The kernel body written by hops: one hop as a program with its continuation, the thirty-one hops as
   a fold over their numbers, and the printed body equal to it. -/
module

public import proofs.«01_k».proof.Proof.Gen.KernelIdeal.Skeleton

@[expose] public section

noncomputable section

namespace Cert.KernelIdeal.Ring

open Idealize.ShloMosaic Idealize.SL.Sem Cert.KernelIdeal Facts₀ Facts

variable {F : FTy → Type} [FloatOps F] [Facts₀] [Facts]

/-- A program of the body. -/
abbrev BProg (F : FTy → Type) [FloatOps F] (α : Type) := Prog (TpuEff nD τ sig (Elt F) Λ₀ .tc) α

/-- The entry of the table of positions a hop reads in each direction, as the kernel computes it. -/
def offP (d : Bool) (h : ℕ) (v : BitVec 32) : Fin 1 → ℕ :=
  match d with
  | false => ![(Scalar.indexCast (Scalar.remsi (Scalar.subi (Scalar.subi (Scalar.addi v 32#32) 1#32) (BitVec.ofNat 32 h)) 32#32)).toNat]
  | true => ![(Scalar.indexCast (Scalar.remsi (Scalar.addi (Scalar.addi v 1#32) (BitVec.ofNat 32 h)) 32#32)).toNat]

/-- Where in the result a received half block goes, in each direction. -/
def offO (d : Bool) (w : BitVec 32) : Fin 2 → ℕ :=
  match d with
  | false => k0_off7 w
  | true => k0_off8 w

/-- The place lies inside the result. -/
def chkO (d : Bool) (w : BitVec 32) : Prop :=
  match d with
  | false => k0_chk4 w
  | true => k0_chk5 w

instance chkO.dec (d : Bool) (w : BitVec 32) : Decidable (chkO d w) :=
  match d with
  | false => k0_chk4.dec w
  | true => k0_chk5.dec w

theorem offO_inb (d : Bool) (w : BitVec 32) (hw : chkO d w) :
    ∀ a, (offO d w) a + S128x128.size a ≤ S8192x128.size a := by
  cases d
  · exact k0_off7_inb w hw
  · exact k0_off8_inb w hw

/-- The slot a hop's number names. -/
abbrev slot (h : ℕ) : Fin 3 := ⟨h % 3, Nat.mod_lt _ (by decide)⟩

theorem inb_seg (s : Fin 3) (g : Fin 2) :
    ∀ a, (![(s : ℕ), 64 * (g : ℕ), 0] : Fin 3 → ℕ) a + S1x64x8192.size a ≤ S3x128x8192.size a := by
  revert s g; decide

theorem inb_slot (s : Fin 3) :
    ∀ a, (![(s : ℕ), 0, 0] : Fin 3 → ℕ) a + S1x128x8192.size a ≤ S3x128x8192.size a := by
  revert s; decide

theorem inb_sem (s : Fin 3) (g : Fin 2) :
    ∀ a, (![(s : ℕ), (g : ℕ)] : Fin 2 → ℕ) a + S1x1.size a ≤ S3x2.size a := by
  revert s g; decide

/-- A family of facts in both directions from one hop on, as one conjunction. -/
def pairs (P : Bool → ℕ → Prop) : ℕ → ℕ → Prop
  | h, 0 => P false h ∧ P true h
  | h, n + 1 => P false h ∧ P true h ∧ pairs P (h + 1) n

/-- The conjunction gives each of its facts. -/
theorem pairs_get (P : Bool → ℕ → Prop) : ∀ n h, pairs P h n → ∀ k, k ≤ n → ∀ d, P d (h + k) := by
  intro n
  induction n with
  | zero =>
    intro h hp k hk d
    obtain rfl : k = 0 := by omega
    cases d
    · exact hp.1
    · exact hp.2
  | succ n ih =>
    intro h hp k hk d
    cases k with
    | zero =>
      cases d
      · exact hp.1
      · exact hp.2.1
    | succ k =>
      have := ih (h + 1) hp.2.2 k (by omega) d
      rwa [show h + (k + 1) = h + 1 + k by omega]

/-- The checked word keeps every read of the table inside it. -/
theorem offP_inb (v : BitVec 32) (hw : k0_chk1 v) (d : Bool) (h : Fin 31) :
    ∀ a, offP d h v a + S1.size a ≤ S32.size a := by
  have h0 : pairs (fun d h => ∀ a, offP d h v a + S1.size a ≤ S32.size a) 0 14 := hw.1.2.2
  have h1 : pairs (fun d h => ∀ a, offP d h v a + S1.size a ≤ S32.size a) 15 15 := hw.2
  rcases Nat.lt_or_ge h 15 with hh | hh
  · have := pairs_get _ _ _ h0 h (by omega) d
    rwa [Nat.zero_add] at this
  · have := pairs_get _ _ _ h1 ((h : ℕ) - 15) (by omega) d
    rwa [show 15 + ((h : ℕ) - 15) = h by omega] at this

/-- Half a slot of a buffer, as a transfer moves it. -/
abbrev segv (b : Memref sig .tc .vmem S3x128x8192 .f32) (s : Fin 3) (g : Fin 2) : Memref sig .tc .vmem S64x8192 .f32 :=
  (b.slice (Rect.unit (s := S3x128x8192) ![(s : ℕ), 64 * (g : ℕ), 0] S1x64x8192.size (inb_seg s g)) (fun _ => rfl)).squeeze
    S64x8192 squeezes_S1x64x8192_S64x8192

/-- The semaphore of half a slot. -/
abbrev semv (a : DmaSems sig S3x2) (s : Fin 3) (g : Fin 2) : DmaSem sig :=
  ((a.slice (Rect.unit (s := S3x2) ![(s : ℕ), (g : ℕ)] S1x1.size (inb_sem s g))).squeeze S_ squeezes_S1x1_S_).sem

/-- The barrier semaphore. -/
abbrev barSem : Sem sig := (SemArray.scalar (sig.barrier 0 rfl) : Sems sig S_).sem

/-- What the hops read: the two buffers, their semaphores, the tables, the neighbours, the weight block. -/
structure Env (F : FTy → Type) [FloatOps F] where
  buf : Bool → Memref sig .tc .vmem S3x128x8192 .f32
  snd : Bool → DmaSems sig S3x2
  rcv : Bool → DmaSems sig S3x2
  crd : Bool → Sems sig S_
  tbl : Memref sig .tc .smem S32 .i32
  out : Memref sig .tc .vmem S8192x128 .f32
  pos : BitVec 32
  inb : ∀ (d : Bool) (h : Fin 31), ∀ a, offP d h pos a + S1.size a ≤ S32.size a
  tgt : Bool → Dev nD
  wgt : FVec F S8192x128 .f32

variable (E : Env F)

/-- Start transfer `h` of segment `g` in direction `d`. -/
def start {α : Type} (d : Bool) (h : ℕ) (g : Fin 2) (k : BProg F α) : BProg F α :=
  .op (.enqueueDma (segv (E.buf d) (slot h) g)
    (.remote (Dev.tc (E.tgt d)) (segv (E.buf d) (slot (h + 1)) g) (.dma (semv (E.snd d) (slot h) g)))
    (.dma (semv (E.rcv d) (slot (h + 1)) g)) ((View.wordExact_bits rfl).reshape _ _) ((View.wordExact_bits rfl).reshape _ _)
    ⟨⟨rfl, Or.inl rfl⟩, trivial⟩) fun _ => k

/-- Wait until transfer `h` of segment `g` has been read out. -/
def waitSend {α : Type} (d : Bool) (h : ℕ) (g : Fin 2) (k : BProg F α) : BProg F α :=
  .op (.waitDma2 (semv (E.snd d) (slot h) g) (segv (E.buf d) (slot (h + 1)) g) (segv (E.buf d) (slot h) g)
    ((View.wordExact_bits rfl).reshape _ _) ((View.wordExact_bits rfl).reshape _ _)) fun _ => k

/-- Wait until transfer `h` of segment `g` has come in. -/
def waitRecv {α : Type} (d : Bool) (h : ℕ) (g : Fin 2) (k : BProg F α) : BProg F α :=
  .op (.waitDma2 (semv (E.rcv d) (slot (h + 1)) g) (segv (E.buf d) (slot h) g) (segv (E.buf d) (slot (h + 1)) g)
    ((View.wordExact_bits rfl).reshape _ _) ((View.wordExact_bits rfl).reshape _ _)) fun _ => k

/-- Read from the table whose block came in at hop `h` in direction `d`. -/
def origin {α : Type} (d : Bool) (h : Fin 31) (k : (w : BitVec 32) → chkO d w → BProg F α) : BProg F α :=
  smemLoadElt E.tbl (Rect.unit (s := S32) (offP d h E.pos) S1.size (E.inb d h)) (View.loads_smem_one rfl numel1_S1)
    (Shape.Idx.first (numel1_S1.symm ▸ Nat.one_pos)) fun w : Elt F .i32 =>
      .op (TpuEff.assume (chkO d w) (chkO.dec d w)) fun p => k w p.down

/-- The product of half a block with the weight block, times its logistic. -/
def act (x : FVec F S128x8192 .f32) (w : FVec F S8192x128 .f32) : FVec F S128x128 .f32 :=
  mulf (matmul dot_S128x8192_S8192x128_S128x128_1_0_0_1_n_n none x w (constant S128x128 .f32 0x00000000#32))
    (logistic (matmul dot_S128x8192_S8192x128_S128x128_1_0_0_1_n_n none x w (constant S128x128 .f32 0x00000000#32)))

/-- Store the half block that came in at hop `h` in direction `d` where it belongs. -/
def fill {α : Type} (d : Bool) (h : ℕ) (w : BitVec 32) (hw : chkO d w) (k : BProg F α) : BProg F α :=
  .op (.load (E.buf d) (Rect.unit (s := S3x128x8192) ![(slot (h + 1) : ℕ), 0, 0] S1x128x8192.size (inb_slot _)).toLoadRect
    (View.loadsAt_vmem h_S1x128x8192)) fun x : Vec F S1x128x8192 .f32 =>
  .op (.load E.out (Rect.unit (s := S8192x128) (offO d w) S128x128.size (offO_inb d w hw)).toLoadRect
    (View.loadsAt_vmem h_S128x128)) fun _ =>
  .op (.store E.out (Rect.unit (s := S8192x128) (offO d w) S128x128.size (offO_inb d w hw))
    (act (shapeCast S128x8192 x shapeCasts_S1x128x8192_S128x8192) E.wgt) Finset.univ
    (View.stores_vmem_bits_univ h_S128x128 rfl) (.inl rfl)) fun _ => k

/-- The wait for what came in at hop `h` and, but in the last hop, its forwarding. -/
def pass {α : Type} (fwd : Bool) (d : Bool) (h : ℕ) (g : Fin 2) (k : BProg F α) : BProg F α :=
  waitRecv E d h g (match fwd with
    | true => start E d (h + 1) g k
    | false => k)

/-- Tell the neighbours a slot is free, and wait for their word. -/
def credit {α : Type} (k : BProg F α) : BProg F α :=
  .op (.semSignal (E.tgt true, .tc) (E.crd false).sem (1#32 : BitVec 32).toInt) fun _ =>
  .op (.semSignal (E.tgt false, .tc) (E.crd true).sem (1#32 : BitVec 32).toInt) fun _ =>
  .op (.semWait (E.crd false).sem (1#32 : BitVec 32).toInt) fun _ =>
  .op (.semWait (E.crd true).sem (1#32 : BitVec 32).toInt) fun _ => k

/-- The four waits for the transfers of hop `h` to have been read out. -/
def drain {α : Type} (h : ℕ) (k : BProg F α) : BProg F α :=
  waitSend E false h 0 <| waitSend E true h 0 <| waitSend E false h 1 <| waitSend E true h 1 k

/-- The later half of a hop: the waits and forwards, and the two stores. -/
def serve {α : Type} (fwd : Bool) (h : Fin 31) (k : BProg F α) : BProg F α :=
  pass E fwd false h 0 <| pass E fwd true h 0 <| pass E fwd false h 1 <| pass E fwd true h 1 <|
  origin E false h fun w hw => origin E true h fun w' hw' =>
  fill E false h w hw <| fill E true h w' hw' k

/-- A middle hop. -/
def hop {α : Type} (h : Fin 31) (k : BProg F α) : BProg F α :=
  drain E ((h : ℕ) - 1) <| credit E <| serve E true h k

/-- The hops from the first to the last, and the drain of the last transfers. -/
def hops : BProg F PUnit :=
  serve E true 0 <|
  ([1, 2, 3, 4, 5, 6, 7, 8, 9, 10, 11, 12, 13, 14, 15, 16, 17, 18, 19, 20, 21, 22, 23, 24, 25, 26, 27, 28, 29] : List (Fin 31)).foldr
    (fun h k => hop E h k) <|
  drain E 29 <| serve E false 30 <| drain E 30 <| .ret ⟨⟩

/-- The product of the device's own block with its weight block, times its logistic. -/
def act₀ (x : FVec F S256x8192 .f32) (w : FVec F S8192x128 .f32) : FVec F S256x128 .f32 :=
  mulf (matmul dot_S256x8192_S8192x128_S256x128_1_0_0_1_n_n none x w (constant S256x128 .f32 0x00000000#32))
    (logistic (matmul dot_S256x8192_S8192x128_S256x128_1_0_0_1_n_n none x w (constant S256x128 .f32 0x00000000#32)))

/-- Which rows of the device's own block start the ring in direction `d`. -/
abbrev half (d : Bool) : ℕ := match d with
  | false => 0
  | true => 128

theorem inb_half (d : Bool) :
    ∀ a, (![half d, 0] : Fin 2 → ℕ) a + S128x8192.size a ≤ S256x8192.size a := by
  revert d; decide

/-- Copy half of the device's own block into slot 0 of a buffer. -/
def seed {α : Type} (arg2 : Memref sig .tc .vmem S256x8192 .f32) (d : Bool) (b : Memref sig .tc .vmem S3x128x8192 .f32)
    (k : BProg F α) : BProg F α :=
  .op (.load arg2 (Rect.unit (s := S256x8192) ![half d, 0] S128x8192.size (inb_half d)).toLoadRect
    (View.loadsAt_vmem h_S128x8192)) fun x : Vec F S128x8192 .f32 =>
  .op (.load b (Rect.unit (s := S3x128x8192) ![((0 : Fin 3) : ℕ), 0, 0] S1x128x8192.size (inb_slot 0)).toLoadRect
    (View.loadsAt_vmem h_S1x128x8192)) fun _ =>
  .op (.store b (Rect.unit (s := S3x128x8192) ![((0 : Fin 3) : ℕ), 0, 0] S1x128x8192.size (inb_slot 0))
    (shapeCast S1x128x8192 (shapeCast S128x8192 x shapeCasts_S128x8192_S128x8192) shapeCasts_S128x8192_S1x128x8192)
    Finset.univ (View.stores_vmem_bits_univ h_S1x128x8192 rfl) (.inl rfl)) fun _ => k

/-- The start of the ring at a device: both directions' first transfers, and the device's own rows. -/
def launchRing {α : Type} (arg2 : Memref sig .tc .vmem S256x8192 .f32) (c : Dev nD) (k : BProg F α) : BProg F α :=
  start E false 0 0 <| start E true 0 0 <| start E false 0 1 <| start E true 0 1 <|
  .op (.load arg2 (Rect.unit (s := S256x8192) ![0, 0] S256x8192.size inb_S256x8192_S256x8192_0_0).toLoadRect
    (View.loadsAt_vmem h_S256x8192)) fun x : Vec F S256x8192 .f32 =>
  .op (.load E.out (Rect.unit (s := S8192x128) (k0_off4 c) S256x128.size (k0_off4_inb c)).toLoadRect
    (View.loadsAt_vmem h_S256x128)) fun _ =>
  .op (.store E.out (Rect.unit (s := S8192x128) (k0_off4 c) S256x128.size (k0_off4_inb c))
    (act₀ (shapeCast S256x8192 x shapeCasts_S256x8192_S256x8192) E.wgt) Finset.univ
    (View.stores_vmem_bits_univ h_S256x128 rfl) (.inl rfl)) fun _ => k

/-- One word of a table. -/
def word {α : Type} (t : Memref sig .tc .smem S32 .i32) (o : Fin 1 → ℕ) (ho : ∀ a, o a + S1.size a ≤ S32.size a)
    (k : BitVec 32 → BProg F α) : BProg F α :=
  smemLoadElt t (Rect.unit (s := S32) o S1.size ho) (View.loads_smem_one rfl numel1_S1)
    (Shape.Idx.first (numel1_S1.symm ▸ Nat.one_pos)) fun w : Elt F .i32 => k w

/-- The body by hops. -/
def body (arg0 : Memref sig .tc .smem S32 .i32) (arg1 : Memref sig .tc .smem S32 .i32)
    (arg2 : Memref sig .tc .vmem S256x8192 .f32) (arg3 arg4 : Memref sig .tc .vmem S8192x128 .f32)
    (arg5 arg6 : Memref sig .tc .vmem S3x128x8192 .f32) (arg7 arg8 arg9 arg10 : DmaSems sig S3x2)
    (arg11 arg12 : Sems sig S_) : BProg F PUnit :=
  .op .deviceId fun c : Dev nD =>
  word arg1 (k0_off1 c) (k0_off1_inb c) fun v4 =>
  .op (TpuEff.assume (k0_chk1 v4) (k0_chk1.dec v4)) fun p1 =>
  word arg0 (k0_off2 v4) (k0_off2_inb v4 p1.down) fun v8 =>
  .op (TpuEff.assume (k0_chk3 v8) (k0_chk3.dec v8)) fun p3 =>
  word arg0 (k0_off3 v4) (k0_off3_inb v4 p1.down) fun v13 =>
  .op (TpuEff.assume (k0_chk2 v13) (k0_chk2.dec v13)) fun p2 =>
  .op (.semSignal ((⟨k0_dev1 v13, k0_dev1_lt v13 p2.down⟩ : Dev nD), .tc) barSem (1#32 : BitVec 32).toInt) fun _ =>
  .op (.semSignal ((⟨k0_dev2 v8, k0_dev2_lt v8 p3.down⟩ : Dev nD), .tc) barSem (1#32 : BitVec 32).toInt) fun _ =>
  .op (.semWait barSem (2#32 : BitVec 32).toInt) fun _ =>
  .op (.load arg3 (Rect.unit (s := S8192x128) ![0, 0] S8192x128.size inb_S8192x128_S8192x128_0_0).toLoadRect
    (View.loadsAt_vmem h_S8192x128)) fun w : Vec F S8192x128 .f32 =>
  seed arg2 false arg5 <| seed arg2 true arg6 <|
  let E : Env F :=
    { buf := fun d => match d with | false => arg5 | true => arg6
      snd := fun d => match d with | false => arg7 | true => arg9
      rcv := fun d => match d with | false => arg8 | true => arg10
      crd := fun d => match d with | false => arg11 | true => arg12
      tbl := arg0
      out := arg4
      pos := v4
      inb := offP_inb v4 p1.down
      tgt := fun d => match d with
        | false => ⟨k0_dev2 v8, k0_dev2_lt v8 p3.down⟩
        | true => ⟨k0_dev1 v13, k0_dev1_lt v13 p2.down⟩
      wgt := shapeCast S8192x128 w shapeCasts_S8192x128_S8192x128 }
  launchRing E arg2 c <| hops E

set_option maxRecDepth 200000 in
set_option maxHeartbeats 0 in
/-- The printed body is the body by hops. -/
theorem cc0_body_eq (arg0 : Memref sig .tc .smem S32 .i32) (harg0 : arg0.IsWhole) (arg1 : Memref sig .tc .smem S32 .i32) (harg1 : arg1.IsWhole) (arg2 : Memref sig .tc .vmem S256x8192 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S3x128x8192 .f32) (harg5 : arg5.IsWhole) (arg6 : Memref sig .tc .vmem S3x128x8192 .f32) (harg6 : arg6.IsWhole) (arg7 : DmaSems sig S3x2) (arg8 : DmaSems sig S3x2) (arg9 : DmaSems sig S3x2) (arg10 : DmaSems sig S3x2) (arg11 : Sems sig S_) (arg12 : Sems sig S_) :
    cc0_body (F := F) arg0 harg0 arg1 harg1 arg2 harg2 arg3 harg3 arg4 harg4 arg5 harg5 arg6 harg6 arg7 arg8 arg9 arg10 arg11 arg12
      = body arg0 arg1 arg2 arg3 arg4 arg5 arg6 arg7 arg8 arg9 arg10 arg11 arg12 := rfl

end Cert.KernelIdeal.Ring
-- ==== Proof.Peers.lean ====
/- The ring the two tables describe: each device's seat, its neighbours in both directions, and the device whose
   block reaches it by a given hop, with what the kernel assumes of the words it reads. -/
module

public import proofs.«01_k».proof.Proof.Prog
public import proofs.«01_k».proof.Proof.Gen.KernelIdeal.Launch

@[expose] public section

noncomputable section

namespace Cert.KernelIdeal.Ring

open Idealize.ShloMosaic Idealize.SL.Sem Cert.KernelIdeal

/-- A device's position on the ring, as its table of positions names it. -/
def seat (c : Dev nD) : BitVec 32 := lit1 c

/-- The device at a position of the ring, as the table of devices names it. -/
def occupant (i : ℕ) : BitVec 32 := lit0 ⟨i % 32, Nat.mod_lt _ (by decide)⟩

/-- The words naming the next and the previous device. -/
def rgt (c : Dev nD) : BitVec 32 := occupant (k0_off2 (seat c) 0)
def lft (c : Dev nD) : BitVec 32 := occupant (k0_off3 (seat c) 0)

/-- The words the kernel reads pass its checks. -/
theorem chk_seat : ∀ c : Dev nD, k0_chk1 (seat c) := by decide +kernel
theorem chk_rgt : ∀ c : Dev nD, k0_chk3 (rgt c) := by decide +kernel
theorem chk_lft : ∀ c : Dev nD, k0_chk2 (lft c) := by decide +kernel

/-- Where a device sends in each direction. -/
def nx (c : Dev nD) (d : Bool) : Dev nD :=
  match d with
  | false => ⟨k0_dev2 (rgt c), k0_dev2_lt _ (chk_rgt c)⟩
  | true => ⟨k0_dev1 (lft c), k0_dev1_lt _ (chk_lft c)⟩

/-- Going one way and back is staying. -/
theorem nx_nx : ∀ (c : Dev nD) (d : Bool), nx (nx c d) (!d) = c := by decide +kernel
theorem nx_nx' (c : Dev nD) (d : Bool) : nx (nx c (!d)) d = c := by
  have := nx_nx c (!d); rwa [Bool.not_not] at this
theorem nx_inj (d : Bool) : Function.Injective (nx · d) := fun a b h => by
  have h' : nx a d = nx b d := h
  rw [← nx_nx a d, h', nx_nx]

/-- Moving every device one place is a rearrangement of the devices. -/
def shift (d : Bool) : Dev nD ≃ Dev nD where
  toFun c := nx c d
  invFun c := nx c (!d)
  left_inv c := nx_nx c d
  right_inv c := nx_nx' c d

/-- The device whose block stands `i` places behind in direction `d`. -/
def orig (d : Bool) : ℕ → Dev nD → Dev nD
  | 0, c => c
  | i + 1, c => orig d i (nx c (!d))

theorem orig_nx (d : Bool) (i : ℕ) (c : Dev nD) : orig d (i + 1) (nx c d) = orig d i c := by
  show orig d i (nx (nx c d) (!d)) = _
  rw [nx_nx]

/-- The word a hop reads for the origin of what came in. -/
def orgW (c : Dev nD) (d : Bool) (h : ℕ) : BitVec 32 := occupant (offP d h (seat c) 0)

/-- It names the device the block came from. -/
theorem orgW_eq : ∀ (c : Dev nD) (d : Bool) (h : Fin 31), orgW c d h = BitVec.ofNat 32 (orig d (h + 1) c).val := by
  decide +kernel

/-- A device's word passes the check of the place where its rows go, and the place is its rows'. -/
theorem chk_dev : ∀ (e : Dev nD) (d : Bool), chkO d (BitVec.ofNat 32 e.val) := by decide +kernel
theorem offO_dev : ∀ (e : Dev nD) (d : Bool), offO d (BitVec.ofNat 32 e.val) = ![256 * e.val + half d, 0] := by
  decide +kernel

theorem chk_org (c : Dev nD) (d : Bool) (h : Fin 31) : chkO d (orgW c d h) := by
  rw [orgW_eq]; exact chk_dev _ d
theorem offO_org (c : Dev nD) (d : Bool) (h : Fin 31) :
    offO d (orgW c d h) = ![256 * (orig d (h + 1) c).val + half d, 0] := by
  rw [orgW_eq]; exact offO_dev _ d

/-- The device's own rows. -/
theorem off_own : ∀ c : Dev nD, k0_off4 c = ![256 * c.val, 0] := by decide +kernel

/-- The kernel's table reads land at these places. -/
theorem off_seat : ∀ c : Dev nD, k0_off1 c 0 = c.val := by decide +kernel

/-- Every other device's block comes by in each direction. -/
theorem orig_onto : ∀ (c : Dev nD) (d : Bool) (e : Dev nD), e = c ∨ ∃ h : Fin 31, orig d (h + 1) c = e := by
  decide +kernel

end Cert.KernelIdeal.Ring
-- ==== Proof.Sched.lean ====
/- The protocol of the ring: the cells by kind, the rounds they run, what each signal and transfer hands over, what every
   device owes at launch, and the levels that order the waits. -/
module

public import proofs.«01_k».proof.Proof.Peers
public import proofs.«01_k».proof.Proof.Gen.KernelIdeal.Frame
public import Idealize.ShloMosaic.Lib.Release

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F]

/-! ## The algebra: the pipeline's rounds, the ring's rounds, and the slots' releases -/

/-- A slot segment as a destination: its reader, the direction, the transfer that fills it, the segment. -/
abbrev Key : Type := Dev nD × Bool × ℕ × Fin 2

abbrev UP : Type := URounds (GSem nD τ sig) Unit
abbrev UQ : Type := URounds (GSem nD τ sig) ℕ
def UU : Type := UP × (UQ × USlots Key)
instance UU.ura : URA UU := inferInstanceAs (URA (UP × (UQ × USlots Key)))

local notation "𝕄" => MT nD τ sig ℕ (Elt F) ℕ UU ℕ

/-- The embedding of the pipeline's part; -/
def EP : Emb UP (MT nD τ sig ℕ (Elt F) ℕ UU ℕ) := (embL : Emb UP (MT nD τ sig ℕ (Elt F) ℕ (UP × (UQ × USlots Key)) ℕ))
/-- of the ring's rounds; -/
def ER : Emb UQ (MT nD τ sig ℕ (Elt F) ℕ UU ℕ) :=
  (Emb.inl : Emb UQ (UQ × USlots Key)).trans (embR : Emb (UQ × USlots Key) (MT nD τ sig ℕ (Elt F) ℕ (UP × (UQ × USlots Key)) ℕ))
/-- of the releases. -/
def EK : Emb (USlots Key) (MT nD τ sig ℕ (Elt F) ℕ UU ℕ) :=
  (Emb.inr : Emb (USlots Key) (UQ × USlots Key)).trans (embR : Emb (UQ × USlots Key) (MT nD τ sig ℕ (Elt F) ℕ (UP × (UQ × USlots Key)) ℕ))

instance EP_lands : (EP (F := F)).LandsIn (upEmb : UEmb _ 𝕄) :=
  inferInstanceAs ((embL : Emb UP (MT nD τ sig ℕ (Elt F) ℕ (UP × (UQ × USlots Key)) ℕ)).LandsIn upEmb)
instance ER_lands : (ER (F := F)).LandsIn (upEmb : UEmb _ 𝕄) :=
  inferInstanceAs (((Emb.inl : Emb UQ (UQ × USlots Key)).trans
    (embR : Emb (UQ × USlots Key) (MT nD τ sig ℕ (Elt F) ℕ (UP × (UQ × USlots Key)) ℕ))).LandsIn upEmb)
instance EK_lands : (EK (F := F)).LandsIn (upEmb : UEmb _ 𝕄) :=
  inferInstanceAs (((Emb.inr : Emb (USlots Key) (UQ × USlots Key)).trans
    (embR : Emb (UQ × USlots Key) (MT nD τ sig ℕ (Elt F) ℕ (UP × (UQ × USlots Key)) ℕ))).LandsIn upEmb)

/-! ## Cells -/

/-- The buffer, the semaphores and the credit of a direction. -/
abbrev bufM (d : Bool) : Memref sig .tc .vmem S3x128x8192 .f32 :=
  match d with | false => Memref.whole cc0_scratch0 | true => Memref.whole cc0_scratch1
abbrev sndA (d : Bool) : DmaSems sig S3x2 := match d with | false => cc0_scratch2 | true => cc0_scratch4
abbrev rcvA (d : Bool) : DmaSems sig S3x2 := match d with | false => cc0_scratch3 | true => cc0_scratch5
abbrev crdA (d : Bool) : Sems sig S_ := match d with | false => cc0_scratch6 | true => cc0_scratch7

/-- The kinds of cells of a device. -/
inductive Kd where
  | bar
  | crd (d : Bool)
  | snd (d : Bool) (s : Fin 3) (g : Fin 2)
  | rcv (d : Bool) (s : Fin 3) (g : Fin 2)
  | other
  deriving DecidableEq

/-- A semaphore's kind, by its number. -/
def kd : SemLoc sig → Kd
  | .reg n => if n.val = 0 then .crd false else if n.val = 1 then .crd true else if n.val = 2 then .bar else .other
  | .dma n =>
    if n.val < 5 then .other
    else if n.val < 11 then .snd false ⟨((n.val - 5) / 2) % 3, Nat.mod_lt _ (by decide)⟩ ⟨(n.val - 5) % 2, Nat.mod_lt _ (by decide)⟩
    else if n.val < 17 then .rcv false ⟨((n.val - 11) / 2) % 3, Nat.mod_lt _ (by decide)⟩ ⟨(n.val - 11) % 2, Nat.mod_lt _ (by decide)⟩
    else if n.val < 23 then .snd true ⟨((n.val - 17) / 2) % 3, Nat.mod_lt _ (by decide)⟩ ⟨(n.val - 17) % 2, Nat.mod_lt _ (by decide)⟩
    else .rcv true ⟨((n.val - 23) / 2) % 3, Nat.mod_lt _ (by decide)⟩ ⟨(n.val - 23) % 2, Nat.mod_lt _ (by decide)⟩

/-- A kind's semaphore. -/
def locOf : Kd → SemLoc sig
  | .bar => .reg barSem
  | .crd d => .reg (crdA d).sem
  | .snd d s g => .dma (semv (sndA d) s g)
  | .rcv d s g => .dma (semv (rcvA d) s g)
  | .other => .dma cc0_sem0_0

theorem kd_bar : kd (.reg barSem) = .bar := by decide
theorem kd_crd : ∀ d, kd (.reg (crdA d).sem) = .crd d := by decide
theorem kd_snd : ∀ d s g, kd (.dma (semv (sndA d) s g)) = .snd d s g := by decide +kernel
theorem kd_rcv : ∀ d s g, kd (.dma (semv (rcvA d) s g)) = .rcv d s g := by decide +kernel

abbrev barC (c : Dev nD) : GSem nD τ sig := ((c : Thread nD τ), .reg barSem)
abbrev crdC (c : Dev nD) (d : Bool) : GSem nD τ sig := ((c : Thread nD τ), .reg (crdA d).sem)
/-- The cells transfer `j` uses at its sender and at its receiver. -/
abbrev sndC (c : Dev nD) (d : Bool) (j : ℕ) (g : Fin 2) : GSem nD τ sig := ((c : Thread nD τ), .dma (semv (sndA d) (slot j) g))
abbrev rcvC (c : Dev nD) (d : Bool) (j : ℕ) (g : Fin 2) : GSem nD τ sig := ((c : Thread nD τ), .dma (semv (rcvA d) (slot (j + 1)) g))

theorem slot_add (j : ℕ) : slot (j + 3) = slot j := Fin.ext (Nat.add_mod_right j 3)

/-! ## Slot segments and their contents -/

/-- The elements of a segment of a slot, and of a whole slot. -/
abbrev segS (s : Fin 3) (g : Fin 2) : Finset S3x128x8192.Idx :=
  (Rect.unit (s := S3x128x8192) ![(s : ℕ), 64 * (g : ℕ), 0] S1x64x8192.size (inb_seg s g)).set
abbrev slotS (s : Fin 3) : Finset S3x128x8192.Idx :=
  (Rect.unit (s := S3x128x8192) ![(s : ℕ), 0, 0] S1x128x8192.size (inb_slot s)).set

/-- A part of device `c`'s buffer of a direction, at given contents. -/
def bpt (c : Dev nD) (d : Bool) (q : PosShare TreeShare) (I : Finset S3x128x8192.Idx) (f : S3x128x8192.Idx → Elt F .f32) : sProp 𝕄 :=
  match d with
  | false => ((c : Thread nD τ).loc cc0_scratch0) ↦[I]{q} f
  | true => ((c : Thread nD τ).loc cc0_scratch1) ↦[I]{q} f

instance bpt_storable (c : Dev nD) (d : Bool) (q : PosShare TreeShare) (I : Finset S3x128x8192.Idx) (f : S3x128x8192.Idx → Elt F .f32) :
    Storable (upEmb : UEmb _ 𝕄) (bpt c d q I f) := by
  cases d <;> (unfold bpt; infer_instance)

/-- An index of a block. -/
def at256 (r : Fin 256) (k : Fin 8192) : S256x8192.Idx := fun a => match a with | ⟨0, _⟩ => r | ⟨1, _⟩ => k

variable (X : Dev nD → S256x8192.Idx → Elt F .f32)

/-- Row `128 d + r` of a device's own block. -/
def rowOf (d : Bool) (r : Fin 128) : Fin 256 := ⟨half d + r, by cases d <;> (have := r.isLt; dsimp only [half]; omega)⟩

/-- A slot's contents once it holds the half block from `i` places behind: the same in every slot. -/
def G (c : Dev nD) (d : Bool) (i : ℕ) : S3x128x8192.Idx → Elt F .f32 :=
  fun x => X (orig d i c) (at256 (rowOf d (x 1)) (x 2))

theorem G_nx (c : Dev nD) (d : Bool) (i : ℕ) : G X (nx c d) d (i + 1) = G X c d i := by
  funext x; unfold G; rw [orig_nx]

/-- The segment a transfer fills, free for it. -/
def seat1 (k : Key) : sProp 𝕄 := iprop(∃ f, bpt k.1 k.2.1 fullShare (segS (slot (k.2.2.1 + 1)) k.2.2.2) f)

instance seat1_storable (k : Key) : Storable (upEmb : UEmb _ 𝕄) (seat1 (F := F) k) := by unfold seat1; infer_instance

/-! ## What a device tells of itself -/

/-- Of transfer `j` in direction `d` into `c`: its segments are released and its cells are at its round. -/
def told (c : Dev nD) (d : Bool) (j : ℕ) : sProp 𝕄 :=
  iprop((released EK (c, d, j, 0) 1 ∗ reached ER (rcvC c d j 0) (j / 3)) ∗ (released EK (c, d, j, 1) 1 ∗ reached ER (rcvC c d j 1) (j / 3)))
/-- Of all transfers before `n`. -/
def tell (c : Dev nD) (d : Bool) (n : ℕ) : sProp 𝕄 := bigSep (Finset.range n) (told (F := F) c d)

instance told_persistent (c : Dev nD) (d : Bool) (j : ℕ) : BI.Persistent (told (F := F) c d j) := by unfold told; infer_instance
instance tell_persistent (c : Dev nD) (d : Bool) (n : ℕ) : BI.Persistent (tell (F := F) c d n) := by unfold tell; infer_instance
instance told_storable (c : Dev nD) (d : Bool) (j : ℕ) : Storable (upEmb : UEmb _ 𝕄) (told (F := F) c d j) := by unfold told; infer_instance
instance tell_storable (c : Dev nD) (d : Bool) (n : ℕ) : Storable (upEmb : UEmb _ 𝕄) (tell (F := F) c d n) := by unfold tell; infer_instance

/-! ## The schedule -/

/-- What a transfer credits. -/
@[irreducible] def N : ℕ := (segv (bufM false) 0 0).view.dmaCredit
theorem N_eq (d : Bool) (s : Fin 3) (g : Fin 2) : (segv (bufM d) s g).view.dmaCredit = N := by
  unfold N; cases d <;> rfl
theorem N_pos : 0 < N := by unfold N; exact View.dmaCredit_pos _ (by decide)

/-- How many transfers come into slot `s` (`rcv`), or leave it (`snd`): those `j < 31` with `j ≡ s` (mod 3). -/
abbrev inRounds (s : Fin 3) (r : ℕ) : Prop := 3 * r + (s.val + 2) % 3 < 31
abbrev outRounds (s : Fin 3) (r : ℕ) : Prop := 3 * r + s.val < 31

/-- The number of the duty: a signaller's direction at a barrier, the hop at a credit, 0 for a transfer. -/
def dutiesOf (k : Kd) (r : ℕ) : Finset ℕ :=
  match k with
  | .bar => if r = 0 then {0, 1} else ∅
  | .crd _ => if r = 0 then Finset.Icc 1 29 else ∅
  | .snd _ s _ => if outRounds s r then {0} else ∅
  | .rcv _ s _ => if inRounds s r then {0} else ∅
  | .other => ∅

/-- What the neighbour on one side says on the barrier. -/
def barPay (c : Dev nD) (d : Bool) : sProp 𝕄 := iprop(tell (nx c d) d 2 ∗ reached ER (crdC (nx c d) (!d)) 0)

def payOf (c : Dev nD) (k : Kd) (r : ℕ) (n : ℕ) : sProp 𝕄 :=
  match k with
  | .bar => barPay c (n == 1)
  | .crd d => tell (nx c d) d (n + 2)
  | .snd d s g => bpt c d fullShare.left (segS s g) (G X c d (3 * r + s.val))
  | .rcv d s g => bpt c d fullShare (segS s g) (G X c d (3 * r + (s.val + 2) % 3 + 1))
  | .other => iprop(emp)

/-- The rounds of every cell. -/
def Rd : Rounds.Schedule (GSem nD τ sig) ℕ 𝕄 where
  duties g r := if g.1.2 = .tc then dutiesOf (kd g.2) r else ∅
  unitless _ := False
  amount g _ _ := match kd g.2 with | .bar => 1 | .crd _ => 1 | _ => N
  payload g r n := payOf X g.1.1 (kd g.2) r n
  amount_pos g _ _ _ := by
    split
    · exact Nat.one_pos
    · exact Nat.one_pos
    · exact N_pos

instance Rd_payload_storable (g : GSem nD τ sig) (r : ℕ) (n : ℕ) :
    BI.Storable (upEmb : UEmb _ 𝕄) ((Rd X).payload g r n) := by
  show BI.Storable upEmb (payOf X g.1.1 (kd g.2) r n)
  unfold payOf barPay
  split <;> infer_instance

section Sched

variable (c : Dev nD) (d : Bool)

theorem duties_tc (sm : SemLoc sig) (r : ℕ) : (Rd X).duties ((c : Thread nD τ), sm) r = dutiesOf (kd sm) r := by
  show (if (c : Thread nD τ).2 = Proc.tc then dutiesOf (kd sm) r else ∅) = _
  exact if_pos rfl
theorem duties_bar : (Rd X).duties (barC c) 0 = {0, 1} := by
  rw [duties_tc, kd_bar]; rfl
theorem duties_crd : (Rd X).duties (crdC c d) 0 = Finset.Icc 1 29 := by
  rw [duties_tc, kd_crd]; rfl
theorem duties_snd (j : ℕ) (g : Fin 2) (hj : j < 31) : (Rd X).duties (sndC c d j g) (j / 3) = {0} := by
  rw [duties_tc, kd_snd]
  exact if_pos (by show 3 * (j / 3) + j % 3 < 31; omega)
theorem duties_rcv (j : ℕ) (g : Fin 2) (hj : j < 31) : (Rd X).duties (rcvC c d j g) (j / 3) = {0} := by
  rw [duties_tc, kd_rcv]
  exact if_pos (by show 3 * (j / 3) + ((j + 1) % 3 + 2) % 3 < 31; omega)

theorem over_bar : ∀ r, 1 ≤ r → (Rd X).duties (barC c) r = ∅ := fun r hr => by
  rw [duties_tc, kd_bar]; exact if_neg (by omega)
theorem over_crd : ∀ r, 1 ≤ r → (Rd X).duties (crdC c d) r = ∅ := fun r hr => by
  rw [duties_tc, kd_crd]; exact if_neg (by omega)
theorem over_snd (j : ℕ) (g : Fin 2) (hj : 31 ≤ j) : ∀ r, j / 3 ≤ r → (Rd X).duties (sndC c d j g) r = ∅ := fun r hr => by
  rw [duties_tc, kd_snd]
  exact if_neg (by show ¬(3 * r + j % 3 < 31); omega)
theorem over_rcv (j : ℕ) (g : Fin 2) (hj : 31 ≤ j) : ∀ r, j / 3 ≤ r → (Rd X).duties (rcvC c d j g) r = ∅ := fun r hr => by
  rw [duties_tc, kd_rcv]
  exact if_neg (by show ¬(3 * r + ((j + 1) % 3 + 2) % 3 < 31); omega)

theorem amount_bar (n : ℕ) : (Rd X).amount (barC c) 0 n = 1 := by
  show (match kd (.reg barSem) with | .bar => 1 | .crd _ => 1 | _ => N) = 1
  rw [kd_bar]
theorem amount_crd (n : ℕ) : (Rd X).amount (crdC c d) 0 n = 1 := by
  show (match kd (.reg (crdA d).sem) with | .bar => 1 | .crd _ => 1 | _ => N) = 1
  rw [kd_crd]
theorem amount_snd (j : ℕ) (g : Fin 2) (r n : ℕ) : (Rd X).amount (sndC c d j g) r n = N := by
  show (match kd (.dma (semv (sndA d) (slot j) g)) with | .bar => 1 | .crd _ => 1 | _ => N) = N
  rw [kd_snd]
theorem amount_rcv (j : ℕ) (g : Fin 2) (r n : ℕ) : (Rd X).amount (rcvC c d j g) r n = N := by
  show (match kd (.dma (semv (rcvA d) (slot (j + 1)) g)) with | .bar => 1 | .crd _ => 1 | _ => N) = N
  rw [kd_rcv]

theorem expect_bar : (Rd X).expect (barC c) 0 = 2 := by
  unfold Schedule.expect Schedule.amountOf
  rw [duties_bar, Finset.sum_congr rfl (fun n _ => amount_bar X c n)]; rfl
theorem expect_crd : (Rd X).expect (crdC c d) 0 = 29 := by
  unfold Schedule.expect Schedule.amountOf
  rw [duties_crd, Finset.sum_congr rfl (fun n _ => amount_crd X c d n)]; rfl
theorem expect_snd (j : ℕ) (g : Fin 2) (hj : j < 31) : (Rd X).expect (sndC c d j g) (j / 3) = N := by
  unfold Schedule.expect Schedule.amountOf; rw [duties_snd X c d j g hj, Finset.sum_singleton, amount_snd]
theorem expect_rcv (j : ℕ) (g : Fin 2) (hj : j < 31) : (Rd X).expect (rcvC c d j g) (j / 3) = N := by
  unfold Schedule.expect Schedule.amountOf; rw [duties_rcv X c d j g hj, Finset.sum_singleton, amount_rcv]

theorem payload_bar (n : ℕ) : (Rd X).payload (barC c) 0 n = barPay c (n == 1) := by
  show payOf X c (kd (.reg barSem)) 0 n = _
  rw [kd_bar]; rfl
theorem payload_crd (n : ℕ) : (Rd X).payload (crdC c d) 0 n = tell (nx c d) d (n + 2) := by
  show payOf X c (kd (.reg (crdA d).sem)) 0 n = _
  rw [kd_crd]; rfl
theorem payload_snd (j : ℕ) (g : Fin 2) (n : ℕ) :
    (Rd X).payload (sndC c d j g) (j / 3) n = bpt c d fullShare.left (segS (slot j) g) (G X c d j) := by
  show payOf X c (kd (.dma (semv (sndA d) (slot j) g))) (j / 3) n = _
  rw [kd_snd]
  show bpt c d fullShare.left (segS (slot j) g) (G X c d (3 * (j / 3) + j % 3)) = _
  rw [Nat.div_add_mod]
theorem payload_rcv (j : ℕ) (g : Fin 2) (n : ℕ) :
    (Rd X).payload (rcvC c d j g) (j / 3) n = bpt c d fullShare (segS (slot (j + 1)) g) (G X c d (j + 1)) := by
  show payOf X c (kd (.dma (semv (rcvA d) (slot (j + 1)) g))) (j / 3) n = _
  rw [kd_rcv]
  show bpt c d fullShare (segS (slot (j + 1)) g) (G X c d (3 * (j / 3) + ((j + 1) % 3 + 2) % 3 + 1)) = _
  rw [show 3 * (j / 3) + ((j + 1) % 3 + 2) % 3 = j by omega]

theorem rest_snd (j : ℕ) (g : Fin 2) (hj : j < 31) :
    bigSep ((Rd X).duties (sndC c d j g) (j / 3) \ ∅) (fun n => (Rd X).payload (sndC c d j g) (j / 3) n)
      = bpt c d fullShare.left (segS (slot j) g) (G X c d j) := by
  rw [Finset.sdiff_empty, duties_snd X c d j g hj, bigSep_singleton, payload_snd]
theorem rest_rcv (j : ℕ) (g : Fin 2) (hj : j < 31) :
    bigSep ((Rd X).duties (rcvC c d j g) (j / 3) \ ∅) (fun n => (Rd X).payload (rcvC c d j g) (j / 3) n)
      = bpt c d fullShare (segS (slot (j + 1)) g) (G X c d (j + 1)) := by
  rw [Finset.sdiff_empty, duties_rcv X c d j g hj, bigSep_singleton, payload_rcv]
theorem rest_bar :
    bigSep ((Rd X).duties (barC c) 0 \ ∅) (fun n => (Rd X).payload (barC c) 0 n) = iprop(barPay c false ∗ barPay (F := F) c true) := by
  rw [Finset.sdiff_empty, duties_bar, bigSep_insert (by decide), bigSep_singleton, payload_bar, payload_bar]; rfl

end Sched

/-! ## Levels and dues -/

def L (g : GSem nD τ sig) : Finset ℕ := if g.1.2 = .tc then Finset.range 32 else ∅

/-- The barrier first; then, by hop, the credit and the transfers. -/
def lv (g : GSem nD τ sig) (n : ℕ) : ℕ :=
  match kd g.2 with
  | .bar => 1
  | .crd _ => 2 * n + 1
  | .rcv _ _ _ => 2 * n + 2
  | _ => 0

theorem L_of_ne (g : GSem nD τ sig) (h : g.1.2 ≠ .tc) : L g = ∅ := if_neg h
theorem L_tc (c : Dev nD) (sm : SemLoc sig) : L ((c : Thread nD τ), sm) = Finset.range 32 := if_pos rfl

/-- Everything owed stands above a level. -/
def Above (b : ℕ) (O : CellTallies nD τ sig ℕ) : Prop := ∀ g n, 0 < O g n → n ∈ L g ∧ b < lv g n

theorem Above.zero (b : ℕ) : Above b 0 := fun _ _ h => absurd h (Nat.lt_irrefl 0)
theorem Above.add {b : ℕ} {O O' : CellTallies nD τ sig ℕ} (h : Above b O) (h' : Above b O') : Above b (O + O') := fun g n hg => by
  have hg' : 0 < O g n + O' g n := hg
  rcases Nat.eq_zero_or_pos (O g n) with h0 | h0
  · exact h' g n (by omega)
  · exact h g n h0
theorem Above.mono {b b' : ℕ} {O : CellTallies nD τ sig ℕ} (h : Above b' O) (hb : b ≤ b') : Above b O := fun g n hg =>
  ⟨(h g n hg).1, Nat.lt_of_le_of_lt hb (h g n hg).2⟩
theorem Above.single {b : ℕ} {g : GSem nD τ sig} {n a : ℕ} (hL : n ∈ L g) (hb : b < lv g n) : Above b (tallyAt g n a) := fun g' n' hg => by
  rw [tallyAt_apply] at hg
  by_cases h : g' = g ∧ n' = n
  · rw [h.1, h.2]; exact ⟨hL, hb⟩
  · rw [if_neg h] at hg; exact absurd hg (Nat.lt_irrefl 0)

theorem lv_bar (c : Dev nD) (n : ℕ) : lv (barC c) n = 1 := by
  show (match kd (.reg barSem) with | .bar => 1 | .crd _ => 2 * n + 1 | .rcv _ _ _ => 2 * n + 2 | _ => 0) = _
  rw [kd_bar]
theorem lv_crd (c : Dev nD) (d : Bool) (n : ℕ) : lv (crdC c d) n = 2 * n + 1 := by
  show (match kd (.reg (crdA d).sem) with | .bar => 1 | .crd _ => 2 * n + 1 | .rcv _ _ _ => 2 * n + 2 | _ => 0) = _
  rw [kd_crd]
theorem lv_rcv (c : Dev nD) (d : Bool) (j : ℕ) (g : Fin 2) (n : ℕ) : lv (rcvC c d j g) n = 2 * n + 2 := by
  show (match kd (.dma (semv (rcvA d) (slot (j + 1)) g)) with | .bar => 1 | .crd _ => 2 * n + 1 | .rcv _ _ _ => 2 * n + 2 | _ => 0) = _
  rw [kd_rcv]
theorem lv_snd (c : Dev nD) (d : Bool) (j : ℕ) (g : Fin 2) (n : ℕ) : lv (sndC c d j g) n = 0 := by
  show (match kd (.dma (semv (sndA d) (slot j) g)) with | .bar => 1 | .crd _ => 2 * n + 1 | .rcv _ _ _ => 2 * n + 2 | _ => 0) = _
  rw [kd_snd]

/-- The levels, as one fact. -/
@[irreducible] def levs : sProp 𝕄 := levAts L lv
instance levs_persistent : BI.Persistent (levs (F := F)) := by unfold levs; infer_instance

/-- A wait below everything owed is allowed. -/
theorem mayWait (c : Dev nD) (sm : SemLoc sig) (n : ℕ) (hn : n < 32) (O : CellTallies nD τ sig ℕ)
    (h : Above (lv ((c : Thread nD τ), sm) n) O) : (levs : sProp 𝕄) ⊢ MayWait (c : Thread nD τ) sm n O := by
  unfold levs
  exact
  MayOwe.of_cut (L := L) (lev := lv) (lv ((c : Thread nD τ), sm) n)
    (fun p hp => by rw [Finset.mem_singleton.mp hp, L_tc]; exact Finset.mem_range.mpr hn)
    (fun g u hg => (h g u hg).1)
    (fun p hp => by rw [Finset.mem_singleton.mp hp])
    (fun g u hg => (h g u hg).2)

/-- What a device owes for transfer `j` in one direction and in both; for the credit of hop `h`. -/
def oweX (c : Dev nD) (d : Bool) (j : ℕ) (g : Fin 2) : CellTallies nD τ sig ℕ := tallyAt (rcvC (nx c d) d j g) j N
def oweT (c : Dev nD) (j : ℕ) : CellTallies nD τ sig ℕ :=
  oweX c true j 1 + oweX c false j 1 + oweX c true j 0 + oweX c false j 0
def oweK (c : Dev nD) (d : Bool) (h : ℕ) : CellTallies nD τ sig ℕ := tallyAt (crdC (nx c (!d)) d) h 1
def oweC (c : Dev nD) (h : ℕ) : CellTallies nD τ sig ℕ := oweK c true h + oweK c false h
/-- For the last `n` middle hops. -/
def owed (c : Dev nD) : ℕ → CellTallies nD τ sig ℕ
  | 0 => 0
  | n + 1 => owed c n + oweT c (30 - n) + oweC c (29 - n)
/-- At launch. -/
def O₀ (c : Dev nD) : CellTallies nD τ sig ℕ :=
  owed c 29 + oweT c 1 + oweT c 0 + tallyAt (barC (nx c false)) 0 1 + tallyAt (barC (nx c true)) 0 1

theorem above_X (c : Dev nD) (d : Bool) (j : ℕ) (g : Fin 2) (b : ℕ) (hj : j < 31) (hb : b < 2 * j + 2) : Above b (oweX c d j g) :=
  Above.single (by rw [L_tc]; exact Finset.mem_range.mpr (by omega)) (by rw [lv_rcv]; exact hb)
theorem above_T (c : Dev nD) (j b : ℕ) (hj : j < 31) (hb : b < 2 * j + 2) : Above b (oweT c j) :=
  (((above_X c _ j _ b hj hb).add (above_X c _ j _ b hj hb)).add (above_X c _ j _ b hj hb)).add (above_X c _ j _ b hj hb)
theorem above_K (c : Dev nD) (d : Bool) (h : ℕ) (b : ℕ) (hh : h < 32) (hb : b < 2 * h + 1) : Above b (oweK c d h) :=
  Above.single (by rw [L_tc]; exact Finset.mem_range.mpr hh) (by rw [lv_crd]; exact hb)
theorem above_C (c : Dev nD) (h b : ℕ) (hh : h < 32) (hb : b < 2 * h + 1) : Above b (oweC c h) :=
  (above_K c _ h b hh hb).add (above_K c _ h b hh hb)
theorem above_owed (c : Dev nD) : ∀ n b, n ≤ 29 → b < 2 * (30 - n) + 1 → Above b (owed c n)
  | 0, b, _, _ => Above.zero b
  | n + 1, b, hn, hb => ((above_owed c n b (by omega) (by omega)).add (above_T c _ b (by omega) (by omega))).add
      (above_C c _ b (by omega) (by omega))

theorem above_O₀ (c : Dev nD) : Above 0 (O₀ c) :=
  ((((above_owed c 29 0 (by omega) (by omega)).add (above_T c 1 0 (by omega) (by omega))).add (above_T c 0 0 (by omega) (by omega))).add
    (Above.single (by rw [L_tc]; decide) (by rw [lv_bar]; decide))).add
    (Above.single (by rw [L_tc]; decide) (by rw [lv_bar]; decide))

end Cert.KernelIdeal.Ring
-- ==== Proof.Ops.lean ====
/- One operation of the ring at a time: what each start, wait, signal and release takes and gives. -/
module

public import proofs.«01_k».proof.Proof.Sched

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F]

local notation "𝕄" => MT nD τ sig ℕ (Elt F) ℕ UU ℕ

/-! ## The cells of the region, and what everyone knows -/

/-- The cells of a device the region's own semaphores are, by number. -/
def osem (i : Fin 26) : SemLoc sig :=
  if i.val = 0 then .reg (crdA false).sem else if i.val = 1 then .reg (crdA true).sem
  else .dma ⟨i.val + 3, by have := i.isLt; show i.val + 3 < 29; omega⟩

theorem osem_crd : ∀ d, ∃ i, osem i = .reg (crdA d).sem := by decide
theorem osem_snd : ∀ d s g, ∃ i, osem i = .dma (semv (sndA d) s g) := by decide +kernel
theorem osem_rcv : ∀ d s g, ∃ i, osem i = .dma (semv (rcvA d) s g) := by decide +kernel

@[irreducible] def barCells : Finset (GSem nD τ sig) := Finset.univ.image fun c : Dev nD => barC c
@[irreducible] def scCells : Finset (GSem nD τ sig) := Finset.univ.image fun p : Dev nD × Fin 26 => ((p.1 : Thread nD τ), osem p.2)
/-- The transfers' keys. -/
@[irreducible] def keys : Finset Key := Finset.univ ×ˢ Finset.univ ×ˢ Finset.range 31 ×ˢ Finset.univ

theorem mem_bar (c : Dev nD) : barC c ∈ barCells ∪ scCells := by
  unfold barCells
  exact Finset.mem_union_left _ (Finset.mem_image.mpr ⟨c, Finset.mem_univ _, rfl⟩)
theorem mem_sc (c : Dev nD) {sm : SemLoc sig} (h : ∃ i, osem i = sm) : ((c : Thread nD τ), sm) ∈ barCells ∪ scCells := by
  obtain ⟨i, rfl⟩ := h
  unfold scCells
  exact Finset.mem_union_right _ (Finset.mem_image.mpr ⟨(c, i), Finset.mem_univ _, rfl⟩)
theorem mem_keys (c : Dev nD) (d : Bool) (j : ℕ) (g : Fin 2) (hj : j < 31) : ((c, d, j, g) : Key) ∈ keys := by
  unfold keys
  simp only [Finset.mem_product, Finset.mem_univ, Finset.mem_range, true_and, and_true]
  exact hj

variable (X : Dev nD → S256x8192.Idx → Elt F .f32) (K : GSem nD τ sig → ℕ) (ιs : Key → ℕ)

/-- The cells' invariants, the slots', and the levels. -/
@[irreducible] def known : sProp 𝕄 :=
  iprop(bigSep (barCells ∪ scCells) (fun g => cellInv ER (Rd X) (K g) g)
    ∗ bigSep keys (fun k => slotInv EK (ιs k) k (seat1 (F := F) k)) ∗ levs (F := F))

instance known_persistent : BI.Persistent (known X K ιs) := by unfold known; infer_instance

theorem last3 (A B C : sProp 𝕄) : iprop(A ∗ B ∗ C) ⊢ C :=
  (sep_elim_right (PROP := sProp 𝕄)).trans (sep_elim_right (PROP := sProp 𝕄))
theorem known_cell (g : GSem nD τ sig) (h : g ∈ barCells ∪ scCells) : known X K ιs ⊢ cellInv ER (Rd X) (K g) g := by
  unfold known
  exact (sep_mono_left (bigSep_elim (Φ := fun g => cellInv ER (Rd X) (K g) g) h)).trans sep_elim_left
theorem known_bar (c : Dev nD) : known X K ιs ⊢ cellInv ER (Rd X) (K (barC c)) (barC c) := known_cell X K ιs _ (mem_bar c)
theorem known_crd (c : Dev nD) (d : Bool) : known X K ιs ⊢ cellInv ER (Rd X) (K (crdC c d)) (crdC c d) :=
  known_cell X K ιs _ (mem_sc c (osem_crd d))
theorem known_snd (c : Dev nD) (d : Bool) (j : ℕ) (g : Fin 2) : known X K ιs ⊢ cellInv ER (Rd X) (K (sndC c d j g)) (sndC c d j g) :=
  known_cell X K ιs _ (mem_sc c (osem_snd d (slot j) g))
theorem known_rcv (c : Dev nD) (d : Bool) (j : ℕ) (g : Fin 2) : known X K ιs ⊢ cellInv ER (Rd X) (K (rcvC c d j g)) (rcvC c d j g) :=
  known_cell X K ιs _ (mem_sc c (osem_rcv d (slot (j + 1)) g))
theorem known_key (k : Key) (h : k ∈ keys) : known X K ιs ⊢ slotInv EK (ιs k) k (seat1 (F := F) k) := by
  unfold known
  exact (sep_elim_right (PROP := sProp 𝕄)).trans ((sep_mono_left (bigSep_elim (Φ := fun k => slotInv EK (ιs k) k (seat1 (F := F) k)) h)).trans sep_elim_left)
theorem known_slot (c : Dev nD) (d : Bool) (j : ℕ) (g : Fin 2) (hj : j < 31) :
    known X K ιs ⊢ slotInv EK (ιs (c, d, j, g)) (c, d, j, g) (seat1 (F := F) (c, d, j, g)) := known_key X K ιs _ (mem_keys c d j g hj)
theorem known_lev : known X K ιs ⊢ levs (F := F) := by
  unfold known; exact last3 _ _ _

/-! ## Words on releases -/

theorem told_at (c : Dev nD) (d : Bool) (j : ℕ) (g : Fin 2) :
    told c d j ⊢ (iprop(released EK (c, d, j, g) 1 ∗ reached ER (rcvC c d j g) (j / 3)) : sProp 𝕄) := by
  unfold told
  fin_cases g
  · iintro ⟨H, -⟩; iexact H
  · iintro ⟨-, H⟩; iexact H
theorem tell_at (c : Dev nD) (d : Bool) (n j : ℕ) (hj : j < n) : tell c d n ⊢ (told c d j : sProp 𝕄) := by
  unfold tell; exact bigSep_elim (Finset.mem_range.mpr hj)
theorem tell_mono (c : Dev nD) (d : Bool) (n n' : ℕ) (h : n ≤ n') : tell c d n' ⊢ (tell c d n : sProp 𝕄) := by
  unfold tell; exact bigSep_subset (Finset.range_subset_range.mpr h)
theorem bigSep_ins {I : Type} [DecidableEq I] {s : Finset I} {i : I} (hi : i ∉ s) (Φ : I → sProp 𝕄) :
    bigSep (insert i s) Φ = iprop(Φ i ∗ bigSep s Φ) := BI.bigSep_insert hi
theorem tell_succ (c : Dev nD) (d : Bool) (n : ℕ) : iprop(tell c d n ∗ told c d n) ⊢ (tell c d (n + 1) : sProp 𝕄) := by
  unfold tell
  rw [Finset.range_add_one, bigSep_ins Finset.notMem_range_self]
  iintro ⟨H, H'⟩
  isplitl [H']; · iexact H'
  iexact H

/-! ## Segments as the transfers name them -/

/-- A buffer's contents, at the type a segment's location has. -/
def asSeg (c : Dev nD) (d : Bool) (s : Fin 3) (g : Fin 2) (f : S3x128x8192.Idx → Elt F .f32) :
    Buf (Elt F) ((segv (bufM d) s g).view.loc (c : Thread nD τ)) :=
  match d with | false => f | true => f

theorem seg_set (d : Bool) (s : Fin 3) (g : Fin 2) :
    (segv (bufM d) s g).view.set = (match d with | false => segS s g | true => segS s g : Finset (segv (bufM d) s g).view.ty.Idx) := by
  cases d
  · exact (View.set_reshape _ _).trans (View.set_slice_whole _ _)
  · exact (View.set_reshape _ _).trans (View.set_slice_whole _ _)

theorem bpt_seg (c : Dev nD) (d : Bool) (q : PosShare TreeShare) (s : Fin 3) (g : Fin 2) (f : S3x128x8192.Idx → Elt F .f32) :
    bpt c d q (segS s g) f
      = (((segv (bufM d) s g).view.loc (c : Thread nD τ)) ↦[(segv (bufM d) s g).view.set]{q} asSeg c d s g f : sProp 𝕄) := by
  cases d
  · rw [seg_set]; rfl
  · rw [seg_set]; rfl

theorem bpt_share (c : Dev nD) (d : Bool) (I : Finset S3x128x8192.Idx) (f : S3x128x8192.Idx → Elt F .f32) :
    bpt c d fullShare I f ⊣⊢ (iprop(bpt c d fullShare.left I f ∗ bpt c d fullShare.right I f) : sProp 𝕄) := by
  cases d <;> exact pointsTo_share (PosShare.mem_left_op_right fullShare)

theorem bpt_union (c : Dev nD) (d : Bool) (q : PosShare TreeShare) (I J : Finset S3x128x8192.Idx) (h : Disjoint I J)
    (f : S3x128x8192.Idx → Elt F .f32) :
    bpt c d q (I ∪ J) f ⊣⊢ (iprop(bpt c d q I f ∗ bpt c d q J f) : sProp 𝕄) := by
  cases d <;> exact pointsTo_union h

theorem bpt_congr (c : Dev nD) (d : Bool) (q : PosShare TreeShare) (I : Finset S3x128x8192.Idx)
    (f f' : S3x128x8192.Idx → Elt F .f32) (h : ∀ i ∈ I, f i = f' i) : (bpt c d q I f : sProp 𝕄) = bpt c d q I f' := by
  cases d <;> exact pointsTo_congr h

/-- Contents that depend only on the place within a slot. -/
def Flat (f : S3x128x8192.Idx → Elt F .f32) : Prop := ∀ i j : S3x128x8192.Idx, i 1 = j 1 → i 2 = j 2 → f i = f j

theorem G_flat (c : Dev nD) (d : Bool) (i : ℕ) : Flat (G X c d i) := fun x y h1 h2 => by unfold G; rw [h1, h2]

/-- What a transfer leaves in the segment it fills. -/
theorem landed (c c' : Dev nD) (d : Bool) (s s' : Fin 3) (g : Fin 2) (f fd : S3x128x8192.Idx → Elt F .f32) (hf : Flat f) :
    (((segv (bufM d) s' g).view.loc (c' : Thread nD τ)) ↦[(segv (bufM d) s' g).view.set]{fullShare}
        ((segv (bufM d) s' g).view.write (Elt F) (asSeg c' d s' g fd) ((segv (bufM d) s g).view.read (Elt F) (asSeg c d s g f)) Finset.univ) : sProp 𝕄)
      = bpt c' d fullShare (segS s' g) f := by
  rw [bpt_seg]
  refine pointsTo_congr fun i hi => ?_
  obtain ⟨y, -, rfl⟩ := Finset.mem_map.mp hi
  rw [View.write_emb_of_mem _ _ (Finset.mem_univ y), View.read_apply, cast_cast, cast_eq]
  cases d
  · exact hf _ _ rfl rfl
  · exact hf _ _ rfl rfl

/-! ## The states of a cell -/

/-- Both segments. -/
abbrev two (P : Fin 2 → sProp 𝕄) : sProp 𝕄 := iprop(P 0 ∗ P 1)

/-- A sender's cell between transfers, ready for transfer `j`. -/
def idleSnd (c : Dev nD) (d : Bool) (j : ℕ) (g : Fin 2) : sProp 𝕄 :=
  iprop(atPos ER (sndC c d j g) (j / 3) ∅ 0 ∗ reached ER (sndC c d j g) (j / 3))
/-- A receiver's cell awaiting transfer `j`. -/
def idleRcv (c : Dev nD) (d : Bool) (j : ℕ) (g : Fin 2) : sProp 𝕄 :=
  iprop(atPos ER (rcvC c d j g) (j / 3) ∅ 0 ∗ reached ER (rcvC c d j g) (j / 3))
/-- Transfer `j` under way: half of the source's share is with it. -/
def inFlight (c : Dev nD) (d : Bool) (j : ℕ) (g : Fin 2) : sProp 𝕄 :=
  iprop(cred (tallyAt (sndC c d j g) 0 N) ∗ atPos ER (sndC c d j g) (j / 3) ∅ 0)
/-- The rights transfer `j` needs. -/
def sndStock (c : Dev nD) (d : Bool) (j : ℕ) (g : Fin 2) : sProp 𝕄 :=
  iprop(dutyTok ER (sndC c d j g) (j / 3) 0 ∗ dutyTok ER (rcvC (nx c d) d j g) (j / 3) 0 ∗ writeTok EK (nx c d, d, j, g) 1)
/-- What a device owes, whatever waits it has made. -/
def owing (c : Dev nD) (O : CellTallies nD τ sig ℕ) : sProp 𝕄 := iprop(∃ W, owes (c : Thread nD τ) O W)
/-- A segment of chunk `i`. -/
abbrev seg (c : Dev nD) (d : Bool) (q : PosShare TreeShare) (i : ℕ) (g : Fin 2) : sProp 𝕄 :=
  bpt c d q (segS (slot i) g) (G X c d i)

/-- The environment of a device. -/
def E₀ (c : Dev nD) (w : FVec F S8192x128 .f32) : Env F where
  buf := bufM
  snd := sndA
  rcv := rcvA
  crd := crdA
  tbl := Memref.whole cc0_stg0_0
  out := Memref.whole cc0_stg4_0
  pos := seat c
  inb := offP_inb (seat c) (chk_seat c)
  tgt := nx c
  wgt := w

section Wp

variable (dd : Defs nD τ sig (Elt F) Λ₀) (𝒱 : Variants) (c : Dev nD) (w : FVec F S8192x128 .f32)
variable {α : Type}

/-- The weakest precondition of a program on device `c`. -/
abbrev WP (Q : α → sProp 𝕄) (p : BProg F α) : sProp 𝕄 := wp frame (wpE dd 𝒱 (c : Thread nD τ) none) Set.univ p Q

/-- The start of transfer `j`. -/
theorem wp_start (Q : α → sProp 𝕄) (d : Bool) (j : ℕ) (g : Fin 2) (n : ℕ) (hj : j < 31) (hn : j < n) (O : CellTallies nD τ sig ℕ) (k : BProg F α) :
    iprop(known X K ιs ∗ idleSnd c d j g ∗ sndStock c d j g ∗ seg X c d fullShare j g ∗ tell (nx c d) d n ∗ owing c (O + oweX c d j g))
      ⊢ iprop(((inFlight c d j g ∗ seg X c d fullShare.right j g ∗ owing c O) -∗ WP dd 𝒱 c Q k)
          -∗ WP dd 𝒱 c Q (start (E₀ c w) d j g k)) := by
  unfold idleSnd sndStock owing inFlight
  iintro ⟨#HK, ⟨Hat, Hrs⟩, ⟨Ht1, Ht2, Hwt⟩, Hsrc, #Htell, ⟨%W, HO⟩⟩ Hk
  ihave #HI1 := (known_snd X K ιs c d j g) $$ HK
  ihave #HI2 := (known_rcv X K ιs (nx c d) d j g) $$ HK
  ihave #HI3 := (known_slot X K ιs (nx c d) d j g hj) $$ HK
  ihave #Htj := (tell_at (nx c d) d n j hn) $$ Htell
  ihave #Htg := (told_at (nx c d) d j g) $$ Htj
  icases Htg with ⟨#Hrel, #Hrr⟩
  unfold start
  iapply (fupd_wp)
  imod (slot_take EK (Set.mem_univ _) 1) $$ [Hwt] with Hseat
  · isplitr; · iexact HI3
    isplitr; · iexact Hrel
    iexact Hwt
  imodintro
  unfold seat1
  icases Hseat with ⟨%fd, Hd⟩
  ihave Hsh := (bpt_share c d (segS (slot j) g) (G X c d j)).1 $$ Hsrc
  icases Hsh with ⟨HsL, HsR⟩
  ihave HsL := (Entails.of_eq (bpt_seg c d fullShare.left (slot j) g (G X c d j))) $$ HsL
  ihave Hd := (Entails.of_eq (bpt_seg (nx c d) d fullShare (slot (j + 1)) g fd)) $$ Hd
  iapply (Rounds.wp_send_pointsTo 𝒱 ER (Rd X) (c : Thread nD τ) none (c' := (nx c d : Thread nD τ)) (src := segv (bufM d) (slot j) g)
      (dst := segv (bufM d) (slot (j + 1)) g) (sS := .dma (semv (sndA d) (slot j) g)) (sem := .dma (semv (rcvA d) (slot (j + 1)) g))
      (q := fullShare.left) (fs := asSeg c d (slot j) g (G X c d j)) (fd := asSeg (nx c d) d (slot (j + 1)) g fd)
      (κ₁ := K (sndC c d j g)) (κ₂ := K (rcvC (nx c d) d j g)) (r₁ := j / 3) (r₂ := j / 3) (d₁ := 0) (d₂ := 0)
      (by rw [duties_snd X c d j g hj]; exact Finset.mem_singleton_self _)
      (by rw [duties_rcv X (nx c d) d j g hj]; exact Finset.mem_singleton_self _)
      j 0 N (N_eq d (slot (j + 1)) g) (amount_snd X c d j g _ _) (amount_rcv X (nx c d) d j g _ _) O rfl (W := W)
      (by rw [payload_snd, ← bpt_seg])
      (by rw [payload_rcv, landed c (nx c d) d (slot j) (slot (j + 1)) g _ _ (G_flat X c d j), G_nx])) $$ [HsL Hd HO Ht1 Hrs Ht2]
  · isplitr; · iexact HI1
    isplitr; · iexact HI2
    isplitl [HsL]; · iexact HsL
    isplitl [Hd]; · iexact Hd
    isplitl [HO]; · iexact HO
    isplitl [Ht1]; · iexact Ht1
    isplitl [Hrs]; · iexact Hrs
    isplitl [Ht2]; · iexact Ht2
    iexact Hrr
  iintro ⟨Hc, HO⟩
  iapply Hk
  isplitl [Hc Hat]
  · isplitl [Hc]; · iexact Hc
    iexact Hat
  isplitl [HsR]; · iexact HsR
  iexists W; iexact HO

/-- The wait for transfer `j` to have been read out. -/
theorem wp_waitSend (Q : α → sProp 𝕄) (d : Bool) (j : ℕ) (g : Fin 2) (hj : j < 31) (O : CellTallies nD τ sig ℕ) (hO : Above 0 O) (k : BProg F α) :
    iprop(known X K ιs ∗ inFlight c d j g ∗ seg X c d fullShare.right j g ∗ owing c O)
      ⊢ iprop(((idleSnd c d (j + 3) g ∗ seg X c d fullShare j g ∗ owing c O) -∗ WP dd 𝒱 c Q k)
          -∗ WP dd 𝒱 c Q (waitSend (E₀ c w) d j g k)) := by
  unfold idleSnd owing inFlight
  iintro ⟨#HK, ⟨Hc, Hat⟩, HsR, ⟨%W, HO⟩⟩ Hk
  ihave #HI1 := (known_snd X K ιs c d j g) $$ HK
  ihave #Hl := (known_lev X K ιs) $$ HK
  unfold waitSend
  iapply (Rounds.wp_wait_rest_token 𝒱 ER (Rd X) (c : Thread nD τ) none (κ := K (sndC c d j g))
      (fun Kt => (wpE_waitDma2_eq 𝒱 (c : Thread nD τ) none Set.univ Kt).trans (by rw [N_eq d (slot j) g]; rfl)) (Set.mem_univ _) 0 (O := O) (W := W) (R := j / 3) (m := 0) (T := ∅)
      ((Nat.zero_add _).trans (expect_snd X c d j g hj).symm)) $$ [Hc HO Hat]
  · isplitr; · iexact HI1
    isplitl [Hc]; · iexact Hc
    isplitl [HO]; · iexact HO
    isplitr
    · iapply (mayWait c (.dma (semv (sndA d) (slot j) g)) 0 (by decide) O (hO.mono (le_of_eq (lv_snd c d j g 0))))
      iexact Hl
    iexact Hat
  iintro ⟨HO, Hat, Hr, Hpay⟩
  ihave HsL := (Entails.of_eq (rest_snd X c d j g hj)) $$ Hpay
  iapply Hk
  isplitl [Hat Hr]
  · rw [Nat.add_div_right j (by decide : 0 < 3)]
    unfold sndC
    rw [slot_add]
    isplitl [Hat]; · iexact Hat
    iexact Hr
  isplitl [HsL HsR]
  · iapply (bpt_share c d (segS (slot j) g) (G X c d j)).2
    isplitl [HsL]; · iexact HsL
    iexact HsR
  iexists (insert (SemLoc.dma (semv (sndA d) (slot j) g), 0) W); iexact HO

/-- The wait for transfer `j` to have come in. -/
theorem wp_waitRecv (Q : α → sProp 𝕄) (d : Bool) (j : ℕ) (g : Fin 2) (hj : j < 31) (O : CellTallies nD τ sig ℕ) (hO : Above (2 * j + 2) O) (k : BProg F α) :
    iprop(known X K ιs ∗ idleRcv c d j g ∗ cred (tallyAt (rcvC c d j g) j N) ∗ owing c O)
      ⊢ iprop(((idleRcv c d (j + 3) g ∗ seg X c d fullShare (j + 1) g ∗ owing c O) -∗ WP dd 𝒱 c Q k)
          -∗ WP dd 𝒱 c Q (waitRecv (E₀ c w) d j g k)) := by
  unfold idleRcv owing
  iintro ⟨#HK, ⟨Hat, -⟩, Hc, ⟨%W, HO⟩⟩ Hk
  ihave #HI1 := (known_rcv X K ιs c d j g) $$ HK
  ihave #Hl := (known_lev X K ιs) $$ HK
  unfold waitRecv
  iapply (Rounds.wp_wait_rest_token 𝒱 ER (Rd X) (c : Thread nD τ) none (κ := K (rcvC c d j g))
      (fun Kt => (wpE_waitDma2_eq 𝒱 (c : Thread nD τ) none Set.univ Kt).trans (by rw [N_eq d (slot (j + 1)) g]; rfl)) (Set.mem_univ _) j (O := O) (W := W) (R := j / 3) (m := 0) (T := ∅)
      ((Nat.zero_add _).trans (expect_rcv X c d j g hj).symm)) $$ [Hc HO Hat]
  · isplitr; · iexact HI1
    isplitl [Hc]; · iexact Hc
    isplitl [HO]; · iexact HO
    isplitr
    · iapply (mayWait c (.dma (semv (rcvA d) (slot (j + 1)) g)) j (by omega) O (hO.mono (le_of_eq (lv_rcv c d j g j))))
      iexact Hl
    iexact Hat
  iintro ⟨HO, Hat, Hr, Hpay⟩
  ihave Hs := (Entails.of_eq (rest_rcv X c d j g hj)) $$ Hpay
  iapply Hk
  isplitl [Hat Hr]
  · rw [Nat.add_div_right j (by decide : 0 < 3)]
    unfold rcvC
    rw [show j + 3 + 1 = j + 1 + 3 by omega, slot_add]
    isplitl [Hat]; · iexact Hat
    iexact Hr
  isplitl [Hs]; · iexact Hs
  iexists (insert (SemLoc.dma (semv (rcvA d) (slot (j + 1)) g), j) W); iexact HO

end Wp

end Cert.KernelIdeal.Ring
-- ==== Proof.Hop.lean ====
/- The words the neighbours exchange at a hop: a slot released, the word given, the word awaited. -/
module

public import proofs.«01_k».proof.Proof.Ops

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal

variable {F : FTy → Type} [FloatOps F]

local notation "𝕄" => MT nD τ sig ℕ (Elt F) ℕ UU ℕ

variable (X : Dev nD → S256x8192.Idx → Elt F .f32) (K : GSem nD τ sig → ℕ) (ιs : Key → ℕ)

/-! ## Releasing a segment -/

theorem seg_mem (s : Fin 3) (g : Fin 2) : ∃ i, i ∈ segS s g := by
  refine ⟨fun a => ⟨(![(s : ℕ), 64 * (g : ℕ), 0] : Fin 3 → ℕ) a, ?_⟩, ?_⟩
  · have := inb_seg s g a
    have h1 : ∀ a : Fin 3, 0 < S1x64x8192.size a := by decide
    exact Nat.lt_of_lt_of_le (Nat.lt_add_of_pos_right (h1 a)) this
  · refine Rect.mem_set_unit.mpr fun a => ⟨le_refl _, Nat.lt_add_of_pos_right ?_⟩
    revert a; show ∀ a : Fin 3, 0 < S1x64x8192.size a; decide

/-- Nobody else fills a segment while it is held. -/
theorem seat1_alone (k : Key) : iprop(seat1 (F := F) k ∗ seat1 k) ⊢ (False : sProp 𝕄) := by
  obtain ⟨c, d, j, g⟩ := k
  obtain ⟨i, hi⟩ := seg_mem (slot (j + 1)) g
  unfold seat1
  iintro ⟨⟨%f, H⟩, ⟨%f', H'⟩⟩
  cases d
  · unfold bpt
    iapply (pointsTo_overlap_false (ℓ := ((c : Thread nD τ).loc cc0_scratch0)) (f := f) (g := f') hi hi)
    isplitl [H]; · iexact H
    iexact H'
  · unfold bpt
    iapply (pointsTo_overlap_false (ℓ := ((c : Thread nD τ).loc cc0_scratch1)) (f := f) (g := f') hi hi)
    isplitl [H]; · iexact H
    iexact H'

/-- A segment handed to transfer `j`. -/
theorem release1 (c : Dev nD) (d : Bool) (j : ℕ) (g : Fin 2) (hj : j < 31) (f : S3x128x8192.Idx → Elt F .f32) :
    iprop(known X K ιs ∗ readerAt EK (c, d, j, g) 0 ∗ bpt c d fullShare (segS (slot (j + 1)) g) f)
      ⊢ (|={Set.univ}=> released EK (c, d, j, g) 1 : sProp 𝕄) := by
  iintro ⟨#HK, Hr, Hs⟩
  ihave #HI := (known_slot X K ιs c d j g hj) $$ HK
  imod (slot_release EK (Set.mem_univ _) (seat1_alone (c, d, j, g)) 0) $$ [Hr Hs] with ⟨-, H⟩
  · isplitr; · iexact HI
    isplitl [Hr]; · iexact Hr
    unfold seat1
    iexists f; iexact Hs
  imodintro
  iexact H

/-- Both segments handed to transfer `j`, and so said. -/
theorem release2 (c : Dev nD) (d : Bool) (j : ℕ) (hj : j < 31) (f f' : S3x128x8192.Idx → Elt F .f32) :
    iprop(known X K ιs ∗ (readerAt EK (c, d, j, 0) 0 ∗ readerAt EK (c, d, j, 1) 0)
        ∗ (bpt c d fullShare (segS (slot (j + 1)) 0) f ∗ bpt c d fullShare (segS (slot (j + 1)) 1) f')
        ∗ (reached ER (rcvC c d j 0) (j / 3) ∗ reached ER (rcvC c d j 1) (j / 3)) ∗ tell c d j)
      ⊢ (|={Set.univ}=> tell c d (j + 1) : sProp 𝕄) := by
  iintro ⟨#HK, ⟨Hr0, Hr1⟩, ⟨Hs0, Hs1⟩, ⟨#Hc0, #Hc1⟩, Ht⟩
  imod (release1 X K ιs c d j 0 hj f) $$ [Hr0 Hs0] with H0
  · isplitr; · iexact HK
    isplitl [Hr0]; · iexact Hr0
    iexact Hs0
  imod (release1 X K ιs c d j 1 hj f') $$ [Hr1 Hs1] with H1
  · isplitr; · iexact HK
    isplitl [Hr1]; · iexact Hr1
    iexact Hs1
  imodintro
  iapply (tell_succ c d j)
  isplitl [Ht]; · iexact Ht
  unfold told
  isplitl [H0]
  · isplitl [H0]; · iexact H0
    iexact Hc0
  · isplitl [H1]; · iexact H1
    iexact Hc1

/-! ## The word given and awaited -/

/-- Where a device stands with the words of its neighbour: at least `k` heard. -/
def heard (c : Dev nD) (d : Bool) (k : ℕ) : sProp 𝕄 :=
  iprop(∃ S : Finset ℕ, ⌜S ⊆ Finset.Icc 1 29 ∧ k ≤ S.card⌝ ∗ atPos ER (crdC c d) 0 S k
    ∗ bigSep S (fun n => tell (F := F) (nx c d) d (n + 2)))

theorem card_reach (S : Finset ℕ) (k : ℕ) (hS : S ⊆ Finset.Icc 1 29) (hk : k + 1 ≤ S.card) : ∃ n ∈ S, k + 1 ≤ n := by
  by_contra hn
  have hsub : S ⊆ Finset.Icc 1 k := fun n hm => by
    have h1 := Finset.mem_Icc.mp (hS hm)
    have h2 : ¬ (k + 1 ≤ n) := fun h => hn ⟨n, hm, h⟩
    exact Finset.mem_Icc.mpr ⟨h1.1, by omega⟩
  have := Finset.card_le_card hsub
  rw [Nat.card_Icc] at this
  omega

section Wp

variable (dd : Defs nD τ sig (Elt F) Λ₀) (𝒱 : Variants) (c : Dev nD)
variable {α : Type}

/-- The word given to the neighbour behind in direction `d`. -/
theorem wp_giveWord (Q : α → sProp 𝕄) (d : Bool) (h : ℕ) (hh : 1 ≤ h) (hh' : h ≤ 29) (O : CellTallies nD τ sig ℕ) (k : BProg F α) :
    iprop(known X K ιs ∗ dutyTok ER (crdC (nx c (!d)) d) 0 h ∗ reached ER (crdC (nx c (!d)) d) 0 ∗ tell c d (h + 2) ∗ owing c (O + oweK c d h))
      ⊢ iprop((owing c O -∗ WP dd 𝒱 c Q k)
          -∗ WP dd 𝒱 c Q (.op (.semSignal (nx c (!d), .tc) (crdA d).sem (1#32 : BitVec 32).toInt) fun _ => k)) := by
  unfold owing
  iintro ⟨#HK, Ht, Hr, Htell, ⟨%W, HO⟩⟩ Hk
  ihave #HI := (known_crd X K ιs (nx c (!d)) d) $$ HK
  iapply (Rounds.wp_signal 𝒱 ER (Rd X) (c : Thread nD τ) none (dst := (nx c (!d) : Thread nD τ)) (sem := (crdA d).sem) (r := 0) (d := h)
      (k' := 1) (κ := K (crdC (nx c (!d)) d))
      (by rw [duties_crd]; exact Finset.mem_Icc.mpr ⟨hh, hh'⟩) (amount_crd X (nx c (!d)) d h) h O rfl (W := W)) $$ [HO Ht Hr Htell]
  · isplitr; · iexact HI
    isplitl [HO]; · iexact HO
    isplitl [Ht]; · iexact Ht
    isplitl [Htell]
    · rw [payload_crd, nx_nx']; iexact Htell
    iexact Hr
  iintro HO
  iapply Hk
  iexists W; iexact HO

/-- The word awaited from the neighbour ahead. -/
theorem wp_takeWord (Q : α → sProp 𝕄) (d : Bool) (h : ℕ) (hh : h < 29) (O : CellTallies nD τ sig ℕ) (hO : Above (2 * (h + 1) + 1) O) (k : BProg F α) :
    iprop(known X K ιs ∗ heard c d h ∗ cred (tallyAt (crdC c d) (h + 1) 1) ∗ owing c O)
      ⊢ iprop(((heard c d (h + 1) ∗ tell (nx c d) d (h + 3) ∗ owing c O) -∗ WP dd 𝒱 c Q k)
          -∗ WP dd 𝒱 c Q (.op (.semWait (crdA d).sem (1#32 : BitVec 32).toInt) fun _ => k)) := by
  unfold owing heard
  iintro ⟨#HK, ⟨%S, %hS, Hat, #Hb⟩, Hc, ⟨%W, HO⟩⟩ Hk
  ihave #HI := (known_crd X K ιs c d) $$ HK
  ihave #Hl := (known_lev X K ιs) $$ HK
  iapply (Rounds.wp_wait 𝒱 ER (Rd X) (c : Thread nD τ) none (κ := K (crdC c d))
      (wpE_semWait_eq 𝒱 (c : Thread nD τ) none Set.univ) (k' := 1) (Set.mem_univ _) (cr := Finsupp.single (h + 1) 1) (O := O) (W := W)
      {(SemLoc.reg (crdA d).sem, h + 1)} (R := 0) (m := h) (T := S)
      (Util.total_single _ _) (image_single_subset (SemLoc.reg (crdA d).sem) (h + 1) 1)) $$ [Hc HO Hat]
  · isplitr; · iexact HI
    isplitl [Hc]; · iexact Hc
    isplitl [HO]; · iexact HO
    isplitr
    · iapply (mayWait c (.reg (crdA d).sem) (h + 1) (by omega) O (hO.mono (le_of_eq (lv_crd c d (h + 1)))))
      iexact Hl
    iexact Hat
  iintro %S' ⟨%hS', HO, Hat, Hpay⟩
  obtain ⟨hSS, hSd, hcard⟩ := hS'
  rw [duties_crd] at hSd
  rw [duties_crd, expect_crd, Finset.card_sdiff_of_subset hSd, Nat.card_Icc] at hcard
  have hle := Finset.card_le_card hSd
  rw [Nat.card_Icc] at hle
  have hk : h + 1 ≤ S'.card := by omega
  obtain ⟨n, hn, hhn⟩ := card_reach S' h hSd hk
  have hpay : bigSep (S' \ S) (fun n => (Rd X).payload (crdC c d) 0 n) ⊢ (bigSep (S' \ S) (fun n => tell (F := F) (nx c d) d (n + 2)) : sProp 𝕄) :=
    bigSep_mono fun n _ => Entails.of_eq (payload_crd X c d n)
  ihave #Hpay' := hpay $$ Hpay
  have hall : iprop(bigSep S (fun n => tell (F := F) (nx c d) d (n + 2)) ∗ bigSep (S' \ S) (fun n => tell (F := F) (nx c d) d (n + 2)))
      ⊢ (bigSep S' (fun n => tell (F := F) (nx c d) d (n + 2)) : sProp 𝕄) :=
    Entails.of_eq (bigSep_sdiff_split hSS).symm
  ihave #Hall := hall $$ [Hb Hpay']
  · isplitr; · iexact Hb
    iexact Hpay'
  iapply Hk
  isplitl [Hat]
  · iexists S'
    isplitr; · ipureintro; exact ⟨hSd, hk⟩
    isplitl [Hat]; · iexact Hat
    iexact Hall
  isplitr
  · iapply (tell_mono (nx c d) d (h + 3) (n + 2) (by omega))
    iapply (show (bigSep S' (fun n => tell (F := F) (nx c d) d (n + 2)) : sProp 𝕄) ⊢ tell (nx c d) d (n + 2) from
      bigSep_elim (Φ := fun n => tell (F := F) (nx c d) d (n + 2)) hn)
    iexact Hall
  iexists _; iexact HO

end Wp

end Cert.KernelIdeal.Ring
-- ==== Proof.Fill.lean ====
/- What the kernel computes and where it puts it: the final contents of the result, how much of it is there after each store,
   and the loads and stores that make it. -/
module

public import proofs.«01_k».proof.Proof.Ops

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

variable (X : Dev nD → S256x8192.Idx → Elt F .f32) (c : Dev nD) (w : FVec F S8192x128 .f32)

/-! ## The result -/

/-- Half of a device's block, as a slot holds it. -/
def halfV (e : Dev nD) (d : Bool) : Vec F S1x128x8192 .f32 := fun z => X e (at256 (rowOf d (z 1)) (z 2))
/-- The rows of the result half a block makes, and those the device's own block makes. -/
def blk (e : Dev nD) (d : Bool) : FVec F S128x128 .f32 := act (shapeCast S128x8192 (halfV X e d) shapeCasts_S1x128x8192_S128x8192) w
def blk₀ (e : Dev nD) : FVec F S256x128 .f32 := act₀ (shapeCast S256x8192 (X e) shapeCasts_S256x8192_S256x8192) w

/-- Whose rows an element of the result is among, in which half, and where in it. -/
def owner (i : S8192x128.Idx) : Dev nD := ⟨(i 0).val / 256, by
  have h : (i 0).val < 8192 := (i 0).isLt
  show (i 0).val / 256 < 32
  omega⟩
def upper (i : S8192x128.Idx) : Bool := decide (128 ≤ (i 0).val % 256)
def in128 (i : S8192x128.Idx) : S128x128.Idx := fun a => match a with
  | ⟨0, _⟩ => ⟨(i 0).val % 128, Nat.mod_lt _ (by decide)⟩
  | ⟨1, _⟩ => i 1
def in256 (i : S8192x128.Idx) : S256x128.Idx := fun a => match a with
  | ⟨0, _⟩ => ⟨(i 0).val % 256, Nat.mod_lt _ (by decide)⟩
  | ⟨1, _⟩ => i 1

/-- The result of device `c`. -/
def Vfin (i : S8192x128.Idx) : Elt F .f32 :=
  if owner i = c then blk₀ X w (owner i) (in256 i) else blk X w (owner i) (upper i) (in128 i)

/-- The elements written once the own rows and `n d` half blocks of each direction are. -/
def dn (n : Bool → ℕ) (i : S8192x128.Idx) : Prop := owner i = c ∨ ∃ h, h < n (upper i) ∧ owner i = orig (upper i) (h + 1) c

/-- Contents right where they are written. -/
def good (n : Bool → ℕ) (f : S8192x128.Idx → Elt F .f32) : Prop := ∀ i, dn c n i → f i = Vfin X c w i

theorem orig_ne : ∀ (c : Dev nD) (d : Bool) (h : Fin 31), orig d (h + 1) c ≠ c := by decide +kernel

theorem good_fill (n n' : Bool → ℕ) (d : Bool) (h : Fin 31) (hn : ∀ d' i, i < n' d' → i < n d' ∨ (d' = d ∧ i = h.val))
    (f : S8192x128.Idx → Elt F .f32) (hf : good X c w n f) (off : Fin 2 → ℕ)
    (hoff : off = ![256 * (orig d (h + 1) c).val + half d, 0]) (inb : ∀ a, off a + S128x128.size a ≤ S8192x128.size a) :
    good X c w n' (((Memref.whole cc0_stg4_0).access (Rect.unit (s := S8192x128) off S128x128.size inb)).write (Elt F) f
      (blk X w (orig d (h + 1) c) d) Finset.univ) := by
  subst hoff
  have hhalf : half d = 0 ∧ d = false ∨ half d = 128 ∧ d = true := by cases d; exact .inl ⟨rfl, rfl⟩; exact .inr ⟨rfl, rfl⟩
  intro i hi
  by_cases hm : i ∈ ((Memref.whole cc0_stg4_0).access (Rect.unit (s := S8192x128) ![256 * (orig d (h + 1) c).val + half d, 0] S128x128.size inb)).setOn Finset.univ
  · obtain ⟨z, -, rfl⟩ := Finset.mem_map.mp hm
    rw [View.write_emb_of_mem _ _ (Finset.mem_univ z)]
    set y : S8192x128.Idx := ((Memref.whole cc0_stg4_0).access (Rect.unit (s := S8192x128) ![256 * (orig d (h + 1) c).val + half d, 0] S128x128.size inb)).emb z with hy
    have h0 : (y 0).val = 256 * (orig d (h + 1) c).val + half d + 1 * (z 0).val := rfl
    have h1 : (y 1).val = 0 + 1 * (z 1).val := rfl
    have hz : (z 0).val < 128 := (z 0).isLt
    have ho : owner y = orig d (h + 1) c := Fin.ext (by show (y 0).val / 256 = _; omega)
    have hu : upper y = d := by
      unfold upper
      rcases hhalf with ⟨e, e'⟩ | ⟨e, e'⟩
      · rw [e']; exact decide_eq_false (by omega)
      · rw [e']; exact decide_eq_true (by omega)
    have hin : in128 y = z := by
      funext a
      match a with
      | ⟨0, _⟩ => exact Fin.ext (by show (y 0).val % 128 = (z 0).val; omega)
      | ⟨1, _⟩ => exact Fin.ext (by show (y 1).val = (z 1).val; omega)
    unfold Vfin
    rw [ho, hu, hin, if_neg (orig_ne c d h)]
    rfl
  · rw [View.write_of_not_mem _ _ _ hm]
    refine hf i ?_
    rcases hi with hi | ⟨j, hj, ho⟩
    · exact .inl hi
    · rcases hn _ _ hj with h' | ⟨hd, rfl⟩
      · exact .inr ⟨j, h', ho⟩
      · refine absurd ?_ hm
        rw [View.setOn_univ]
        refine (Finset.ext_iff.mp (View.set_slice_whole _ _) i).mpr (Rect.mem_set_unit.mpr ?_)
        rw [hd] at ho
        have ho' : (i 0).val / 256 = (orig d (h + 1) c).val := congrArg Fin.val ho
        refine Fin.forall_fin_two.mpr ⟨?_, ?_⟩
        · show 256 * (orig d (h + 1) c).val + half d ≤ (i 0).val ∧ (i 0).val < 256 * (orig d (h + 1) c).val + half d + 128
          unfold upper at hd
          rcases hhalf with ⟨e, e'⟩ | ⟨e, e'⟩
          · rw [e'] at hd
            have := of_decide_eq_false hd
            omega
          · rw [e'] at hd
            have := of_decide_eq_true hd
            omega
        · show 0 ≤ (i 1).val ∧ (i 1).val < 0 + 128
          exact ⟨Nat.zero_le _, by have : (i 1).val < 128 := (i 1).isLt; omega⟩

theorem good_own (f : S8192x128.Idx → Elt F .f32) (off : Fin 2 → ℕ) (hoff : off = ![256 * c.val, 0])
    (inb : ∀ a, off a + S256x128.size a ≤ S8192x128.size a) :
    good X c w (fun _ => 0) (((Memref.whole cc0_stg4_0).access (Rect.unit (s := S8192x128) off S256x128.size inb)).write (Elt F) f
      (blk₀ X w c) Finset.univ) := by
  subst hoff
  intro i hi
  have ho : owner i = c := by
    rcases hi with hi | ⟨j, hj, -⟩
    · exact hi
    · exact absurd hj (Nat.not_lt_zero j)
  have ho' : (i 0).val / 256 = c.val := congrArg Fin.val ho
  have hm : i ∈ ((Memref.whole cc0_stg4_0).access (Rect.unit (s := S8192x128) ![256 * c.val, 0] S256x128.size inb)).setOn Finset.univ := by
    rw [View.setOn_univ]
    refine (Finset.ext_iff.mp (View.set_slice_whole _ _) i).mpr (Rect.mem_set_unit.mpr (Fin.forall_fin_two.mpr ⟨?_, ?_⟩))
    · show 256 * c.val ≤ (i 0).val ∧ (i 0).val < 256 * c.val + 256
      omega
    · show 0 ≤ (i 1).val ∧ (i 1).val < 0 + 128
      exact ⟨Nat.zero_le _, by have : (i 1).val < 128 := (i 1).isLt; omega⟩
  obtain ⟨z, -, rfl⟩ := Finset.mem_map.mp hm
  rw [View.write_emb_of_mem _ _ (Finset.mem_univ z)]
  unfold Vfin
  rw [if_pos ho, ho]
  set y : S8192x128.Idx := ((Memref.whole cc0_stg4_0).access (Rect.unit (s := S8192x128) ![256 * c.val, 0] S256x128.size inb)).emb z with hy
  have h0 : (y 0).val = 256 * c.val + 1 * (z 0).val := rfl
  have h1 : (y 1).val = 0 + 1 * (z 1).val := rfl
  have hz : (z 0).val < 256 := (z 0).isLt
  have hin : in256 y = z := by
    funext a
    match a with
    | ⟨0, _⟩ => exact Fin.ext (by show (y 0).val % 256 = (z 0).val; omega)
    | ⟨1, _⟩ => exact Fin.ext (by show (y 1).val = (z 1).val; omega)
  rw [hin]
  rfl

/-- When every half block is in, the contents are the result. -/
theorem good_all (f : S8192x128.Idx → Elt F .f32) (hf : good X c w (fun _ => 31) f) : f = Vfin X c w := by
  funext i
  refine hf i ?_
  rcases orig_onto c (upper i) (owner i) with h | ⟨h, hh⟩
  · exact .inl h
  · exact .inr ⟨h.val, h.isLt, hh.symm⟩

end Cert.KernelIdeal.Ring
-- ==== Proof.Serve.lean ====
/- The loads and stores of the body: a table word, a slot, the rows of the result, the half blocks that start the ring. -/
module

public import proofs.«01_k».proof.Proof.Hop
public import proofs.«01_k».proof.Proof.Fill

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

variable (X : Dev nD → S256x8192.Idx → Elt F .f32) (K : GSem nD τ sig → ℕ) (ιs : Key → ℕ)

/-- A slot is its two segments. -/
theorem slot_segs (s : Fin 3) : slotS s = segS s 0 ∪ segS s 1 := by
  ext i
  rw [Finset.mem_union, Rect.mem_set_unit, Rect.mem_set_unit, Rect.mem_set_unit]
  have h1 : (i 1).val < 128 := (i 1).isLt
  have h2 : (i 2).val < 8192 := (i 2).isLt
  constructor
  · intro h
    have h0 : s.val ≤ (i 0).val ∧ (i 0).val < s.val + 1 := h 0
    rcases Nat.lt_or_ge (i 1).val 64 with h' | h'
    · left
      intro a
      match a with
      | ⟨0, _⟩ => exact h0
      | ⟨1, _⟩ => exact ⟨Nat.zero_le _, by show (i 1).val < 64 * 0 + 64; omega⟩
      | ⟨2, _⟩ => exact ⟨Nat.zero_le _, by show (i 2).val < 0 + 8192; omega⟩
    · right
      intro a
      match a with
      | ⟨0, _⟩ => exact h0
      | ⟨1, _⟩ => exact ⟨h', by show (i 1).val < 64 * 1 + 64; omega⟩
      | ⟨2, _⟩ => exact ⟨Nat.zero_le _, by show (i 2).val < 0 + 8192; omega⟩
  · intro h a
    have h0 : s.val ≤ (i 0).val ∧ (i 0).val < s.val + 1 := by
      rcases h with h | h
      · exact h 0
      · exact h 0
    match a with
    | ⟨0, _⟩ => exact h0
    | ⟨1, _⟩ => exact ⟨Nat.zero_le _, by show (i 1).val < 0 + 128; omega⟩
    | ⟨2, _⟩ => exact ⟨Nat.zero_le _, by show (i 2).val < 0 + 8192; omega⟩

theorem segs_disjoint (s : Fin 3) : Disjoint (segS s 0) (segS s 1) := by
  rw [Finset.disjoint_left]
  intro i h h'
  have h1 : 64 * 0 ≤ (i 1).val ∧ (i 1).val < 64 * 0 + 64 := Rect.mem_set_unit.mp h 1
  have h2 : 64 * 1 ≤ (i 1).val ∧ (i 1).val < 64 * 1 + 64 := Rect.mem_set_unit.mp h' 1
  omega

theorem bpt_slot (c : Dev nD) (d : Bool) (q : PosShare TreeShare) (s : Fin 3) (f : S3x128x8192.Idx → Elt F .f32) :
    bpt c d q (slotS s) f ⊣⊢ (iprop(bpt c d q (segS s 0) f ∗ bpt c d q (segS s 1) f) : sProp 𝕄) := by
  rw [slot_segs]; exact bpt_union c d q _ _ (segs_disjoint s) f

/-- The result's staging buffer, right where it is written. -/
def outSt (c : Dev nD) (w : FVec F S8192x128 .f32) (n : Bool → ℕ) : sProp 𝕄 :=
  iprop(∃ f, ⌜good X c w n f⌝ ∗ ((c : Thread nD τ).loc cc0_stg4_0) ↦[Finset.univ]{fullShare} f)

/-- A slot read whole. -/
theorem slot_read (c : Dev nD) (d : Bool) (i : ℕ) (s : Fin 3) :
    (fun z => G X c d i ((Rect.unit (s := S3x128x8192) ![(s : ℕ), 0, 0] S1x128x8192.size (inb_slot s)).emb z)) = halfV X (orig d i c) d := by
  funext z
  unfold halfV G
  have h1 : (Rect.unit (s := S3x128x8192) ![(s : ℕ), 0, 0] S1x128x8192.size (inb_slot s)).emb z 1 = z 1 :=
    Fin.ext (by show 0 + 1 * (z 1).val = (z 1).val; omega)
  have h2 : (Rect.unit (s := S3x128x8192) ![(s : ℕ), 0, 0] S1x128x8192.size (inb_slot s)).emb z 2 = z 2 :=
    Fin.ext (by show 0 + 1 * (z 2).val = (z 2).val; omega)
  rw [h1, h2]

section Wp

variable (dd : Defs nD τ sig (Elt F) Λ₀) (𝒱 : Variants) (c : Dev nD) (w : FVec F S8192x128 .f32)
variable {α : Type}

theorem wp_slot (Q : α → sProp 𝕄) (d : Bool) (s : Fin 3) (q : PosShare TreeShare) (i : ℕ) (k : Vec F S1x128x8192 .f32 → BProg F α) (hl) :
    bpt c d q (slotS s) (G X c d i)
      ⊢ iprop((bpt c d q (slotS s) (G X c d i) -∗ WP dd 𝒱 c Q (k (halfV X (orig d i c) d)))
          -∗ WP dd 𝒱 c Q (.op (.load (bufM d) (Rect.unit (s := S3x128x8192) ![(s : ℕ), 0, 0] S1x128x8192.size (inb_slot s)).toLoadRect hl) k)) := by
  cases d
  · have hr : ((Memref.whole cc0_scratch0).access (Rect.unit (s := S3x128x8192) ![(s : ℕ), 0, 0] S1x128x8192.size (inb_slot s))).read (Elt F) (G X c false i)
        = halfV X (orig false i c) false := slot_read X c false i s
    have := wp_load_rect (defs := dd) (Γ := []) 𝒱 (c : Thread nD τ) none Set.univ (Q := Q) (k := k) (hl := hl) (m := Memref.whole cc0_scratch0)
      (r := Rect.unit (s := S3x128x8192) ![(s : ℕ), 0, 0] S1x128x8192.size (inb_slot s)) (q := q) (f := G X c false i) (View.set_slice_whole _ _).le
    rw [hr] at this
    exact this
  · have hr : ((Memref.whole cc0_scratch1).access (Rect.unit (s := S3x128x8192) ![(s : ℕ), 0, 0] S1x128x8192.size (inb_slot s))).read (Elt F) (G X c true i)
        = halfV X (orig true i c) true := slot_read X c true i s
    have := wp_load_rect (defs := dd) (Γ := []) 𝒱 (c : Thread nD τ) none Set.univ (Q := Q) (k := k) (hl := hl) (m := Memref.whole cc0_scratch1)
      (r := Rect.unit (s := S3x128x8192) ![(s : ℕ), 0, 0] S1x128x8192.size (inb_slot s)) (q := q) (f := G X c true i) (View.set_slice_whole _ _).le
    rw [hr] at this
    exact this

/-- The rows a received half block makes, stored. -/
theorem wp_fill (Q : α → sProp 𝕄) (d : Bool) (h : Fin 31) (wd : BitVec 32) (hwd : wd = orgW c d h) (hw : chkO d wd) (n n' : Bool → ℕ)
    (hn : ∀ d' i, i < n' d' → i < n d' ∨ (d' = d ∧ i = h.val)) (q : PosShare TreeShare) (k : BProg F α) :
    iprop(bpt c d q (slotS (slot (h + 1))) (G X c d (h + 1)) ∗ outSt X c w n)
      ⊢ iprop(((bpt c d q (slotS (slot (h + 1))) (G X c d (h + 1)) ∗ outSt X c w n') -∗ WP dd 𝒱 c Q k)
          -∗ WP dd 𝒱 c Q (fill (E₀ c w) d h wd hw k)) := by
  unfold outSt
  iintro ⟨Hs, ⟨%f, %hf, Ho⟩⟩ Hk
  unfold fill
  iapply (wp_slot X dd 𝒱 c Q d (slot (h + 1)) q (h + 1)) $$ Hs
  iintro Hs
  iapply (wp_load 𝒱 (c : Thread nD τ) none Set.univ (m := Memref.whole cc0_stg4_0) (S := Finset.univ) (q := fullShare) (f := f)
    (Finset.subset_univ _)) $$ Ho
  iintro Ho
  iapply (wp_store 𝒱 (c : Thread nD τ) none Set.univ (m := Memref.whole cc0_stg4_0) (S := Finset.univ) (Mk := Finset.univ) (f := f)
    (r := Rect.unit (s := S8192x128) (offO d wd) S128x128.size (offO_inb d wd hw))
    (Finset.subset_univ _)) $$ Ho
  iintro Ho
  iapply Hk
  isplitl [Hs]; · iexact Hs
  iexists _
  isplitr
  · ipureintro
    exact good_fill X c w n n' d h hn f hf (offO d wd) (by rw [hwd]; exact offO_org c d h) (offO_inb d wd hw)
  iexact Ho

/-- The word of the table of devices a hop reads. -/
theorem tbl_read (tb : S32.Idx → Elt F .i32) (htb : ∀ i, tb i = lit0 (i 0)) (o : Fin 1 → ℕ) (ho : ∀ a, o a + S1.size a ≤ S32.size a) (z : S1.Idx) :
    ((Memref.whole cc0_stg0_0).access (Rect.unit (s := S32) o S1.size ho)).read (Elt F) tb z = occupant (o 0) := by
  show tb ((Rect.unit (s := S32) o S1.size ho).emb z) = _
  rw [htb]
  unfold occupant
  congr 1
  have h1 : (z 0).val < 1 := (z 0).isLt
  have h2 : o 0 + 1 ≤ 32 := ho 0
  exact Fin.ext (by show o 0 + 1 * (z 0).val = o 0 % 32; omega)

/-- The origin of what came in, read and checked. -/
theorem wp_origin (Q : α → sProp 𝕄) (tb : S32.Idx → Elt F .i32) (htb : ∀ i, tb i = lit0 (i 0)) (d : Bool) (h : Fin 31) (q : PosShare TreeShare)
    (k : (wd : BitVec 32) → chkO d wd → BProg F α) :
    (((c : Thread nD τ).loc cc0_stg0_0) ↦[Finset.univ]{q} tb : sProp 𝕄)
      ⊢ iprop(((((c : Thread nD τ).loc cc0_stg0_0) ↦[Finset.univ]{q} tb) -∗ WP dd 𝒱 c Q (k (orgW c d h) (chk_org c d h)))
          -∗ WP dd 𝒱 c Q (origin (E₀ c w) d h k)) := by
  have hw := wp_smemLoadElt (defs := dd) (Γ := []) 𝒱 (c : Thread nD τ) none Set.univ (Q := Q) (m := Memref.whole cc0_stg0_0)
    (r := Rect.unit (s := S32) (offP d h (seat c)) S1.size (offP_inb (seat c) (chk_seat c) d h)) (hw := View.loads_smem_one rfl numel1_S1)
    (x := Shape.Idx.first (numel1_S1.symm ▸ Nat.one_pos))
    (k := fun wd : BitVec 32 => .op (TpuEff.assume (chkO d wd) (chkO.dec d wd)) fun p => k wd p.down)
    (q := q) (f := tb) (Finset.subset_univ _)
  rw [tbl_read tb htb] at hw
  have ha := wp_assume_of (defs := dd) 𝒱 (c : Thread nD τ) none Set.univ (Q := Q) (d := chkO.dec d (orgW c d h))
    (k := fun p => k (orgW c d h) p.down) (chk_org c d h)
  show _ ⊢ iprop(_ -∗ wp frame (wpE dd 𝒱 (c : Thread nD τ) none) Set.univ (origin (E₀ c w) d h k) Q)
  rw [show occupant (offP d h (seat c) 0) = orgW c d h from rfl, ha] at hw
  exact hw

end Wp

end Cert.KernelIdeal.Ring
-- ==== Proof.Hops.lean ====
/- A hop, and all of them: what each takes and leaves in both directions. -/
module

public import proofs.«01_k».proof.Proof.Serve

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

variable (X : Dev nD → S256x8192.Idx → Elt F .f32) (K : GSem nD τ sig → ℕ) (ιs : Key → ℕ)

/-- The same in both directions. -/
abbrev both (P : Bool → sProp 𝕄) : sProp 𝕄 := iprop(P false ∗ P true)

/-- A transfer under way, with what is left to its sender of the source. -/
def fly (c : Dev nD) (d : Bool) (j : ℕ) (g : Fin 2) : sProp 𝕄 := iprop(inFlight c d j g ∗ seg X c d fullShare.right j g)
/-- What a device may expect of transfer `j` into it. -/
def due (c : Dev nD) (d : Bool) (j : ℕ) (g : Fin 2) : sProp 𝕄 := cred (tallyAt (rcvC c d j g) j N)
/-- The table of devices in scalar memory. -/
def tblSt (c : Dev nD) (tb : S32.Idx → Elt F .i32) : sProp 𝕄 := ((c : Thread nD τ).loc cc0_stg0_0) ↦[Finset.univ]{fullShare} tb

section Wp

variable (dd : Defs nD τ sig (Elt F) Λ₀) (𝒱 : Variants) (c : Dev nD) (w : FVec F S8192x128 .f32)
variable (tb : S32.Idx → Elt F .i32) (htb : ∀ i, tb i = lit0 (i 0))
variable {α : Type}

theorem wp_drain1 (Q : α → sProp 𝕄) (d : Bool) (j : ℕ) (g : Fin 2) (hj : j < 31) (O : CellTallies nD τ sig ℕ) (hO : Above 0 O) (k : BProg F α) :
    iprop(known X K ιs ∗ fly X c d j g ∗ owing c O)
      ⊢ iprop(((idleSnd c d (j + 3) g ∗ seg X c d fullShare j g ∗ owing c O) -∗ WP dd 𝒱 c Q k)
          -∗ WP dd 𝒱 c Q (waitSend (E₀ c w) d j g k)) := by
  unfold fly
  iintro ⟨#HK, ⟨Hf, Hs⟩, HO⟩
  iapply (wp_waitSend X K ιs dd 𝒱 c w Q d j g hj O hO k)
  isplitr; · iexact HK
  isplitl [Hf]; · iexact Hf
  isplitl [Hs]; · iexact Hs
  iexact HO

/-- The four waits for a hop's transfers to have been read out. -/
theorem wp_drain (Q : α → sProp 𝕄) (j : ℕ) (hj : j < 31) (O : CellTallies nD τ sig ℕ) (hO : Above 0 O) (k : BProg F α) :
    iprop(known X K ιs ∗ both (fun d => two (fly X c d j)) ∗ owing c O)
      ⊢ iprop(((both (fun d => iprop(two (idleSnd c d (j + 3)) ∗ two (seg X c d fullShare j))) ∗ owing c O) -∗ WP dd 𝒱 c Q k)
          -∗ WP dd 𝒱 c Q (drain (E₀ c w) j k)) := by
  iintro ⟨#HK, ⟨⟨H00, H01⟩, ⟨H10, H11⟩⟩, HO⟩ Hk
  unfold drain
  iapply (wp_drain1 X K ιs dd 𝒱 c w Q false j 0 hj O hO) $$ [H00 HO]
  · isplitr; · iexact HK
    isplitl [H00]; · iexact H00
    iexact HO
  iintro ⟨I00, S00, HO⟩
  iapply (wp_drain1 X K ιs dd 𝒱 c w Q true j 0 hj O hO) $$ [H10 HO]
  · isplitr; · iexact HK
    isplitl [H10]; · iexact H10
    iexact HO
  iintro ⟨I10, S10, HO⟩
  iapply (wp_drain1 X K ιs dd 𝒱 c w Q false j 1 hj O hO) $$ [H01 HO]
  · isplitr; · iexact HK
    isplitl [H01]; · iexact H01
    iexact HO
  iintro ⟨I01, S01, HO⟩
  iapply (wp_drain1 X K ιs dd 𝒱 c w Q true j 1 hj O hO) $$ [H11 HO]
  · isplitr; · iexact HK
    isplitl [H11]; · iexact H11
    iexact HO
  iintro ⟨I11, S11, HO⟩
  iapply Hk
  isplitr [HO]
  · isplitl [I00 I01 S00 S01]
    · isplitl [I00 I01]
      · isplitl [I00]; · iexact I00
        iexact I01
      · isplitl [S00]; · iexact S00
        iexact S01
    · isplitl [I10 I11]
      · isplitl [I10]; · iexact I10
        iexact I11
      · isplitl [S10]; · iexact S10
        iexact S11
  iexact HO

/-- What came in at hop `h`, sent on. -/
theorem wp_pass (Q : α → sProp 𝕄) (d : Bool) (h : ℕ) (g : Fin 2) (hh : h + 1 < 31) (O : CellTallies nD τ sig ℕ) (hO : Above (2 * h + 2) O) (k : BProg F α) :
    iprop(known X K ιs ∗ idleRcv c d h g ∗ due c d h g ∗ idleSnd c d (h + 1) g ∗ sndStock c d (h + 1) g ∗ tell (nx c d) d (h + 2)
        ∗ owing c (O + oweX c d (h + 1) g))
      ⊢ iprop(((idleRcv c d (h + 3) g ∗ fly X c d (h + 1) g ∗ owing c O) -∗ WP dd 𝒱 c Q k)
          -∗ WP dd 𝒱 c Q (pass (E₀ c w) true d h g k)) := by
  unfold due fly
  iintro ⟨#HK, Hr, Hc, Hi, Hst, Ht, HO⟩ Hk
  unfold pass
  iapply (wp_waitRecv X K ιs dd 𝒱 c w Q d h g (by omega) (O + oweX c d (h + 1) g)
    (hO.add (above_X c d (h + 1) g (2 * h + 2) hh (by omega)))) $$ [Hr Hc HO]
  · isplitr; · iexact HK
    isplitl [Hr]; · iexact Hr
    isplitl [Hc]; · iexact Hc
    iexact HO
  iintro ⟨Hr, Hs, HO⟩
  iapply (wp_start X K ιs dd 𝒱 c w Q d (h + 1) g (h + 2) hh (by omega) O) $$ [Hi Hst Hs Ht HO]
  · isplitr; · iexact HK
    isplitl [Hi]; · iexact Hi
    isplitl [Hst]; · iexact Hst
    isplitl [Hs]; · iexact Hs
    isplitl [Ht]; · iexact Ht
    iexact HO
  iintro ⟨Hf, Hs, HO⟩
  iapply Hk
  isplitl [Hr]; · iexact Hr
  isplitr [HO]
  · isplitl [Hf]; · iexact Hf
    iexact Hs
  iexact HO

include htb in
/-- The two half blocks that came in at a hop, multiplied and stored. -/
theorem wp_fills (Q : α → sProp 𝕄) (h : Fin 31) (q : PosShare TreeShare) (k : BProg F α) :
    iprop(both (fun d => two (seg X c d q (h + 1))) ∗ tblSt c tb ∗ outSt X c w (fun _ => h))
      ⊢ iprop(((both (fun d => two (seg X c d q (h + 1))) ∗ tblSt c tb ∗ outSt X c w (fun _ => h + 1)) -∗ WP dd 𝒱 c Q k)
          -∗ WP dd 𝒱 c Q (origin (E₀ c w) false h fun wd hw => origin (E₀ c w) true h fun wd' hw' =>
              fill (E₀ c w) false h wd hw <| fill (E₀ c w) true h wd' hw' k)) := by
  unfold tblSt
  iintro ⟨⟨Hf, Ht⟩, Htb, Ho⟩ Hk
  iapply (wp_origin dd 𝒱 c w Q tb htb false h fullShare) $$ Htb
  iintro Htb
  iapply (wp_origin dd 𝒱 c w Q tb htb true h fullShare) $$ Htb
  iintro Htb
  ihave Hf := (bpt_slot c false q (slot (h + 1)) (G X c false (h + 1))).2 $$ Hf
  ihave Ht := (bpt_slot c true q (slot (h + 1)) (G X c true (h + 1))).2 $$ Ht
  iapply (wp_fill X dd 𝒱 c w Q false h _ rfl _ (fun _ => h) (fun d' => if d' then h else h + 1) (fun d' i hi => by
    cases d'
    · have hi' : i < h + 1 := hi
      rcases Nat.lt_or_ge i h with h' | h'
      · exact .inl h'
      · exact .inr ⟨rfl, by omega⟩
    · exact .inl hi) q) $$ [Hf Ho]
  · isplitl [Hf]; · iexact Hf
    iexact Ho
  iintro ⟨Hf, Ho⟩
  iapply (wp_fill X dd 𝒱 c w Q true h _ rfl _ (fun d' => if d' then h else h + 1) (fun _ => h + 1) (fun d' i hi => by
    cases d'
    · exact .inl hi
    · rcases Nat.lt_or_ge i h with h' | h'
      · exact .inl h'
      · exact .inr ⟨rfl, by omega⟩) q) $$ [Ht Ho]
  · isplitl [Ht]; · iexact Ht
    iexact Ho
  iintro ⟨Ht, Ho⟩
  ihave Hf := (bpt_slot c false q (slot (h + 1)) (G X c false (h + 1))).1 $$ Hf
  ihave Ht := (bpt_slot c true q (slot (h + 1)) (G X c true (h + 1))).1 $$ Ht
  iapply Hk
  isplitl [Hf Ht]
  · isplitl [Hf]; · iexact Hf
    iexact Ht
  isplitl [Htb]; · iexact Htb
  iexact Ho

/-- What a device holds for receiving and sending on at hop `h`. -/
def inbound (c : Dev nD) (d : Bool) (h : ℕ) : sProp 𝕄 :=
  iprop(two (idleRcv c d h) ∗ two (due (F := F) c d h) ∗ two (idleSnd c d (h + 1)) ∗ two (sndStock c d (h + 1)) ∗ tell (nx c d) d (h + 2))
/-- And what of it is there afterwards. -/
def outbound (c : Dev nD) (d : Bool) (h : ℕ) : sProp 𝕄 := iprop(two (idleRcv c d (h + 3)) ∗ two (fly X c d (h + 1)))

include htb in
/-- The later half of a hop that sends on. -/
theorem wp_serve (Q : α → sProp 𝕄) (h : Fin 31) (hh : h.val + 1 < 31) (O : CellTallies nD τ sig ℕ) (hO : Above (2 * h.val + 2) O) (k : BProg F α) :
    iprop(known X K ιs ∗ both (fun d => inbound (F := F) c d h) ∗ owing c (O + oweT c (h + 1)) ∗ tblSt c tb ∗ outSt X c w (fun _ => h))
      ⊢ iprop(((both (fun d => outbound X c d h) ∗ owing c O ∗ tblSt c tb ∗ outSt X c w (fun _ => h + 1)) -∗ WP dd 𝒱 c Q k)
          -∗ WP dd 𝒱 c Q (serve (E₀ c w) true h k)) := by
  have hX : ∀ d g, Above (2 * h.val + 2) (oweX c d (h.val + 1) g) := fun d g => above_X c d (h.val + 1) g (2 * h.val + 2) hh (by omega)
  unfold inbound outbound oweT
  rw [← add_assoc, ← add_assoc, ← add_assoc]
  iintro ⟨#HK, ⟨⟨⟨R00, R01⟩, ⟨D00, D01⟩, ⟨I00, I01⟩, ⟨S00, S01⟩, #Hw0⟩, ⟨⟨R10, R11⟩, ⟨D10, D11⟩, ⟨I10, I11⟩, ⟨S10, S11⟩, #Hw1⟩⟩, HO, Htb, Ho⟩ Hk
  unfold serve
  iapply (wp_pass X K ιs dd 𝒱 c w Q false h 0 hh _ (((hO.add (hX _ _)).add (hX _ _)).add (hX _ _))) $$ [R00 D00 I00 S00 HO]
  · isplitr; · iexact HK
    isplitl [R00]; · iexact R00
    isplitl [D00]; · iexact D00
    isplitl [I00]; · iexact I00
    isplitl [S00]; · iexact S00
    isplitr; · iexact Hw0
    iexact HO
  iintro ⟨R00, F00, HO⟩
  iapply (wp_pass X K ιs dd 𝒱 c w Q true h 0 hh _ ((hO.add (hX _ _)).add (hX _ _))) $$ [R10 D10 I10 S10 HO]
  · isplitr; · iexact HK
    isplitl [R10]; · iexact R10
    isplitl [D10]; · iexact D10
    isplitl [I10]; · iexact I10
    isplitl [S10]; · iexact S10
    isplitr; · iexact Hw1
    iexact HO
  iintro ⟨R10, F10, HO⟩
  iapply (wp_pass X K ιs dd 𝒱 c w Q false h 1 hh _ (hO.add (hX _ _))) $$ [R01 D01 I01 S01 HO]
  · isplitr; · iexact HK
    isplitl [R01]; · iexact R01
    isplitl [D01]; · iexact D01
    isplitl [I01]; · iexact I01
    isplitl [S01]; · iexact S01
    isplitr; · iexact Hw0
    iexact HO
  iintro ⟨R01, F01, HO⟩
  iapply (wp_pass X K ιs dd 𝒱 c w Q true h 1 hh _ hO) $$ [R11 D11 I11 S11 HO]
  · isplitr; · iexact HK
    isplitl [R11]; · iexact R11
    isplitl [D11]; · iexact D11
    isplitl [I11]; · iexact I11
    isplitl [S11]; · iexact S11
    isplitr; · iexact Hw1
    iexact HO
  iintro ⟨R11, F11, HO⟩
  unfold fly
  icases F00 with ⟨F00, G00⟩
  icases F01 with ⟨F01, G01⟩
  icases F10 with ⟨F10, G10⟩
  icases F11 with ⟨F11, G11⟩
  iapply (wp_fills X dd 𝒱 c w tb htb Q h fullShare.right) $$ [G00 G01 G10 G11 Htb Ho]
  · isplitl [G00 G01 G10 G11]
    · isplitl [G00 G01]
      · isplitl [G00]; · iexact G00
        iexact G01
      · isplitl [G10]; · iexact G10
        iexact G11
    isplitl [Htb]; · iexact Htb
    iexact Ho
  iintro ⟨⟨⟨G00, G01⟩, ⟨G10, G11⟩⟩, Htb, Ho⟩
  iapply Hk
  isplitr [HO Htb Ho]
  · isplitl [R00 R01 F00 F01 G00 G01]
    · isplitl [R00 R01]
      · isplitl [R00]; · iexact R00
        iexact R01
      · isplitl [F00 G00]
        · isplitl [F00]; · iexact F00
          iexact G00
        · isplitl [F01]; · iexact F01
          iexact G01
    · isplitl [R10 R11]
      · isplitl [R10]; · iexact R10
        iexact R11
      · isplitl [F10 G10]
        · isplitl [F10]; · iexact F10
          iexact G10
        · isplitl [F11]; · iexact F11
          iexact G11
  isplitl [HO]; · iexact HO
  isplitl [Htb]; · iexact Htb
  iexact Ho

include htb in
/-- The later half of the last hop. -/
theorem wp_serve_last (Q : α → sProp 𝕄) (h : Fin 31) (O : CellTallies nD τ sig ℕ) (hO : Above (2 * h.val + 2) O) (k : BProg F α) :
    iprop(known X K ιs ∗ both (fun d => iprop(two (idleRcv c d h) ∗ two (due (F := F) c d h))) ∗ owing c O ∗ tblSt c tb ∗ outSt X c w (fun _ => h))
      ⊢ iprop(((both (fun d => iprop(two (idleRcv c d (h + 3)) ∗ two (seg X c d fullShare (h + 1)))) ∗ owing c O ∗ tblSt c tb ∗ outSt X c w (fun _ => h + 1))
            -∗ WP dd 𝒱 c Q k)
          -∗ WP dd 𝒱 c Q (serve (E₀ c w) false h k)) := by
  unfold due
  iintro ⟨#HK, ⟨⟨⟨R00, R01⟩, ⟨D00, D01⟩⟩, ⟨⟨R10, R11⟩, ⟨D10, D11⟩⟩⟩, HO, Htb, Ho⟩ Hk
  unfold serve pass
  iapply (wp_waitRecv X K ιs dd 𝒱 c w Q false h 0 h.isLt O hO) $$ [R00 D00 HO]
  · isplitr; · iexact HK
    isplitl [R00]; · iexact R00
    isplitl [D00]; · iexact D00
    iexact HO
  iintro ⟨R00, G00, HO⟩
  iapply (wp_waitRecv X K ιs dd 𝒱 c w Q true h 0 h.isLt O hO) $$ [R10 D10 HO]
  · isplitr; · iexact HK
    isplitl [R10]; · iexact R10
    isplitl [D10]; · iexact D10
    iexact HO
  iintro ⟨R10, G10, HO⟩
  iapply (wp_waitRecv X K ιs dd 𝒱 c w Q false h 1 h.isLt O hO) $$ [R01 D01 HO]
  · isplitr; · iexact HK
    isplitl [R01]; · iexact R01
    isplitl [D01]; · iexact D01
    iexact HO
  iintro ⟨R01, G01, HO⟩
  iapply (wp_waitRecv X K ιs dd 𝒱 c w Q true h 1 h.isLt O hO) $$ [R11 D11 HO]
  · isplitr; · iexact HK
    isplitl [R11]; · iexact R11
    isplitl [D11]; · iexact D11
    iexact HO
  iintro ⟨R11, G11, HO⟩
  iapply (wp_fills X dd 𝒱 c w tb htb Q h fullShare) $$ [G00 G01 G10 G11 Htb Ho]
  · isplitl [G00 G01 G10 G11]
    · isplitl [G00 G01]
      · isplitl [G00]; · iexact G00
        iexact G01
      · isplitl [G10]; · iexact G10
        iexact G11
    isplitl [Htb]; · iexact Htb
    iexact Ho
  iintro ⟨⟨⟨G00, G01⟩, ⟨G10, G11⟩⟩, Htb, Ho⟩
  iapply Hk
  isplitr [HO Htb Ho]
  · isplitl [R00 R01 G00 G01]
    · isplitl [R00 R01]
      · isplitl [R00]; · iexact R00
        iexact R01
      · isplitl [G00]; · iexact G00
        iexact G01
    · isplitl [R10 R11]
      · isplitl [R10]; · iexact R10
        iexact R11
      · isplitl [G10]; · iexact G10
        iexact G11
  isplitl [HO]; · iexact HO
  isplitl [Htb]; · iexact Htb
  iexact Ho

/-- A device's standing with its neighbours at hop `n + 1`. -/
def standing (c : Dev nD) (d : Bool) (n : ℕ) : sProp 𝕄 :=
  iprop(heard c d n ∗ tell c d (n + 2) ∗ tell (nx c d) d (n + 2) ∗ reached ER (crdC (nx c (!d)) d) 0)
/-- What the exchange of words at hop `n + 1` uses up. -/
def wordStock (c : Dev nD) (d : Bool) (n : ℕ) : sProp 𝕄 :=
  iprop(dutyTok ER (crdC (nx c (!d)) d) 0 (n + 1) ∗ cred (tallyAt (crdC c d) (n + 1) 1)
    ∗ (readerAt EK (c, d, n + 2, (0 : Fin 2)) 0 ∗ readerAt EK (c, d, n + 2, (1 : Fin 2)) 0))

/-- The slot of chunk `n`, free again, handed to transfer `n + 2`. -/
theorem free_slot (d : Bool) (n : ℕ) (hn : n + 2 < 31) :
    iprop(known X K ιs ∗ (readerAt EK (c, d, n + 2, (0 : Fin 2)) 0 ∗ readerAt EK (c, d, n + 2, (1 : Fin 2)) 0) ∗ two (seg X c d fullShare n)
        ∗ (reached ER (rcvC c d (n + 2) 0) ((n + 2) / 3) ∗ reached ER (rcvC c d (n + 2) 1) ((n + 2) / 3)) ∗ tell c d (n + 2))
      ⊢ (|={Set.univ}=> tell c d (n + 3) : sProp 𝕄) := by
  have h := release2 X K ιs c d (n + 2) hn (G X c d n) (G X c d n)
  rw [show n + 2 + 1 = n + 3 from rfl] at h
  unfold seg
  rw [← slot_add n]
  exact h

/-- The exchange of words at hop `n + 1`. -/
theorem wp_credit (Q : α → sProp 𝕄) (n : ℕ) (hn : n + 2 < 31) (O : CellTallies nD τ sig ℕ) (hO : Above (2 * (n + 1) + 1) O) (k : BProg F α) :
    iprop(known X K ιs ∗ both (fun d => iprop(standing (F := F) c d n ∗ wordStock c d n ∗ two (seg X c d fullShare n)
          ∗ (reached ER (rcvC c d (n + 2) 0) ((n + 2) / 3) ∗ reached ER (rcvC c d (n + 2) 1) ((n + 2) / 3))))
        ∗ owing c (O + oweC c (n + 1)))
      ⊢ iprop(((both (fun d => standing (F := F) c d (n + 1)) ∗ owing c O) -∗ WP dd 𝒱 c Q k)
          -∗ WP dd 𝒱 c Q (credit (E₀ c w) k)) := by
  unfold standing wordStock oweC
  rw [← add_assoc]
  iintro ⟨#HK, ⟨⟨⟨Hh0, Ht0, -, #Hr0⟩, ⟨Hd0, Hc0, Hk0⟩, Hs0, Hp0⟩, ⟨⟨Hh1, Ht1, -, #Hr1⟩, ⟨Hd1, Hc1, Hk1⟩, Hs1, Hp1⟩⟩, HO⟩ Hk
  iapply (fupd_wp)
  imod (free_slot X K ιs c false n hn) $$ [Hk0 Hs0 Hp0 Ht0] with #Ht0
  · isplitr; · iexact HK
    isplitl [Hk0]; · iexact Hk0
    isplitl [Hs0]; · iexact Hs0
    isplitl [Hp0]; · iexact Hp0
    iexact Ht0
  imod (free_slot X K ιs c true n hn) $$ [Hk1 Hs1 Hp1 Ht1] with #Ht1
  · isplitr; · iexact HK
    isplitl [Hk1]; · iexact Hk1
    isplitl [Hs1]; · iexact Hs1
    isplitl [Hp1]; · iexact Hp1
    iexact Ht1
  imodintro
  unfold credit
  iapply (wp_giveWord X K ιs dd 𝒱 c Q false (n + 1) (by omega) (by omega)) $$ [Hd0 HO]
  · isplitr; · iexact HK
    isplitl [Hd0]; · iexact Hd0
    isplitr; · iexact Hr0
    isplitr; · iexact Ht0
    iexact HO
  iintro HO
  iapply (wp_giveWord X K ιs dd 𝒱 c Q true (n + 1) (by omega) (by omega)) $$ [Hd1 HO]
  · isplitr; · iexact HK
    isplitl [Hd1]; · iexact Hd1
    isplitr; · iexact Hr1
    isplitr; · iexact Ht1
    iexact HO
  iintro HO
  iapply (wp_takeWord X K ιs dd 𝒱 c Q false n (by omega) O hO) $$ [Hh0 Hc0 HO]
  · isplitr; · iexact HK
    isplitl [Hh0]; · iexact Hh0
    isplitl [Hc0]; · iexact Hc0
    iexact HO
  iintro ⟨Hh0, Hw0, HO⟩
  iapply (wp_takeWord X K ιs dd 𝒱 c Q true n (by omega) O hO) $$ [Hh1 Hc1 HO]
  · isplitr; · iexact HK
    isplitl [Hh1]; · iexact Hh1
    isplitl [Hc1]; · iexact Hc1
    iexact HO
  iintro ⟨Hh1, Hw1, HO⟩
  iapply Hk
  isplitr [HO]
  · isplitl [Hh0 Hw0]
    · isplitl [Hh0]; · iexact Hh0
      isplitr; · iexact Ht0
      isplitl [Hw0]; · iexact Hw0
      iexact Hr0
    · isplitl [Hh1]; · iexact Hh1
      isplitr; · iexact Ht1
      isplitl [Hw1]; · iexact Hw1
      iexact Hr1
  iexact HO

theorem idleRcv_at (d : Bool) (j : ℕ) (g : Fin 2) :
    (idleRcv c d j g : sProp 𝕄) ⊢ iprop(idleRcv c d j g ∗ reached ER (rcvC c d j g) (j / 3)) := by
  unfold idleRcv
  iintro ⟨Ha, #Hr⟩
  isplitl [Ha]
  · isplitl [Ha]; · iexact Ha
    iexact Hr
  iexact Hr

/-- A direction at the top of hop `n + 1`. -/
def atHop (c : Dev nD) (d : Bool) (n : ℕ) : sProp 𝕄 :=
  iprop((two (idleRcv (F := F) c d (n + 1)) ∗ two (idleRcv c d (n + 2)) ∗ two (idleRcv c d (n + 3)))
    ∗ (two (fly X c d n) ∗ two (fly X c d (n + 1)) ∗ two (idleSnd c d (n + 2))) ∗ standing c d n)
/-- What hop `n + 1` uses up in a direction. -/
def hopStock (c : Dev nD) (d : Bool) (n : ℕ) : sProp 𝕄 :=
  iprop(wordStock (F := F) c d n ∗ two (due c d (n + 1)) ∗ two (sndStock c d (n + 2)))

include htb in
/-- A middle hop. -/
theorem wp_hop (Q : α → sProp 𝕄) (n : ℕ) (h : Fin 31) (hh : h.val = n + 1) (hn : n + 2 < 31) (O : CellTallies nD τ sig ℕ)
    (hO : Above (2 * (n + 1) + 2) O) (k : BProg F α) :
    iprop(known X K ιs ∗ both (fun d => atHop X c d n) ∗ both (fun d => hopStock (F := F) c d n)
        ∗ owing c (O + oweT c (n + 2) + oweC c (n + 1)) ∗ tblSt c tb ∗ outSt X c w (fun _ => n + 1))
      ⊢ iprop(((both (fun d => atHop X c d (n + 1)) ∗ owing c O ∗ tblSt c tb ∗ outSt X c w (fun _ => n + 2)) -∗ WP dd 𝒱 c Q k)
          -∗ WP dd 𝒱 c Q (hop (E₀ c w) h k)) := by
  obtain ⟨v, hv⟩ := h
  obtain rfl : v = n + 1 := hh
  have hT : Above (2 * (n + 1) + 1) (O + oweT c (n + 2)) := (hO.mono (by omega)).add (above_T c (n + 2) _ hn (by omega))
  unfold atHop hopStock
  iintro ⟨#HK, ⟨⟨⟨Ra0, ⟨Rb00, Rb01⟩, Rc0⟩, ⟨Fa0, Fb0, Is0⟩, St0⟩, ⟨⟨Ra1, ⟨Rb10, Rb11⟩, Rc1⟩, ⟨Fa1, Fb1, Is1⟩, St1⟩⟩,
    ⟨⟨W0, D0, T0⟩, ⟨W1, D1, T1⟩⟩, HO, Htb, Ho⟩ Hk
  ihave Rb00 := (idleRcv_at c false (n + 2) 0) $$ Rb00
  icases Rb00 with ⟨Rb00, #P00⟩
  ihave Rb01 := (idleRcv_at c false (n + 2) 1) $$ Rb01
  icases Rb01 with ⟨Rb01, #P01⟩
  ihave Rb10 := (idleRcv_at c true (n + 2) 0) $$ Rb10
  icases Rb10 with ⟨Rb10, #P10⟩
  ihave Rb11 := (idleRcv_at c true (n + 2) 1) $$ Rb11
  icases Rb11 with ⟨Rb11, #P11⟩
  unfold hop
  iapply (wp_drain X K ιs dd 𝒱 c w Q n (by omega) _ ((hT.mono (by omega)).add (above_C c (n + 1) 0 (by omega) (by omega)))) $$ [Fa0 Fa1 HO]
  · isplitr; · iexact HK
    isplitr [HO]
    · isplitl [Fa0]; · iexact Fa0
      iexact Fa1
    iexact HO
  iintro ⟨⟨⟨Id0, S0⟩, ⟨Id1, S1⟩⟩, HO⟩
  iapply (wp_credit X K ιs dd 𝒱 c w Q n hn (O + oweT c (n + 2)) hT) $$ [St0 W0 S0 St1 W1 S1 HO]
  · isplitr; · iexact HK
    isplitr [HO]
    · isplitl [St0 W0 S0]
      · isplitl [St0]; · iexact St0
        isplitl [W0]; · iexact W0
        isplitl [S0]; · iexact S0
        isplitr; · iexact P00
        iexact P01
      · isplitl [St1]; · iexact St1
        isplitl [W1]; · iexact W1
        isplitl [S1]; · iexact S1
        isplitr; · iexact P10
        iexact P11
    iexact HO
  unfold standing
  iintro ⟨⟨⟨Hh0, #Ht0, #Hw0, #Hr0⟩, ⟨Hh1, #Ht1, #Hw1, #Hr1⟩⟩, HO⟩
  iapply (wp_serve X K ιs dd 𝒱 c w tb htb Q ⟨n + 1, hv⟩ hn O hO) $$ [Ra0 Is0 D0 T0 Ra1 Is1 D1 T1 HO Htb Ho]
  · unfold inbound
    isplitr; · iexact HK
    isplitl [Ra0 Is0 D0 T0 Ra1 Is1 D1 T1]
    · isplitl [Ra0 Is0 D0 T0]
      · isplitl [Ra0]; · iexact Ra0
        isplitl [D0]; · iexact D0
        isplitl [Is0]; · iexact Is0
        isplitl [T0]; · iexact T0
        iexact Hw0
      · isplitl [Ra1]; · iexact Ra1
        isplitl [D1]; · iexact D1
        isplitl [Is1]; · iexact Is1
        isplitl [T1]; · iexact T1
        iexact Hw1
    isplitl [HO]; · iexact HO
    isplitl [Htb]; · iexact Htb
    iexact Ho
  unfold outbound
  iintro ⟨⟨⟨Rd0, Fc0⟩, ⟨Rd1, Fc1⟩⟩, HO, Htb, Ho⟩
  iapply Hk
  isplitr [HO Htb Ho]
  · isplitl [Rb00 Rb01 Rc0 Rd0 Fb0 Fc0 Id0 Hh0]
    · isplitl [Rb00 Rb01 Rc0 Rd0]
      · isplitl [Rb00 Rb01]
        · isplitl [Rb00]; · iexact Rb00
          iexact Rb01
        isplitl [Rc0]; · iexact Rc0
        iexact Rd0
      isplitl [Fb0 Fc0 Id0]
      · isplitl [Fb0]; · iexact Fb0
        isplitl [Fc0]; · iexact Fc0
        iexact Id0
      isplitl [Hh0]; · iexact Hh0
      isplitr; · iexact Ht0
      isplitr; · iexact Hw0
      iexact Hr0
    · isplitl [Rb10 Rb11 Rc1 Rd1]
      · isplitl [Rb10 Rb11]
        · isplitl [Rb10]; · iexact Rb10
          iexact Rb11
        isplitl [Rc1]; · iexact Rc1
        iexact Rd1
      isplitl [Fb1 Fc1 Id1]
      · isplitl [Fb1]; · iexact Fb1
        isplitl [Fc1]; · iexact Fc1
        iexact Id1
      isplitl [Hh1]; · iexact Hh1
      isplitr; · iexact Ht1
      isplitr; · iexact Hw1
      iexact Hr1
  isplitl [HO]; · iexact HO
  isplitl [Htb]; · iexact Htb
  iexact Ho

/-- The middle hops from `n + 1` on, `m` of them. -/
def mid (E : Env F) {α : Type} : ℕ → ℕ → BProg F α → BProg F α
  | _, 0, k => k
  | n, m + 1, k => hop E (Fin.ofNat 31 (n + 1)) (mid E (n + 1) m k)
/-- What they use up. -/
def stock (c : Dev nD) : ℕ → ℕ → sProp 𝕄
  | _, 0 => iprop(emp)
  | n, m + 1 => iprop(both (fun d => hopStock (F := F) c d n) ∗ stock c (n + 1) m)

include htb in
theorem wp_mid (Q : α → sProp 𝕄) (k : BProg F α) : ∀ m n : ℕ, n + m = 29 →
    iprop(known X K ιs ∗ both (fun d => atHop X c d n) ∗ stock (F := F) c n m ∗ owing c (owed c m) ∗ tblSt c tb ∗ outSt X c w (fun _ => n + 1))
      ⊢ iprop(((both (fun d => atHop X c d 29) ∗ owing c 0 ∗ tblSt c tb ∗ outSt X c w (fun _ => 30)) -∗ WP dd 𝒱 c Q k)
          -∗ WP dd 𝒱 c Q (mid (E₀ c w) n m k))
  | 0, n, h => by
    obtain rfl : n = 29 := h
    iintro ⟨-, H, -, HO, Htb, Ho⟩ Hk
    unfold mid owed
    iapply Hk
    isplitl [H]; · iexact H
    isplitl [HO]; · iexact HO
    isplitl [Htb]; · iexact Htb
    iexact Ho
  | m + 1, n, h => by
    have ih := wp_mid Q k m (n + 1) (by omega)
    have e1 : 30 - m = n + 2 := by omega
    have e2 : 29 - m = n + 1 := by omega
    have hv : (Fin.ofNat 31 (n + 1)).val = n + 1 := Nat.mod_eq_of_lt (by omega)
    have ho := above_owed c m (2 * (n + 1) + 2) (by omega) (by omega)
    rw [mid, owed, stock, e1, e2]
    iintro ⟨#HK, H, ⟨Hs, Hs'⟩, HO, Htb, Ho⟩ Hk
    iapply (wp_hop X K ιs dd 𝒱 c w tb htb Q n (Fin.ofNat 31 (n + 1)) hv (by omega) (owed c m) ho) $$ [H Hs HO Htb Ho]
    · isplitr; · iexact HK
      isplitl [H]; · iexact H
      isplitl [Hs]; · iexact Hs
      isplitl [HO]; · iexact HO
      isplitl [Htb]; · iexact Htb
      iexact Ho
    iintro ⟨H, HO, Htb, Ho⟩
    iapply ih $$ [H Hs' HO Htb Ho]
    · isplitr; · iexact HK
      isplitl [H]; · iexact H
      isplitl [Hs']; · iexact Hs'
      isplitl [HO]; · iexact HO
      isplitl [Htb]; · iexact Htb
      iexact Ho
    iexact Hk

theorem hops_eq (E : Env F) : hops E = serve E true 0 (mid E 0 29 (drain E 29 <| serve E false 30 <| drain E 30 <| .ret ⟨⟩)) := rfl

/-- A direction when the ring starts: the first transfers are under way. -/
def atTop (c : Dev nD) (d : Bool) : sProp 𝕄 :=
  iprop((two (idleRcv (F := F) c d 0) ∗ two (idleRcv c d 1) ∗ two (idleRcv c d 2))
    ∗ (two (fly X c d 0) ∗ two (idleSnd c d 1) ∗ two (idleSnd c d 2)) ∗ standing c d 0)
/-- And when it is over. -/
def atEnd (c : Dev nD) (d : Bool) : sProp 𝕄 :=
  iprop((two (idleRcv (F := F) c d 31) ∗ two (idleRcv c d 32) ∗ two (idleRcv c d 33))
    ∗ (two (idleSnd c d 31) ∗ two (idleSnd c d 32) ∗ two (idleSnd c d 33)) ∗ heard c d 29
    ∗ two (seg X c d fullShare 29) ∗ two (seg X c d fullShare 30) ∗ two (seg X c d fullShare 31))
/-- What the first and the last hop use up. -/
def endStock (c : Dev nD) (d : Bool) : sProp 𝕄 := iprop(two (due (F := F) c d 0) ∗ two (sndStock c d 1) ∗ two (due c d 30))

include htb in
/-- All the hops. -/
theorem wp_hops (Q : PUnit → sProp 𝕄) :
    iprop(known X K ιs ∗ both (fun d => atTop X c d) ∗ both (fun d => endStock (F := F) c d) ∗ stock (F := F) c 0 29
        ∗ owing c (owed c 29 + oweT c 1) ∗ tblSt c tb ∗ outSt X c w (fun _ => 0))
      ⊢ iprop(((both (fun d => atEnd X c d) ∗ owing c 0 ∗ tblSt c tb ∗ outSt X c w (fun _ => 31)) -∗ WP dd 𝒱 c Q (.ret ⟨⟩))
          -∗ WP dd 𝒱 c Q (hops (E₀ c w))) := by
  rw [hops_eq]
  unfold atTop endStock standing
  iintro ⟨#HK, ⟨⟨⟨Ra0, Rb0, Rc0⟩, ⟨Fa0, Ia0, Ib0⟩, ⟨Hh0, Ht0, #Hw0, Hr0⟩⟩, ⟨⟨Ra1, Rb1, Rc1⟩, ⟨Fa1, Ia1, Ib1⟩, ⟨Hh1, Ht1, #Hw1, Hr1⟩⟩⟩,
    ⟨⟨Da0, Sa0, Dz0⟩, ⟨Da1, Sa1, Dz1⟩⟩, Hst, HO, Htb, Ho⟩ Hk
  iapply (wp_serve X K ιs dd 𝒱 c w tb htb Q 0 (by decide) (owed c 29) (above_owed c 29 _ (by omega) (by decide))) $$ [Ra0 Da0 Ia0 Sa0 Ra1 Da1 Ia1 Sa1 HO Htb Ho]
  · unfold inbound
    isplitr; · iexact HK
    isplitl [Ra0 Da0 Ia0 Sa0 Ra1 Da1 Ia1 Sa1]
    · isplitl [Ra0 Da0 Ia0 Sa0]
      · isplitl [Ra0]; · iexact Ra0
        isplitl [Da0]; · iexact Da0
        isplitl [Ia0]; · iexact Ia0
        isplitl [Sa0]; · iexact Sa0
        iexact Hw0
      · isplitl [Ra1]; · iexact Ra1
        isplitl [Da1]; · iexact Da1
        isplitl [Ia1]; · iexact Ia1
        isplitl [Sa1]; · iexact Sa1
        iexact Hw1
    isplitl [HO]; · iexact HO
    isplitl [Htb]; · iexact Htb
    iexact Ho
  unfold outbound
  iintro ⟨⟨⟨Rd0, Fb0⟩, ⟨Rd1, Fb1⟩⟩, HO, Htb, Ho⟩
  iapply (wp_mid X K ιs dd 𝒱 c w tb htb Q _ 29 0 rfl) $$ [Rb0 Rc0 Rd0 Fa0 Fb0 Ib0 Hh0 Ht0 Hr0 Rb1 Rc1 Rd1 Fa1 Fb1 Ib1 Hh1 Ht1 Hr1 Hst HO Htb Ho]
  · unfold atHop standing
    isplitr; · iexact HK
    isplitr [Hst HO Htb Ho]
    · isplitl [Rb0 Rc0 Rd0 Fa0 Fb0 Ib0 Hh0 Ht0 Hr0]
      · isplitl [Rb0 Rc0 Rd0]
        · isplitl [Rb0]; · iexact Rb0
          isplitl [Rc0]; · iexact Rc0
          iexact Rd0
        isplitl [Fa0 Fb0 Ib0]
        · isplitl [Fa0]; · iexact Fa0
          isplitl [Fb0]; · iexact Fb0
          iexact Ib0
        isplitl [Hh0]; · iexact Hh0
        isplitl [Ht0]; · iexact Ht0
        isplitr; · iexact Hw0
        iexact Hr0
      · isplitl [Rb1 Rc1 Rd1]
        · isplitl [Rb1]; · iexact Rb1
          isplitl [Rc1]; · iexact Rc1
          iexact Rd1
        isplitl [Fa1 Fb1 Ib1]
        · isplitl [Fa1]; · iexact Fa1
          isplitl [Fb1]; · iexact Fb1
          iexact Ib1
        isplitl [Hh1]; · iexact Hh1
        isplitl [Ht1]; · iexact Ht1
        isplitr; · iexact Hw1
        iexact Hr1
    isplitl [Hst]; · iexact Hst
    isplitl [HO]; · iexact HO
    isplitl [Htb]; · iexact Htb
    iexact Ho
  unfold atHop standing
  iintro ⟨⟨⟨⟨Ra0, Rb0, Rc0⟩, ⟨Fa0, Fb0, Ib0⟩, ⟨Hh0, -, -, -⟩⟩, ⟨⟨Ra1, Rb1, Rc1⟩, ⟨Fa1, Fb1, Ib1⟩, ⟨Hh1, -, -, -⟩⟩⟩, HO, Htb, Ho⟩
  iapply (wp_drain X K ιs dd 𝒱 c w Q 29 (by decide) 0 (Above.zero 0)) $$ [Fa0 Fa1 HO]
  · isplitr; · iexact HK
    isplitr [HO]
    · isplitl [Fa0]; · iexact Fa0
      iexact Fa1
    iexact HO
  iintro ⟨⟨⟨Ic0, Sx0⟩, ⟨Ic1, Sx1⟩⟩, HO⟩
  iapply (wp_serve_last X K ιs dd 𝒱 c w tb htb Q 30 0 (Above.zero _)) $$ [Ra0 Dz0 Ra1 Dz1 HO Htb Ho]
  · isplitr; · iexact HK
    isplitl [Ra0 Dz0 Ra1 Dz1]
    · isplitl [Ra0 Dz0]
      · isplitl [Ra0]; · iexact Ra0
        iexact Dz0
      · isplitl [Ra1]; · iexact Ra1
        iexact Dz1
    isplitl [HO]; · iexact HO
    isplitl [Htb]; · iexact Htb
    iexact Ho
  iintro ⟨⟨⟨Rd0, Sz0⟩, ⟨Rd1, Sz1⟩⟩, HO, Htb, Ho⟩
  iapply (wp_drain X K ιs dd 𝒱 c w Q 30 (by decide) 0 (Above.zero 0)) $$ [Fb0 Fb1 HO]
  · isplitr; · iexact HK
    isplitr [HO]
    · isplitl [Fb0]; · iexact Fb0
      iexact Fb1
    iexact HO
  iintro ⟨⟨⟨Id0, Sy0⟩, ⟨Id1, Sy1⟩⟩, HO⟩
  iapply Hk
  unfold atEnd
  isplitr [HO Htb Ho]
  · isplitl [Rb0 Rc0 Rd0 Ib0 Ic0 Id0 Hh0 Sx0 Sy0 Sz0]
    · isplitl [Rb0 Rc0 Rd0]
      · isplitl [Rb0]; · iexact Rb0
        isplitl [Rc0]; · iexact Rc0
        iexact Rd0
      isplitl [Ib0 Ic0 Id0]
      · isplitl [Ib0]; · iexact Ib0
        isplitl [Ic0]; · iexact Ic0
        iexact Id0
      isplitl [Hh0]; · iexact Hh0
      isplitl [Sx0]; · iexact Sx0
      isplitl [Sy0]; · iexact Sy0
      iexact Sz0
    · isplitl [Rb1 Rc1 Rd1]
      · isplitl [Rb1]; · iexact Rb1
        isplitl [Rc1]; · iexact Rc1
        iexact Rd1
      isplitl [Ib1 Ic1 Id1]
      · isplitl [Ib1]; · iexact Ib1
        isplitl [Ic1]; · iexact Ic1
        iexact Id1
      isplitl [Hh1]; · iexact Hh1
      isplitl [Sx1]; · iexact Sx1
      isplitl [Sy1]; · iexact Sy1
      iexact Sz1
  isplitl [HO]; · iexact HO
  isplitl [Htb]; · iexact Htb
  iexact Ho

end Wp

end Cert.KernelIdeal.Ring
-- ==== Proof.Open.lean ====
/- The start of a device: its buffers in slots, the word exchanged with both neighbours, the first half blocks laid out and sent. -/
module

public import proofs.«01_k».proof.Proof.Hops
public import Idealize.ShloMosaic.Lib.Pipeline.Value

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

variable (X : Dev nD → S256x8192.Idx → Elt F .f32) (K : GSem nD τ sig → ℕ) (ιs : Key → ℕ)

/-! ## A buffer and its slots -/

theorem mem_slotS (s : Fin 3) (i : S3x128x8192.Idx) : i ∈ slotS s ↔ (i 0).val = s.val := by
  rw [Rect.mem_set_unit]
  have h1 : (i 1).val < 128 := (i 1).isLt
  have h2 : (i 2).val < 8192 := (i 2).isLt
  constructor
  · intro h
    have h0 : s.val ≤ (i 0).val ∧ (i 0).val < s.val + 1 := h 0
    omega
  · intro h a
    match a with
    | ⟨0, _⟩ => exact ⟨h.ge, by show (i 0).val < s.val + 1; omega⟩
    | ⟨1, _⟩ => exact ⟨Nat.zero_le _, by show (i 1).val < 0 + 128; omega⟩
    | ⟨2, _⟩ => exact ⟨Nat.zero_le _, by show (i 2).val < 0 + 8192; omega⟩

theorem slots_all : (Finset.univ : Finset S3x128x8192.Idx) = slotS 0 ∪ (slotS 1 ∪ slotS 2) := by
  symm
  rw [Finset.eq_univ_iff_forall]
  intro i
  have h0 : (i 0).val < 3 := (i 0).isLt
  rw [Finset.mem_union, Finset.mem_union, mem_slotS, mem_slotS, mem_slotS]
  show (i 0).val = 0 ∨ (i 0).val = 1 ∨ (i 0).val = 2
  omega

theorem slots_apart (s s' : Fin 3) (h : s ≠ s') : Disjoint (slotS s) (slotS s') := by
  rw [Finset.disjoint_left]
  intro i h1 h2
  exact h (Fin.ext (((mem_slotS s i).mp h1).symm.trans ((mem_slotS s' i).mp h2)))

theorem slots_apart' : Disjoint (slotS 0) (slotS 1 ∪ slotS 2) :=
  Finset.disjoint_union_right.mpr ⟨slots_apart 0 1 (by decide), slots_apart 0 2 (by decide)⟩

/-- A whole buffer, by segments. -/
theorem bpt_open (c : Dev nD) (d : Bool) (f : S3x128x8192.Idx → Elt F .f32) :
    bpt c d fullShare Finset.univ f ⊢ (iprop(bpt c d fullShare (slotS 0) f
      ∗ two (fun g => bpt c d fullShare (segS 1 g) f) ∗ two (fun g => bpt c d fullShare (segS 2 g) f)) : sProp 𝕄) := by
  rw [slots_all]
  iintro H
  ihave H := (bpt_union c d fullShare _ _ slots_apart' f).1 $$ H
  icases H with ⟨H0, H⟩
  ihave H := (bpt_union c d fullShare _ _ (slots_apart 1 2 (by decide)) f).1 $$ H
  icases H with ⟨H1, H2⟩
  isplitl [H0]; · iexact H0
  isplitl [H1]
  · iapply (bpt_slot c d fullShare 1 f).1; iexact H1
  iapply (bpt_slot c d fullShare 2 f).1; iexact H2

/-- Contents put together from those of the slots. -/
def pick (f0 f1 f2 : S3x128x8192.Idx → Elt F .f32) (i : S3x128x8192.Idx) : Elt F .f32 :=
  if (i 0).val = 0 then f0 i else if (i 0).val = 1 then f1 i else f2 i

/-- And back, whatever each slot holds. -/
theorem bpt_close (c : Dev nD) (d : Bool) (f0 f1 f2 : S3x128x8192.Idx → Elt F .f32) :
    iprop(two (fun g => bpt c d fullShare (segS 0 g) f0) ∗ two (fun g => bpt c d fullShare (segS 1 g) f1)
      ∗ two (fun g => bpt c d fullShare (segS 2 g) f2)) ⊢ (iprop(∃ f, bpt c d fullShare Finset.univ f) : sProp 𝕄) := by
  iintro ⟨H0, H1, H2⟩
  ihave H0 := (bpt_slot c d fullShare 0 f0).2 $$ H0
  ihave H1 := (bpt_slot c d fullShare 1 f1).2 $$ H1
  ihave H2 := (bpt_slot c d fullShare 2 f2).2 $$ H2
  have e0 : ∀ i ∈ slotS 0, pick f0 f1 f2 i = f0 i := fun i hi => if_pos ((mem_slotS 0 i).mp hi)
  have e1 : ∀ i ∈ slotS 1, pick f0 f1 f2 i = f1 i := fun i hi => by
    have h : (i 0).val = 1 := (mem_slotS 1 i).mp hi
    unfold pick
    rw [if_neg (by omega), if_pos h]
  have e2 : ∀ i ∈ slotS 2, pick f0 f1 f2 i = f2 i := fun i hi => by
    have h : (i 0).val = 2 := (mem_slotS 2 i).mp hi
    unfold pick
    rw [if_neg (by omega), if_neg (by omega)]
  iexists (pick f0 f1 f2)
  rw [slots_all]
  iapply (bpt_union c d fullShare _ _ slots_apart' _).2
  isplitl [H0]
  · rw [bpt_congr c d fullShare (slotS 0) _ f0 e0]; iexact H0
  iapply (bpt_union c d fullShare _ _ (slots_apart 1 2 (by decide)) _).2
  isplitl [H1]
  · rw [bpt_congr c d fullShare (slotS 1) _ f1 e1]; iexact H1
  · rw [bpt_congr c d fullShare (slotS 2) _ f2 e2]; iexact H2

theorem tell_zero (c : Dev nD) (d : Bool) : (iprop(emp) : sProp 𝕄) ⊢ tell c d 0 := by
  unfold tell
  exact Entails.of_eq (by rw [Finset.range_zero]; exact BI.bigSep_empty.symm)

/-- The two free slots handed to the first two transfers. -/
theorem free_two (c : Dev nD) (d : Bool) (f : S3x128x8192.Idx → Elt F .f32) :
    iprop(known X K ιs ∗ two (fun g => readerAt EK (c, d, 0, g) 0) ∗ two (fun g => readerAt EK (c, d, 1, g) 0)
        ∗ two (fun g => bpt c d fullShare (segS 1 g) f) ∗ two (fun g => bpt c d fullShare (segS 2 g) f)
        ∗ two (fun g => reached ER (rcvC c d 0 g) 0) ∗ two (fun g => reached ER (rcvC c d 1 g) 0))
      ⊢ (|={Set.univ}=> tell c d 2 : sProp 𝕄) := by
  iintro ⟨#HK, Ra, Rb, Ha, Hb, Pa, Pb⟩
  imod (release2 X K ιs c d 0 (by decide) f f) $$ [Ra Ha Pa] with H
  · isplitr; · iexact HK
    isplitl [Ra]; · iexact Ra
    isplitl [Ha]; · iexact Ha
    isplitl [Pa]; · iexact Pa
    iapply (tell_zero c d); iempintro
  imod (release2 X K ιs c d 1 (by decide) f f) $$ [Rb Hb Pb H] with H
  · isplitr; · iexact HK
    isplitl [Rb]; · iexact Rb
    isplitl [Hb]; · iexact Hb
    isplitl [Pb]; · iexact Pb
    iexact H
  imodintro
  iexact H

theorem heard_zero (c : Dev nD) (d : Bool) : atPos ER (crdC c d) 0 ∅ 0 ⊢ (heard c d 0 : sProp 𝕄) := by
  unfold heard
  iintro H
  iexists (∅ : Finset ℕ)
  isplitr; · ipureintro; exact ⟨Finset.empty_subset _, Nat.zero_le _⟩
  isplitl [H]; · iexact H
  rw [BI.bigSep_empty]
  iempintro

section Wp

variable (dd : Defs nD τ sig (Elt F) Λ₀) (𝒱 : Variants) (c : Dev nD) (w : FVec F S8192x128 .f32)
variable {α : Type}

/-- The word exchanged with both neighbours before anything is sent. -/
theorem wp_meet (Q : α → sProp 𝕄) (O : CellTallies nD τ sig ℕ) (hO : Above 1 O) (k : BProg F α) :
    iprop(known X K ιs ∗ both (fun d => dutyTok ER (barC (nx c (!d))) 0 (cond d 1 0)) ∗ both (fun d => reached ER (barC (nx c (!d))) 0)
        ∗ both (fun d => tell (F := F) c d 2) ∗ both (fun d => reached ER (crdC c d) 0) ∗ atPos ER (barC c) 0 ∅ 0 ∗ cred (tallyAt (barC c) 0 2)
        ∗ owing c (O + tallyAt (barC (nx c false)) 0 1 + tallyAt (barC (nx c true)) 0 1))
      ⊢ iprop(((atPos ER (barC c) 1 ∅ 0 ∗ both (fun d => iprop(tell (F := F) (nx c d) d 2 ∗ reached ER (crdC (nx c (!d)) d) 0)) ∗ owing c O) -∗ WP dd 𝒱 c Q k)
          -∗ WP dd 𝒱 c Q (.op (.semSignal (nx c true, .tc) barSem (1#32 : BitVec 32).toInt) fun _ =>
            .op (.semSignal (nx c false, .tc) barSem (1#32 : BitVec 32).toInt) fun _ =>
            .op (.semWait barSem (2#32 : BitVec 32).toInt) fun _ => k)) := by
  unfold owing
  iintro ⟨#HK, ⟨Hd0, Hd1⟩, ⟨#Hr0, #Hr1⟩, ⟨Ht0, Ht1⟩, ⟨Hp0, Hp1⟩, Hat, Hc, ⟨%W, HO⟩⟩ Hk
  ihave #HI0 := (known_bar X K ιs (nx c true)) $$ HK
  ihave #HI1 := (known_bar X K ιs (nx c false)) $$ HK
  ihave #HI := (known_bar X K ιs c) $$ HK
  ihave #Hl := (known_lev X K ιs) $$ HK
  iapply (Rounds.wp_signal 𝒱 ER (Rd X) (c : Thread nD τ) none (dst := (nx c true : Thread nD τ)) (sem := barSem) (r := 0) (d := 0)
      (k' := 1) (κ := K (barC (nx c true)))
      (by rw [duties_bar]; decide) (amount_bar X (nx c true) 0) 0 (O + tallyAt (barC (nx c false)) 0 1) rfl (W := W)) $$ [HO Hd0 Ht0 Hp1]
  · isplitr; · iexact HI0
    isplitl [HO]; · iexact HO
    isplitl [Hd0]; · iexact Hd0
    isplitl [Ht0 Hp1]
    · rw [payload_bar, show ((0 : ℕ) == 1) = false from rfl]
      unfold barPay
      rw [show nx (nx c true) false = c from nx_nx' c false]
      isplitl [Ht0]; · iexact Ht0
      iexact Hp1
    iexact Hr0
  iintro HO
  iapply (Rounds.wp_signal 𝒱 ER (Rd X) (c : Thread nD τ) none (dst := (nx c false : Thread nD τ)) (sem := barSem) (r := 0) (d := 1)
      (k' := 1) (κ := K (barC (nx c false)))
      (by rw [duties_bar]; decide) (amount_bar X (nx c false) 1) 0 O rfl (W := W)) $$ [HO Hd1 Ht1 Hp0]
  · isplitr; · iexact HI1
    isplitl [HO]; · iexact HO
    isplitl [Hd1]; · iexact Hd1
    isplitl [Ht1 Hp0]
    · rw [payload_bar, show ((1 : ℕ) == 1) = true from rfl]
      unfold barPay
      rw [show nx (nx c false) true = c from nx_nx' c true]
      isplitl [Ht1]; · iexact Ht1
      iexact Hp0
    iexact Hr1
  iintro HO
  iapply (Rounds.wp_wait_rest_token 𝒱 ER (Rd X) (c : Thread nD τ) none (κ := K (barC c))
      (wpE_semWait_eq 𝒱 (c : Thread nD τ) none Set.univ) (Set.mem_univ _) (k' := 2) 0 (O := O) (W := W) (R := 0) (m := 0) (T := ∅)
      ((Nat.zero_add _).trans (expect_bar X c).symm)) $$ [Hc HO Hat]
  · isplitr; · iexact HI
    isplitl [Hc]; · iexact Hc
    isplitl [HO]; · iexact HO
    isplitr
    · iapply (mayWait c (.reg barSem) 0 (by decide) O (hO.mono (le_of_eq (lv_bar c 0))))
      iexact Hl
    iexact Hat
  iintro ⟨HO, Hat, -, Hpay⟩
  ihave Hp := (Entails.of_eq (rest_bar X c)) $$ Hpay
  unfold barPay
  icases Hp with ⟨⟨Hw0, Hq0⟩, ⟨Hw1, Hq1⟩⟩
  iapply Hk
  isplitl [Hat]; · iexact Hat
  isplitr [HO]
  · isplitl [Hw0 Hq1]
    · isplitl [Hw0]; · iexact Hw0
      iexact Hq1
    · isplitl [Hw1]; · iexact Hw1
      iexact Hq0
  iexists _; iexact HO

/-- The device's block where it is staged. -/
def blkSt (c : Dev nD) : sProp 𝕄 := ((c : Thread nD τ).loc cc0_stg2_0) ↦[Finset.univ]{fullShare} X c

/-- What the half block laid out in slot 0 is. -/
theorem seed_val (d : Bool) (v : Vec F S128x8192 .f32)
    (hv : v = fun z => X c ((Rect.unit (s := S256x8192) ![half d, 0] S128x8192.size (inb_half d)).emb z)) (z : S1x128x8192.Idx) :
    shapeCast S1x128x8192 (shapeCast S128x8192 v shapeCasts_S128x8192_S128x8192) shapeCasts_S128x8192_S1x128x8192 z
      = G X c d 0 ((Rect.unit (s := S3x128x8192) ![((0 : Fin 3) : ℕ), 0, 0] S1x128x8192.size (inb_slot 0)).emb z) := by
  rw [shapeCast_self]
  refine (shapeCast_addUnit_apply (n := 2) ![128, 8192] v shapeCasts_S128x8192_S1x128x8192 z).trans ?_
  rw [hv]
  unfold G
  show X c _ = X c _
  congr 1
  funext a
  match a with
  | ⟨0, _⟩ => exact Fin.ext (by show half d + 1 * (z 1).val = half d + (0 + 1 * (z 1).val); omega)
  | ⟨1, _⟩ => exact Fin.ext (by show 0 + 1 * (z 2).val = 0 + 1 * (z 2).val; rfl)

/-- Half the device's block laid out in slot 0. -/
theorem wp_seed (Q : α → sProp 𝕄) (d : Bool) (f : S3x128x8192.Idx → Elt F .f32) (k : BProg F α) :
    iprop(blkSt X c ∗ bpt c d fullShare (slotS 0) f)
      ⊢ iprop(((blkSt X c ∗ bpt c d fullShare (slotS 0) (G X c d 0)) -∗ WP dd 𝒱 c Q k)
          -∗ WP dd 𝒱 c Q (seed (Memref.whole cc0_stg2_0) d (bufM d) k)) := by
  unfold blkSt
  iintro ⟨Hx, Hs⟩ Hk
  unfold seed
  iapply (wp_load 𝒱 (c : Thread nD τ) none Set.univ (m := Memref.whole cc0_stg2_0) (S := Finset.univ) (q := fullShare) (f := X c)
    (Finset.subset_univ _)) $$ Hx
  iintro Hx
  cases d
  · have hsub : (((Memref.whole cc0_scratch0).access (Rect.unit (s := S3x128x8192) ![((0 : Fin 3) : ℕ), 0, 0] S1x128x8192.size (inb_slot 0))).setOn Finset.univ) ⊆ slotS 0 := by
      rw [View.setOn_univ]; exact (View.set_slice_whole _ _).le
    unfold bpt
    iapply (wp_load_rect 𝒱 (c : Thread nD τ) none Set.univ (m := Memref.whole cc0_scratch0)
      (r := Rect.unit (s := S3x128x8192) ![((0 : Fin 3) : ℕ), 0, 0] S1x128x8192.size (inb_slot 0)) (S := slotS 0) (q := fullShare) (f := f)
      (View.set_slice_whole _ _).le) $$ Hs
    iintro Hs
    iapply (wp_store 𝒱 (c : Thread nD τ) none Set.univ (m := Memref.whole cc0_scratch0) (S := slotS 0) (Mk := Finset.univ) (f := f)
      (r := Rect.unit (s := S3x128x8192) ![((0 : Fin 3) : ℕ), 0, 0] S1x128x8192.size (inb_slot 0)) hsub) $$ Hs
    iintro Hs
    iapply Hk
    isplitl [Hx]; · iexact Hx
    iapply (Entails.of_eq (pointsTo_congr fun i hi => ?_)) $$ Hs
    obtain ⟨z, -, rfl⟩ := Finset.mem_map.mp ((Finset.ext_iff.mp (View.set_slice_whole cc0_scratch0 (Rect.unit (s := S3x128x8192) ![((0 : Fin 3) : ℕ), 0, 0] S1x128x8192.size (inb_slot 0))) i).mpr hi)
    exact (View.write_emb_of_mem _ _ (Finset.mem_univ z)).trans (seed_val X c false _ rfl z)
  · have hsub : (((Memref.whole cc0_scratch1).access (Rect.unit (s := S3x128x8192) ![((0 : Fin 3) : ℕ), 0, 0] S1x128x8192.size (inb_slot 0))).setOn Finset.univ) ⊆ slotS 0 := by
      rw [View.setOn_univ]; exact (View.set_slice_whole _ _).le
    unfold bpt
    iapply (wp_load_rect 𝒱 (c : Thread nD τ) none Set.univ (m := Memref.whole cc0_scratch1)
      (r := Rect.unit (s := S3x128x8192) ![((0 : Fin 3) : ℕ), 0, 0] S1x128x8192.size (inb_slot 0)) (S := slotS 0) (q := fullShare) (f := f)
      (View.set_slice_whole _ _).le) $$ Hs
    iintro Hs
    iapply (wp_store 𝒱 (c : Thread nD τ) none Set.univ (m := Memref.whole cc0_scratch1) (S := slotS 0) (Mk := Finset.univ) (f := f)
      (r := Rect.unit (s := S3x128x8192) ![((0 : Fin 3) : ℕ), 0, 0] S1x128x8192.size (inb_slot 0)) hsub) $$ Hs
    iintro Hs
    iapply Hk
    isplitl [Hx]; · iexact Hx
    iapply (Entails.of_eq (pointsTo_congr fun i hi => ?_)) $$ Hs
    obtain ⟨z, -, rfl⟩ := Finset.mem_map.mp ((Finset.ext_iff.mp (View.set_slice_whole cc0_scratch1 (Rect.unit (s := S3x128x8192) ![((0 : Fin 3) : ℕ), 0, 0] S1x128x8192.size (inb_slot 0))) i).mpr hi)
    exact (View.write_emb_of_mem _ _ (Finset.mem_univ z)).trans (seed_val X c true _ rfl z)

/-- The first transfers of both directions sent, and the device's own rows stored. -/
theorem wp_ring (Q : α → sProp 𝕄) (O : CellTallies nD τ sig ℕ) (k : BProg F α) :
    iprop(known X K ιs ∗ blkSt X c
        ∗ both (fun d => iprop(bpt c d fullShare (slotS 0) (G X c d 0) ∗ two (idleSnd (F := F) c d 0) ∗ two (sndStock c d 0) ∗ tell (nx c d) d 2))
        ∗ (∃ f, ((c : Thread nD τ).loc cc0_stg4_0) ↦[Finset.univ]{fullShare} f) ∗ owing c (O + oweT c 0))
      ⊢ iprop(((blkSt X c ∗ both (fun d => two (fly X c d 0)) ∗ outSt X c w (fun _ => 0) ∗ owing c O) -∗ WP dd 𝒱 c Q k)
          -∗ WP dd 𝒱 c Q (launchRing (E₀ c w) (Memref.whole cc0_stg2_0) c k)) := by
  unfold oweT
  rw [← add_assoc, ← add_assoc, ← add_assoc]
  iintro ⟨#HK, Hx, ⟨⟨Hs0, ⟨I00, I01⟩, ⟨T00, T01⟩, #W0⟩, ⟨Hs1, ⟨I10, I11⟩, ⟨T10, T11⟩, #W1⟩⟩, ⟨%f, Ho⟩, HO⟩ Hk
  ihave Hs0 := (bpt_slot c false fullShare 0 _).1 $$ Hs0
  icases Hs0 with ⟨S00, S01⟩
  ihave Hs1 := (bpt_slot c true fullShare 0 _).1 $$ Hs1
  icases Hs1 with ⟨S10, S11⟩
  unfold launchRing
  iapply (wp_start X K ιs dd 𝒱 c w Q false 0 0 2 (by decide) (by decide)) $$ [I00 T00 S00 HO]
  · isplitr; · iexact HK
    isplitl [I00]; · iexact I00
    isplitl [T00]; · iexact T00
    isplitl [S00]; · iexact S00
    isplitr; · iexact W0
    iexact HO
  iintro ⟨F00, S00, HO⟩
  iapply (wp_start X K ιs dd 𝒱 c w Q true 0 0 2 (by decide) (by decide)) $$ [I10 T10 S10 HO]
  · isplitr; · iexact HK
    isplitl [I10]; · iexact I10
    isplitl [T10]; · iexact T10
    isplitl [S10]; · iexact S10
    isplitr; · iexact W1
    iexact HO
  iintro ⟨F10, S10, HO⟩
  iapply (wp_start X K ιs dd 𝒱 c w Q false 0 1 2 (by decide) (by decide)) $$ [I01 T01 S01 HO]
  · isplitr; · iexact HK
    isplitl [I01]; · iexact I01
    isplitl [T01]; · iexact T01
    isplitl [S01]; · iexact S01
    isplitr; · iexact W0
    iexact HO
  iintro ⟨F01, S01, HO⟩
  iapply (wp_start X K ιs dd 𝒱 c w Q true 0 1 2 (by decide) (by decide)) $$ [I11 T11 S11 HO]
  · isplitr; · iexact HK
    isplitl [I11]; · iexact I11
    isplitl [T11]; · iexact T11
    isplitl [S11]; · iexact S11
    isplitr; · iexact W1
    iexact HO
  iintro ⟨F11, S11, HO⟩
  unfold blkSt outSt fly
  iapply (wp_load 𝒱 (c : Thread nD τ) none Set.univ (m := Memref.whole cc0_stg2_0) (S := Finset.univ) (q := fullShare) (f := X c)
    (Finset.subset_univ _)) $$ Hx
  iintro Hx
  iapply (wp_load 𝒱 (c : Thread nD τ) none Set.univ (m := Memref.whole cc0_stg4_0) (S := Finset.univ) (q := fullShare) (f := f)
    (Finset.subset_univ _)) $$ Ho
  iintro Ho
  iapply (wp_store 𝒱 (c : Thread nD τ) none Set.univ (m := Memref.whole cc0_stg4_0) (S := Finset.univ) (Mk := Finset.univ) (f := f)
    (r := Rect.unit (s := S8192x128) (k0_off4 c) S256x128.size (k0_off4_inb c))
    (Finset.subset_univ _)) $$ Ho
  iintro Ho
  iapply Hk
  isplitl [Hx]; · iexact Hx
  isplitl [F00 F01 F10 F11 S00 S01 S10 S11]
  · isplitl [F00 F01 S00 S01]
    · isplitl [F00 S00]
      · isplitl [F00]; · iexact F00
        iexact S00
      · isplitl [F01]; · iexact F01
        iexact S01
    · isplitl [F10 S10]
      · isplitl [F10]; · iexact F10
        iexact S10
      · isplitl [F11]; · iexact F11
        iexact S11
  isplitr [HO]
  · iexists _
    isplitr
    rotate_left
    · iexact Ho
    · ipureintro
      have hread : (fun z => X c ((Rect.unit (s := S256x8192) ![0, 0] S256x8192.size inb_S256x8192_S256x8192_0_0).emb z)) = X c := by
        funext z
        congr 1
        funext a
        match a with
        | ⟨0, _⟩ => exact Fin.ext (by show 0 + 1 * (z 0).val = (z 0).val; omega)
        | ⟨1, _⟩ => exact Fin.ext (by show 0 + 1 * (z 1).val = (z 1).val; omega)
      have := good_own X c w f (k0_off4 c) (off_own c) (k0_off4_inb c)
      unfold blk₀ at this
      rw [← hread] at this
      exact this
  iexact HO

end Wp

end Cert.KernelIdeal.Ring
-- ==== Proof.Body.lean ====
/- The whole body of a device: from what it starts with to its result, every cell closed. -/
module

public import proofs.«01_k».proof.Proof.Open

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

variable (X : Dev nD → S256x8192.Idx → Elt F .f32) (K : GSem nD τ sig → ℕ) (ιs : Key → ℕ)

/-! ## A device's own cells -/

/-- The cells of slot `s` at its sender and at its receiver. -/
abbrev sndS (c : Dev nD) (d : Bool) (s : Fin 3) (g : Fin 2) : GSem nD τ sig := ((c : Thread nD τ), .dma (semv (sndA d) s g))
abbrev rcvS (c : Dev nD) (d : Bool) (s : Fin 3) (g : Fin 2) : GSem nD τ sig := ((c : Thread nD τ), .dma (semv (rcvA d) s g))

/-- Something of every cell of a direction. -/
def dirCells (Φ : GSem nD τ sig → sProp 𝕄) (c : Dev nD) (d : Bool) : sProp 𝕄 :=
  iprop(Φ (crdC c d) ∗ (two (fun g => Φ (sndS c d 0 g)) ∗ two (fun g => Φ (sndS c d 1 g)) ∗ two (fun g => Φ (sndS c d 2 g)))
    ∗ (two (fun g => Φ (rcvS c d 0 g)) ∗ two (fun g => Φ (rcvS c d 1 g)) ∗ two (fun g => Φ (rcvS c d 2 g))))

/-- The state of a cell just opened. -/
def opened (g : GSem nD τ sig) : sProp 𝕄 := iprop(atPos ER g 0 ∅ 0 ∗ reached ER g 0)
def closed (g : GSem nD τ sig) : sProp 𝕄 := semVal g 0

theorem close_at (g : GSem nD τ sig) (hg : g ∈ barCells ∪ scCells) (r : ℕ) (hR : ∀ r', r ≤ r' → (Rd X).duties g r' = ∅) :
    iprop(known X K ιs ∗ atPos ER g r ∅ 0) ⊢ (|={Set.univ}=> closed (F := F) g : sProp 𝕄) := by
  iintro ⟨#HK, H⟩
  ihave #HI := (known_cell X K ιs g hg) $$ HK
  iapply (Rounds.cell_close ER (Rd X) (Set.mem_univ (K g)) id hR)
  isplitr; · iexact HI
  iexact H

theorem close_snd (c : Dev nD) (d : Bool) (j : ℕ) (hj : 31 ≤ j) :
    iprop(known X K ιs ∗ two (idleSnd (F := F) c d j)) ⊢ (|={Set.univ}=> two (fun g => closed (F := F) (sndS c d (slot j) g)) : sProp 𝕄) := by
  unfold idleSnd
  iintro ⟨#HK, ⟨H0, -⟩, ⟨H1, -⟩⟩
  imod (close_at X K ιs (sndC c d j 0) (mem_sc c (osem_snd d (slot j) 0)) _ (over_snd X c d j 0 hj)) $$ [H0] with H0
  · isplitr; · iexact HK
    iexact H0
  imod (close_at X K ιs (sndC c d j 1) (mem_sc c (osem_snd d (slot j) 1)) _ (over_snd X c d j 1 hj)) $$ [H1] with H1
  · isplitr; · iexact HK
    iexact H1
  imodintro
  isplitl [H0]; · iexact H0
  iexact H1

theorem close_rcv (c : Dev nD) (d : Bool) (j : ℕ) (hj : 31 ≤ j) :
    iprop(known X K ιs ∗ two (idleRcv (F := F) c d j)) ⊢ (|={Set.univ}=> two (fun g => closed (F := F) (rcvS c d (slot (j + 1)) g)) : sProp 𝕄) := by
  unfold idleRcv
  iintro ⟨#HK, ⟨H0, -⟩, ⟨H1, -⟩⟩
  imod (close_at X K ιs (rcvC c d j 0) (mem_sc c (osem_rcv d (slot (j + 1)) 0)) _ (over_rcv X c d j 0 hj)) $$ [H0] with H0
  · isplitr; · iexact HK
    iexact H0
  imod (close_at X K ιs (rcvC c d j 1) (mem_sc c (osem_rcv d (slot (j + 1)) 1)) _ (over_rcv X c d j 1 hj)) $$ [H1] with H1
  · isplitr; · iexact HK
    iexact H1
  imodintro
  isplitl [H0]; · iexact H0
  iexact H1

theorem close_crd (c : Dev nD) (d : Bool) :
    iprop(known X K ιs ∗ heard (F := F) c d 29) ⊢ (|={Set.univ}=> closed (F := F) (crdC c d) : sProp 𝕄) := by
  unfold heard
  iintro ⟨#HK, ⟨%S, %hS, Hat, -⟩⟩
  obtain ⟨hS, hk⟩ := hS
  ihave #HI := (known_crd X K ιs c d) $$ HK
  have hall : (Rd X).duties (crdC c d) 0 ⊆ S := by
    rw [duties_crd, Finset.eq_of_subset_of_card_le hS (by rw [Nat.card_Icc]; exact hk)]
  imod (Rounds.fupd_skip ER (Rd X) hall (expect_crd X c d).symm (Set.mem_univ (K (crdC c d)))) $$ [Hat] with ⟨Hat, -⟩
  · isplitr; · iexact HI
    iexact Hat
  iapply (close_at X K ιs (crdC c d) (mem_sc c (osem_crd d)) _ (over_crd X c d))
  isplitr; · iexact HK
  iexact Hat

/-- A direction's end: every cell closed, the buffer whole. -/
theorem close_dir (c : Dev nD) (d : Bool) :
    iprop(known X K ιs ∗ atEnd X c d) ⊢ (|={Set.univ}=> iprop(dirCells (F := F) closed c d ∗ ∃ f, bpt c d fullShare Finset.univ f) : sProp 𝕄) := by
  unfold atEnd
  iintro ⟨#HK, ⟨Ra, Rb, Rc⟩, ⟨Ia, Ib, Ic⟩, Hh, Sa, Sb, Sc⟩
  imod (close_rcv X K ιs c d 31 (by decide)) $$ [Ra] with Ra
  · isplitr; · iexact HK
    iexact Ra
  imod (close_rcv X K ιs c d 32 (by decide)) $$ [Rb] with Rb
  · isplitr; · iexact HK
    iexact Rb
  imod (close_rcv X K ιs c d 33 (by decide)) $$ [Rc] with Rc
  · isplitr; · iexact HK
    iexact Rc
  imod (close_snd X K ιs c d 31 (by decide)) $$ [Ia] with Ia
  · isplitr; · iexact HK
    iexact Ia
  imod (close_snd X K ιs c d 32 (by decide)) $$ [Ib] with Ib
  · isplitr; · iexact HK
    iexact Ib
  imod (close_snd X K ιs c d 33 (by decide)) $$ [Ic] with Ic
  · isplitr; · iexact HK
    iexact Ic
  imod (close_crd X K ιs c d) $$ [Hh] with Hh
  · isplitr; · iexact HK
    iexact Hh
  imodintro
  unfold dirCells
  isplitr [Sa Sb Sc]
  · isplitl [Hh]; · iexact Hh
    isplitl [Ia Ib Ic]
    · isplitl [Ic]; · iexact Ic
      isplitl [Ia]; · iexact Ia
      iexact Ib
    · isplitl [Rb]; · iexact Rb
      isplitl [Rc]; · iexact Rc
      iexact Ra
  · iapply (bpt_close c d (G X c d 30) (G X c d 31) (G X c d 29))
    isplitl [Sb]; · iexact Sb
    isplitl [Sc]; · iexact Sc
    iexact Sa

/-! ## What a device brings -/

/-- The rights and expectations of a device, all from the launch. -/
def talk (c : Dev nD) : sProp 𝕄 :=
  iprop(both (fun d => dutyTok ER (barC (nx c (!d))) 0 (cond d 1 0)) ∗ both (fun d => reached ER (barC (nx c (!d))) 0) ∗ cred (tallyAt (barC c) 0 2)
    ∗ both (fun d => iprop(two (fun g => readerAt EK (c, d, 0, g) 0) ∗ two (fun g => readerAt EK (c, d, 1, g) 0)))
    ∗ both (fun d => two (sndStock (F := F) c d 0)) ∗ both (fun d => endStock (F := F) c d) ∗ stock (F := F) c 0 29)

/-- The table of positions, and the weights, where they are staged. -/
def posSt (c : Dev nD) (pb : S32.Idx → Elt F .i32) : sProp 𝕄 := ((c : Thread nD τ).loc cc0_stg1_0) ↦[Finset.univ]{fullShare} pb
def wgtSt (c : Dev nD) (w : S8192x128.Idx → Elt F .f32) : sProp 𝕄 := ((c : Thread nD τ).loc cc0_stg3_0) ↦[Finset.univ]{fullShare} w

/-- Before the body and after it. -/
def bodyPre (c : Dev nD) (tb pb : S32.Idx → Elt F .i32) (w : S8192x128.Idx → Elt F .f32) : sProp 𝕄 :=
  iprop(known X K ιs ∗ both (fun d => dirCells (F := F) opened c d) ∗ atPos ER (barC c) 0 ∅ 0 ∗ talk (F := F) c ∗ owing (F := F) c (O₀ c)
    ∗ both (fun d => iprop(∃ f, bpt c d fullShare Finset.univ f))
    ∗ tblSt c tb ∗ posSt c pb ∗ blkSt X c ∗ wgtSt c w ∗ ∃ f, ((c : Thread nD τ).loc cc0_stg4_0) ↦[Finset.univ]{fullShare} f)
def bodyPost (c : Dev nD) (tb pb : S32.Idx → Elt F .i32) (w : S8192x128.Idx → Elt F .f32) : sProp 𝕄 :=
  iprop(both (fun d => dirCells (F := F) closed c d) ∗ closed (F := F) (barC c) ∗ owing (F := F) c 0
    ∗ both (fun d => iprop(∃ f, bpt c d fullShare Finset.univ f))
    ∗ tblSt c tb ∗ posSt c pb ∗ blkSt X c ∗ wgtSt c w ∗ ((c : Thread nD τ).loc cc0_stg4_0) ↦[Finset.univ]{fullShare} Vfin X c w)

/-- A direction opened: both kinds of cells idle, and the neighbour's words awaited. -/
theorem open_dir (c : Dev nD) (d : Bool) :
    dirCells (F := F) opened c d ⊢ (iprop(heard (F := F) c d 0 ∗ reached ER (crdC c d) 0
      ∗ (two (idleRcv (F := F) c d 0) ∗ two (idleRcv (F := F) c d 1) ∗ two (idleRcv (F := F) c d 2))
      ∗ (two (fun g => reached ER (rcvC c d 0 g) 0) ∗ two (fun g => reached ER (rcvC c d 1 g) 0))
      ∗ (two (idleSnd (F := F) c d 0) ∗ two (idleSnd (F := F) c d 1) ∗ two (idleSnd (F := F) c d 2))) : sProp 𝕄) := by
  unfold dirCells opened idleRcv idleSnd
  iintro ⟨⟨Hc, #Pc⟩, HI, ⟨HR0, ⟨⟨A10, #P10⟩, ⟨A11, #P11⟩⟩, ⟨⟨A20, #P20⟩, ⟨A21, #P21⟩⟩⟩⟩
  isplitl [Hc]; · iapply (heard_zero c d); iexact Hc
  isplitr; · iexact Pc
  isplitl [HR0 A10 A11 A20 A21]
  · isplitl [A10 A11]
    · isplitl [A10]
      · isplitl [A10]; · iexact A10
        iexact P10
      · isplitl [A11]; · iexact A11
        iexact P11
    isplitl [A20 A21]
    · isplitl [A20]
      · isplitl [A20]; · iexact A20
        iexact P20
      · isplitl [A21]; · iexact A21
        iexact P21
    iexact HR0
  isplitr
  · isplitr
    · isplitr; · iexact P10
      iexact P11
    · isplitr; · iexact P20
      iexact P21
  iexact HI

section Wp

variable (dd : Defs nD τ sig (Elt F) Λ₀) (𝒱 : Variants) (c : Dev nD)
variable (tb pb : S32.Idx → Elt F .i32) (htb : ∀ i, tb i = lit0 (i 0)) (hpb : ∀ i, pb i = lit1 (i 0))
variable {α : Type}

/-- The weights read whole. -/
theorem wgt_read (w : S8192x128.Idx → Elt F .f32) :
    View.readAt (Elt F) (Memref.whole cc0_stg3_0).view (Rect.unit (s := S8192x128) ![0, 0] S8192x128.size inb_S8192x128_S8192x128_0_0).toLoadRect w = w := by
  funext z
  show w ((Rect.unit (s := S8192x128) ![0, 0] S8192x128.size inb_S8192x128_S8192x128_0_0).emb z) = w z
  congr 1
  funext a
  match a with
  | ⟨0, _⟩ => exact Fin.ext (by show 0 + 1 * (z 0).val = (z 0).val; omega)
  | ⟨1, _⟩ => exact Fin.ext (by show 0 + 1 * (z 1).val = (z 1).val; omega)

include hpb in
/-- The word read from the table of positions. -/
theorem wp_word_pos (Q : α → sProp 𝕄) (o : Fin 1 → ℕ) (ho : ∀ a, o a + S1.size a ≤ S32.size a) (e : Dev nD) (he : o 0 = e.val) (k : BitVec 32 → BProg F α) :
    posSt c pb ⊢ iprop((posSt c pb -∗ WP dd 𝒱 c Q (k (seat e))) -∗ WP dd 𝒱 c Q (word (Memref.whole cc0_stg1_0) o ho k)) := by
  have hr (z : S1.Idx) : ((Memref.whole cc0_stg1_0).access (Rect.unit (s := S32) o S1.size ho)).read (Elt F) pb z = seat e := by
    show pb ((Rect.unit (s := S32) o S1.size ho).emb z) = _
    rw [hpb]
    unfold seat
    congr 1
    have h1 : (z 0).val < 1 := (z 0).isLt
    exact Fin.ext (by show o 0 + 1 * (z 0).val = e.val; omega)
  have hw := wp_smemLoadElt (defs := dd) (Γ := []) 𝒱 (c : Thread nD τ) none Set.univ (Q := Q) (m := Memref.whole cc0_stg1_0)
    (r := Rect.unit (s := S32) o S1.size ho) (hw := View.loads_smem_one rfl numel1_S1)
    (x := Shape.Idx.first (numel1_S1.symm ▸ Nat.one_pos)) (k := fun wd : BitVec 32 => k wd)
    (q := fullShare) (f := pb) (Finset.subset_univ _)
  rw [hr] at hw
  exact hw

include htb in
/-- The word read from the table of devices. -/
theorem wp_word_tbl (Q : α → sProp 𝕄) (o : Fin 1 → ℕ) (ho : ∀ a, o a + S1.size a ≤ S32.size a) (k : BitVec 32 → BProg F α) :
    tblSt c tb ⊢ iprop((tblSt c tb -∗ WP dd 𝒱 c Q (k (occupant (o 0)))) -∗ WP dd 𝒱 c Q (word (Memref.whole cc0_stg0_0) o ho k)) := by
  have hw := wp_smemLoadElt (defs := dd) (Γ := []) 𝒱 (c : Thread nD τ) none Set.univ (Q := Q) (m := Memref.whole cc0_stg0_0)
    (r := Rect.unit (s := S32) o S1.size ho) (hw := View.loads_smem_one rfl numel1_S1)
    (x := Shape.Idx.first (numel1_S1.symm ▸ Nat.one_pos)) (k := fun wd : BitVec 32 => k wd)
    (q := fullShare) (f := tb) (Finset.subset_univ _)
  rw [tbl_read tb htb] at hw
  exact hw

/-- The device's own number, read. -/
theorem wp_dev (Q : α → sProp 𝕄) (k : Dev nD → BProg F α) : WP dd 𝒱 c Q (k c) ⊢ WP dd 𝒱 c Q (.op .deviceId k) :=
  Entails.of_eq (wp_deviceId (defs := dd) (Γ := []) 𝒱 (c : Thread nD τ) none Set.univ (Q := Q) (k := k)).symm
/-- A check that holds, passed. -/
theorem wp_chk (Q : α → sProp 𝕄) (P : Prop) (hP : Decidable P) (h : P) (k : PLift P → BProg F α) :
    WP dd 𝒱 c Q (k ⟨h⟩) ⊢ WP dd 𝒱 c Q (.op (TpuEff.assume P hP) k) :=
  Entails.of_eq (wp_assume_of (defs := dd) 𝒱 (c : Thread nD τ) none Set.univ (Q := Q) (k := k) h).symm

/-- The body once its neighbours are known. -/
def rest (c : Dev nD) : BProg F PUnit :=
  .op (.semSignal (nx c true, .tc) barSem (1#32 : BitVec 32).toInt) fun _ =>
  .op (.semSignal (nx c false, .tc) barSem (1#32 : BitVec 32).toInt) fun _ =>
  .op (.semWait barSem (2#32 : BitVec 32).toInt) fun _ =>
  .op (.load (Memref.whole cc0_stg3_0) (Rect.unit (s := S8192x128) ![0, 0] S8192x128.size inb_S8192x128_S8192x128_0_0).toLoadRect
    (View.loadsAt_vmem h_S8192x128)) fun w : Vec F S8192x128 .f32 =>
  seed (Memref.whole cc0_stg2_0) false (bufM false) <| seed (Memref.whole cc0_stg2_0) true (bufM true) <|
  launchRing (E₀ c (shapeCast S8192x128 w shapeCasts_S8192x128_S8192x128)) (Memref.whole cc0_stg2_0) c <|
  hops (E₀ c (shapeCast S8192x128 w shapeCasts_S8192x128_S8192x128))

set_option maxRecDepth 100000 in
include htb hpb in
/-- The three words that name the neighbours. -/
theorem wp_words (Q : PUnit → sProp 𝕄) :
    iprop(tblSt c tb ∗ posSt c pb) ⊢ iprop(((tblSt c tb ∗ posSt c pb) -∗ WP dd 𝒱 c Q (rest c))
      -∗ WP dd 𝒱 c Q (body (Memref.whole cc0_stg0_0) (Memref.whole cc0_stg1_0) (Memref.whole cc0_stg2_0) (Memref.whole cc0_stg3_0)
        (Memref.whole cc0_stg4_0) (Memref.whole cc0_scratch0) (Memref.whole cc0_scratch1) cc0_scratch2 cc0_scratch3 cc0_scratch4 cc0_scratch5
        cc0_scratch6 cc0_scratch7)) := by
  iintro ⟨Htb, Hpb⟩ Hk
  unfold body
  iapply (wp_dev dd 𝒱 c Q)
  iapply (wp_word_pos dd 𝒱 c pb hpb Q (k0_off1 c) (k0_off1_inb c) c (off_seat c)) $$ Hpb
  iintro Hpb
  iapply (wp_chk dd 𝒱 c Q (k0_chk1 (seat c)) _ (chk_seat c))
  iapply (wp_word_tbl dd 𝒱 c tb htb Q (k0_off2 (seat c)) (k0_off2_inb (seat c) (chk_seat c))) $$ Htb
  iintro Htb
  iapply (wp_chk dd 𝒱 c Q (k0_chk3 (rgt c)) _ (chk_rgt c))
  iapply (wp_word_tbl dd 𝒱 c tb htb Q (k0_off3 (seat c)) (k0_off3_inb (seat c) (chk_seat c))) $$ Htb
  iintro Htb
  iapply (wp_chk dd 𝒱 c Q (k0_chk2 (lft c)) _ (chk_lft c))
  iapply Hk
  isplitl [Htb]; · iexact Htb
  iexact Hpb

include htb hpb in
/-- The body. -/
theorem wp_body (w : S8192x128.Idx → Elt F .f32) (Q : PUnit → sProp 𝕄) :
    bodyPre X K ιs c tb pb w ⊢ iprop((bodyPost X c tb pb w -∗ WP dd 𝒱 c Q (.ret ⟨⟩))
      -∗ WP dd 𝒱 c Q (body (Memref.whole cc0_stg0_0) (Memref.whole cc0_stg1_0) (Memref.whole cc0_stg2_0) (Memref.whole cc0_stg3_0)
        (Memref.whole cc0_stg4_0) (Memref.whole cc0_scratch0) (Memref.whole cc0_scratch1) cc0_scratch2 cc0_scratch3 cc0_scratch4 cc0_scratch5
        cc0_scratch6 cc0_scratch7)) := by
  unfold bodyPre talk
  iintro ⟨#HK, ⟨C0, C1⟩, Hbar, ⟨HdB, HrB, HcB, ⟨⟨Ra0, Rb0⟩, ⟨Ra1, Rb1⟩⟩, ⟨T0, T1⟩, Hend, Hst⟩, HO, ⟨⟨%b0, B0⟩, ⟨%b1, B1⟩⟩, Htb, Hpb, Hx, Hw, Ho⟩ Hk
  iapply (wp_words dd 𝒱 c tb pb htb hpb Q) $$ [Htb Hpb]
  · isplitl [Htb]; · iexact Htb
    iexact Hpb
  iintro ⟨Htb, Hpb⟩
  unfold rest
  ihave C0 := (open_dir c false) $$ C0
  ihave C1 := (open_dir c true) $$ C1
  icases C0 with ⟨H0, #P0, R0, ⟨Q00, Q01⟩, I0, I0', I0''⟩
  icases C1 with ⟨H1, #P1, R1, ⟨Q10, Q11⟩, I1, I1', I1''⟩
  ihave B0 := (bpt_open c false b0) $$ B0
  ihave B1 := (bpt_open c true b1) $$ B1
  icases B0 with ⟨B0, Ba0, Bb0⟩
  icases B1 with ⟨B1, Ba1, Bb1⟩
  iapply (fupd_wp)
  imod (free_two X K ιs c false b0) $$ [Ra0 Rb0 Ba0 Bb0 Q00 Q01] with #W0
  · isplitr; · iexact HK
    isplitl [Ra0]; · iexact Ra0
    isplitl [Rb0]; · iexact Rb0
    isplitl [Ba0]; · iexact Ba0
    isplitl [Bb0]; · iexact Bb0
    isplitl [Q00]; · iexact Q00
    iexact Q01
  imod (free_two X K ιs c true b1) $$ [Ra1 Rb1 Ba1 Bb1 Q10 Q11] with #W1
  · isplitr; · iexact HK
    isplitl [Ra1]; · iexact Ra1
    isplitl [Rb1]; · iexact Rb1
    isplitl [Ba1]; · iexact Ba1
    isplitl [Bb1]; · iexact Bb1
    isplitl [Q10]; · iexact Q10
    iexact Q11
  imodintro
  iapply (wp_meet X K ιs dd 𝒱 c Q (owed c 29 + oweT c 1 + oweT c 0)
    (((above_owed c 29 1 (by decide) (by decide)).add (above_T c 1 1 (by decide) (by decide))).add (above_T c 0 1 (by decide) (by decide)))) $$ [HdB HrB Hbar HcB HO]
  · isplitr; · iexact HK
    isplitl [HdB]; · iexact HdB
    isplitl [HrB]; · iexact HrB
    isplitr
    · isplitr; · iexact W0
      iexact W1
    isplitr
    · isplitr; · iexact P0
      iexact P1
    isplitl [Hbar]; · iexact Hbar
    isplitl [HcB]; · iexact HcB
    unfold O₀; iexact HO
  iintro ⟨Hbar, ⟨⟨#V0, N0⟩, ⟨#V1, N1⟩⟩, HO⟩
  unfold wgtSt
  iapply (wp_load 𝒱 (c : Thread nD τ) none Set.univ (m := Memref.whole cc0_stg3_0) (S := Finset.univ) (q := fullShare) (f := w)
    (Finset.subset_univ _)) $$ Hw
  iintro Hw
  rw [wgt_read w, shapeCast_self]
  iapply (wp_seed X dd 𝒱 c Q false b0) $$ [Hx B0]
  · isplitl [Hx]; · iexact Hx
    iexact B0
  iintro ⟨Hx, B0⟩
  iapply (wp_seed X dd 𝒱 c Q true b1) $$ [Hx B1]
  · isplitl [Hx]; · iexact Hx
    iexact B1
  iintro ⟨Hx, B1⟩
  iapply (wp_ring X K ιs dd 𝒱 c w Q (owed c 29 + oweT c 1)) $$ [Hx B0 B1 I0 I1 T0 T1 Ho HO]
  · isplitr; · iexact HK
    isplitl [Hx]; · iexact Hx
    isplitl [B0 B1 I0 I1 T0 T1]
    · isplitl [B0 I0 T0]
      · isplitl [B0]; · iexact B0
        isplitl [I0]; · iexact I0
        isplitl [T0]; · iexact T0
        iexact V0
      · isplitl [B1]; · iexact B1
        isplitl [I1]; · iexact I1
        isplitl [T1]; · iexact T1
        iexact V1
    isplitl [Ho]; · iexact Ho
    iexact HO
  iintro ⟨Hx, ⟨F0, F1⟩, Ho, HO⟩
  iapply (wp_hops X K ιs dd 𝒱 c w tb htb Q) $$ [R0 R1 F0 F1 I0' I0'' I1' I1'' H0 H1 N0 N1 Hend Hst HO Htb Ho]
  · isplitr; · iexact HK
    isplitr [Hend Hst HO Htb Ho]
    · unfold atTop standing
      isplitl [R0 F0 I0' I0'' H0 N0]
      · isplitl [R0]; · iexact R0
        isplitl [F0 I0' I0'']
        · isplitl [F0]; · iexact F0
          isplitl [I0']; · iexact I0'
          iexact I0''
        isplitl [H0]; · iexact H0
        isplitr; · iexact W0
        isplitr; · iexact V0
        iexact N0
      · isplitl [R1]; · iexact R1
        isplitl [F1 I1' I1'']
        · isplitl [F1]; · iexact F1
          isplitl [I1']; · iexact I1'
          iexact I1''
        isplitl [H1]; · iexact H1
        isplitr; · iexact W1
        isplitr; · iexact V1
        iexact N1
    isplitl [Hend]; · iexact Hend
    isplitl [Hst]; · iexact Hst
    isplitl [HO]; · iexact HO
    isplitl [Htb]; · iexact Htb
    iexact Ho
  iintro ⟨⟨E0, E1⟩, HO, Htb, Ho⟩
  unfold outSt
  icases Ho with ⟨%f, %hf, Ho⟩
  obtain rfl := good_all X c w f hf
  iapply (fupd_wp)
  imod (close_dir X K ιs c false) $$ [E0] with ⟨C0, B0⟩
  · isplitr; · iexact HK
    iexact E0
  imod (close_dir X K ιs c true) $$ [E1] with ⟨C1, B1⟩
  · isplitr; · iexact HK
    iexact E1
  imod (close_at X K ιs (barC c) (mem_bar c) 1 (over_bar X c)) $$ [Hbar] with Hbar
  · isplitr; · iexact HK
    iexact Hbar
  imodintro
  iapply Hk
  unfold bodyPost wgtSt
  isplitl [C0 C1]
  · isplitl [C0]; · iexact C0
    iexact C1
  isplitl [Hbar]; · iexact Hbar
  isplitl [HO]; · iexact HO
  isplitl [B0 B1]
  · isplitl [B0]; · iexact B0
    iexact B1
  isplitl [Htb]; · iexact Htb
  isplitl [Hpb]; · iexact Hpb
  isplitl [Hx]; · iexact Hx
  isplitl [Hw]; · iexact Hw
  iexact Ho

end Wp

end Cert.KernelIdeal.Ring
-- ==== Proof.Cells.lean ====
/- The cells of a device in two listings. -/
module

public import proofs.«01_k».proof.Proof.Body

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

/-! ## A device's cells, by number and by use -/

/-- The numbers of a slot's cells among the region's. -/
def numS (d : Bool) (s : Fin 3) (g : Fin 2) : Fin 26 := ⟨2 + 12 * (cond d 1 0) + 2 * s.val + g.val, by cases d <;> (have := s.isLt; have := g.isLt; simp only [cond]; omega)⟩
def numR (d : Bool) (s : Fin 3) (g : Fin 2) : Fin 26 := ⟨8 + 12 * (cond d 1 0) + 2 * s.val + g.val, by cases d <;> (have := s.isLt; have := g.isLt; simp only [cond]; omega)⟩
def numC (d : Bool) : Fin 26 := cond d 1 0

theorem osem_numS : ∀ d s g, osem (numS d s g) = .dma (semv (sndA d) s g) := by decide +kernel
theorem osem_numR : ∀ d s g, osem (numR d s g) = .dma (semv (rcvA d) s g) := by decide +kernel
theorem osem_numC : ∀ d, osem (numC d) = .reg (crdA d).sem := by decide +kernel

theorem sep_assoc_eq (A B C : sProp 𝕄) : iprop((A ∗ B) ∗ C) = iprop(A ∗ B ∗ C) := by
  have h : iprop((A ∗ B) ∗ C) ⊣⊢ (iprop(A ∗ B ∗ C) : sProp 𝕄) := Laws.sep_assoc
  exact BI.equiv_iff.mp ⟨h.1, h.2⟩

def numList : List (Fin 26) := [0, 2, 3, 4, 5, 6, 7, 8, 9, 10, 11, 12, 13, 1, 14, 15, 16, 17, 18, 19, 20, 21, 22, 23, 24, 25]

/-- Something of each of the region's semaphores of a device is something of each cell of both directions. -/
theorem cells_dir (Φ : GSem nD τ sig → sProp 𝕄) (c : Dev nD) :
    bigSep Finset.univ (fun i : Fin 26 => Φ ((c : Thread nD τ), osem i)) = both (fun d => dirCells Φ c d) := by
  rw [bigSep_univ_eq_bigSepL numList (by decide) (by decide)]
  simp only [dirCells, sndS, rcvS, crdC, two, both, ← osem_numS, ← osem_numR, ← osem_numC, sep_assoc_eq]
  rfl

end Cert.KernelIdeal.Ring
-- ==== Proof.Region.lean ====
/- The kernel as the region runs it: what its windows hold, its state before and after. -/
module

public import proofs.«01_k».proof.Proof.Cells
public import proofs.«01_k».proof.Proof.Gen.KernelIdeal.Frame

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

open Idealize.ShloMosaic.Pipeline (Dat Cfg Window BodyObligation cellOf)
open Cert.KernelIdeal.Gen

variable (m : (ℓ : Loc nD τ sig) → Buf (Elt F) ℓ)

/-! ## What the region finds and leaves -/

/-- The buffers as launched, and as the region finds them. -/
abbrev V₀ (c : Dev nD) : Valuation τ sig (Elt F) := fun b => m ((c : Dev nD), b)
abbrev V₁ (c : Dev nD) : Valuation τ sig (Elt F) := StableHlo.after hostOps0 (V₀ m c)

/-- A device's rows of the left factor, and its columns of the right. -/
def XA (c : Dev nD) : S256x8192.Idx → Elt F .f32 := m ((c : Thread nD τ).loc main_arg0)
def WA (c : Dev nD) : S8192x128.Idx → Elt F .f32 := m ((c : Thread nD τ).loc main_arg1)

theorem blk2_eq (c : Dev nD) : iblk m c 2 t0_0 = XA m c := by
  unfold iblk
  rw [show V m c (Pipeline.arrRef spec0 2) = m ((c : Thread nD τ).loc main_arg0) from V_main_arg0 m c]
  funext z
  show m ((c : Thread nD τ).loc main_arg0) _ = m ((c : Thread nD τ).loc main_arg0) z
  congr 1
  funext a
  match a with
  | ⟨0, _⟩ => exact Fin.ext (by show 0 * 256 + 1 * (z 0).val = (z 0).val; omega)
  | ⟨1, _⟩ => exact Fin.ext (by show 0 * 8192 + 1 * (z 1).val = (z 1).val; omega)

theorem blk3_eq (c : Dev nD) : iblk m c 3 t0_0 = WA m c := by
  unfold iblk
  rw [show V m c (Pipeline.arrRef spec0 3) = m ((c : Thread nD τ).loc main_arg1) from V_main_arg1 m c]
  funext z
  show m ((c : Thread nD τ).loc main_arg1) _ = m ((c : Thread nD τ).loc main_arg1) z
  congr 1
  funext a
  match a with
  | ⟨0, _⟩ => exact Fin.ext (by show 0 * 8192 + 1 * (z 0).val = (z 0).val; omega)
  | ⟨1, _⟩ => exact Fin.ext (by show 0 * 128 + 1 * (z 1).val = (z 1).val; omega)

/-- The two tables, as the host writes them. -/
def TB : S32.Idx → Elt F .i32 := fun i => lit0 (i 0)
def PB : S32.Idx → Elt F .i32 := fun i => lit1 (i 0)

theorem rowMajor32 (i : S32.Idx) : S32.rowMajor i = i 0 := Fin.ext (Shape.rowMajor_val_one i)

theorem V_c (c : Dev nD) : V m c main_c = (TB : S32.Idx → Elt F .i32) := by
  unfold V hostOps0
  rw [StableHlo.after_cons, StableHlo.after_cons, StableHlo.after_nil]
  rw [StableHlo.nullary_result_ne _ _ _ _ (by decide), StableHlo.nullary_result]
  funext i
  exact congrArg lit0 (rowMajor32 i)
theorem V_c_0 (c : Dev nD) : V m c main_c_0 = (PB : S32.Idx → Elt F .i32) := by
  unfold V hostOps0
  rw [StableHlo.after_cons, StableHlo.after_cons, StableHlo.after_nil]
  rw [StableHlo.nullary_result]
  funext i
  exact congrArg lit1 (rowMajor32 i)

theorem blk0_eq (c : Dev nD) : iblk m c 0 t0_0 = (TB : S32.Idx → Elt F .i32) := by
  unfold iblk
  rw [show V m c (Pipeline.arrRef spec0 0) = (TB : S32.Idx → Elt F .i32) from V_c m c]
  funext z
  show (TB : S32.Idx → Elt F .i32) _ = TB z
  congr 1
  funext a
  match a with
  | ⟨0, _⟩ => exact Fin.ext (by show 0 * 32 + 1 * (z 0).val = (z 0).val; omega)
theorem blk1_eq (c : Dev nD) : iblk m c 1 t0_0 = (PB : S32.Idx → Elt F .i32) := by
  unfold iblk
  rw [show V m c (Pipeline.arrRef spec0 1) = (PB : S32.Idx → Elt F .i32) from V_c_0 m c]
  funext z
  show (PB : S32.Idx → Elt F .i32) _ = PB z
  congr 1
  funext a
  match a with
  | ⟨0, _⟩ => exact Fin.ext (by show 0 * 32 + 1 * (z 0).val = (z 0).val; omega)

/-- What a device writes. -/
abbrev res (c : Dev nD) : S8192x128.Idx → Elt F .f32 := Vfin (XA m) c (WA m c)

/-- What enters the region's invariant from the launch, once its cells are opened; what stays after. -/
def Xk (c : Dev nD) : sProp 𝕄 :=
  iprop((∃ K ιs, known (XA m) K ιs) ∗ both (fun d => dirCells (F := F) opened c d) ∗ atPos ER (barC c) 0 ∅ 0 ∗ talk (F := F) c)
def Yk (c : Dev nD) : sProp 𝕄 := closed (F := F) (barC c)
/-- Both slots' buffers, at some contents. -/
def bufs2 (c : Dev nD) : sProp 𝕄 := both (fun d => iprop(∃ f, bpt (F := F) c d fullShare Finset.univ f))

def before0 (c : Dev nD) : sProp 𝕄 := iprop(Xk m c ∗ bufs2 (F := F) c ∗ ∃ r, prngReg c r)
def after0 (c : Dev nD) : sProp 𝕄 :=
  iprop(both (fun d => dirCells (F := F) closed c d) ∗ Yk (F := F) c ∗ bufs2 (F := F) c ∗ ∃ r, prngReg c r)

/-- The region's proof data. -/
def dat0 (c : Dev nD) : Dat τ (Elt F) ℕ ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => res m c
  Φ t := if t.val = 0 then before0 m c else after0 (F := F) c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

abbrev 𝒱₀ : Variants := Variants.none

theorem stay0 (c : Dev nD) (d) : (dat0 m c).before 0 t0_0 d = (TB : S32.Idx → Elt F .i32) :=
  (((dat0 m c).before_in_eq_fetched 0 rfl (fun _ => rfl) (fun _ _ _ => rfl) (fun t => by dsimp only [dat0]; rfl) t0_0 d).trans (by
    unfold Dat.fetched Dat.blockOf; rfl)).trans (blk0_eq m c)
theorem stay1 (c : Dev nD) (d) : (dat0 m c).before 1 t0_0 d = (PB : S32.Idx → Elt F .i32) :=
  (((dat0 m c).before_in_eq_fetched 1 rfl (fun _ => rfl) (fun _ _ _ => rfl) (fun t => by dsimp only [dat0]; rfl) t0_0 d).trans (by
    unfold Dat.fetched Dat.blockOf; rfl)).trans (blk1_eq m c)
theorem stay2 (c : Dev nD) (d) : (dat0 m c).before 2 t0_0 d = XA m c :=
  (((dat0 m c).before_in_eq_fetched 2 rfl (fun _ => rfl) (fun _ _ _ => rfl) (fun t => by dsimp only [dat0]; rfl) t0_0 d).trans (by
    unfold Dat.fetched Dat.blockOf; rfl)).trans (blk2_eq m c)
theorem stay3 (c : Dev nD) (d) : (dat0 m c).before 3 t0_0 d = WA m c :=
  (((dat0 m c).before_in_eq_fetched 3 rfl (fun _ => rfl) (fun _ _ _ => rfl) (fun t => by dsimp only [dat0]; rfl) t0_0 d).trans (by
    unfold Dat.fetched Dat.blockOf; rfl)).trans (blk3_eq m c)

theorem left0 (c : Dev nD) : (dat0 m c).after 0 t0_0 = (TB : S32.Idx → Elt F .i32) := blk0_eq m c
theorem left1 (c : Dev nD) : (dat0 m c).after 1 t0_0 = (PB : S32.Idx → Elt F .i32) := blk1_eq m c
theorem left2 (c : Dev nD) : (dat0 m c).after 2 t0_0 = XA m c := blk2_eq m c
theorem left3 (c : Dev nD) : (dat0 m c).after 3 t0_0 = WA m c := blk3_eq m c
theorem left4 (c : Dev nD) : (dat0 m c).after 4 t0_0 = res m c := by dsimp only [dat0]

theorem owed_first (c : Dev nD) : (dat0 m c).owed t0_0.castSucc = O₀ c := by
  show (if (t0_0.castSucc : Fin (cfg0.N + 1)).val = 0 then O₀ c else 0) = O₀ c; exact if_pos rfl
theorem owed_zero (c : Dev nD) : (pdats m 0 c).owed 0 = O₀ c := by
  show (if ((0 : Fin (cfg0.N + 1)).val = 0) then O₀ c else 0) = O₀ c; exact if_pos rfl
theorem owed_succ (c : Dev nD) : (dat0 m c).owed t0_0.succ = 0 := by
  show (if (t0_0.succ : Fin (cfg0.N + 1)).val = 0 then O₀ c else 0) = 0; exact if_neg (by decide)
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owing_of (c : Dev nD) (t : Fin (cfg0.N + 1)) (O : CellTallies nD τ sig ℕ) (h : (dat0 m c).owed t = O) :
    (dat0 m c).owesAt 0 t ⊢ (owing (F := F) c O : sProp 𝕄) := by
  unfold Dat.owesAt Pipeline.owesWithin owing; rw [h]
  iintro ⟨%W, -, HO⟩; iexists W; iexact HO
theorem owesAt_of (c : Dev nD) (t : Fin (cfg0.N + 1)) (O : CellTallies nD τ sig ℕ) (h : (dat0 m c).owed t = O) :
    owing (F := F) c O ⊢ ((dat0 m c).owesAt 0 t : sProp 𝕄) := by
  unfold Dat.owesAt Pipeline.owesWithin Dat.bound owing; rw [h]
  iintro ⟨%W, HO⟩; iexists W; isplitr; · ipureintro; exact fun _ _ => Or.inl trivial
  iexact HO

omit [FloatOps F] in
/-- A buffer held whole. -/
theorem owns_buf (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

theorem phi_first (c : Dev nD) : (dat0 m c).Φ t0_0.castSucc = before0 m c := by
  show (if (t0_0.castSucc : Fin (cfg0.N + 1)).val = 0 then before0 m c else after0 (F := F) c) = _; exact if_pos rfl
theorem phi_succ (c : Dev nD) : (dat0 m c).Φ t0_0.succ = after0 (F := F) c := by
  show (if (t0_0.succ : Fin (cfg0.N + 1)).val = 0 then before0 m c else after0 (F := F) c) = _; exact if_neg (by decide)

/-- A finished program gives what it leaves. -/
theorem ret_intro (c : Dev nD) (Q : PUnit → sProp 𝕄) : Q ⟨⟩ ⊢ WP (defs₀ (F := F)) 𝒱₀ c Q (.ret ⟨⟩) := by
  unfold WP
  rw [wp_ret]
  iintro H; imodintro; iexact H

/-- The region's body meets its obligation. -/
theorem body_ok (c : Dev nD) : BodyObligation (dat0 m c) (defs₀ (F := F)) 𝒱₀ 0 Set.univ := fun t => by
  obtain rfl := fin_N0 t
  rw [bigSep_W0, bigSep_W0, phi_first, phi_succ, left0, left1, left2, left3, left4]
  simp only [owns_buf]
  unfold before0 Xk
  iintro ⟨⟨⟨⟨%K, %ιs, #HK⟩, Hc, Hb, Ht⟩, Hbuf, Hp⟩, HO, ⟨%d0, %f0, %h0, H0⟩, ⟨%d1, %f1, %h1, H1⟩, ⟨%d2, %f2, %h2, H2⟩, ⟨%d3, %f3, %h3, H3⟩, ⟨%d4, %f4, %h4, H4⟩⟩
  rw [stay0] at h0
  rw [stay1] at h1
  rw [stay2] at h2
  rw [stay3] at h3
  subst h0 h1 h2 h3
  ihave HO := (owing_of m c t0_0.castSucc (O₀ c) (owed_first m c)) $$ HO
  iapply (wp_body (XA m) K ιs (defs₀ (F := F)) 𝒱₀ c TB PB (fun _ => rfl) (fun _ => rfl) (WA m c) _) $$ [Hc Hb Ht Hbuf HO H0 H1 H2 H3 H4]
  · unfold bodyPre
    isplitr; · iexact HK
    isplitl [Hc]; · iexact Hc
    isplitl [Hb]; · iexact Hb
    isplitl [Ht]; · iexact Ht
    isplitl [HO]; · iexact HO
    isplitl [Hbuf]; · unfold bufs2; iexact Hbuf
    isplitl [H0]; · unfold tblSt; iexact H0
    isplitl [H1]; · unfold posSt; iexact H1
    isplitl [H2]; · unfold blkSt; iexact H2
    isplitl [H3]; · unfold wgtSt; iexact H3
    iexists f4; iexact H4
  unfold bodyPost
  iintro ⟨Hc, Hb, HO, Hbuf, H0, H1, H2, H3, H4⟩
  iapply (ret_intro (F := F) c _)
  isplitl [Hc Hb Hbuf Hp]
  · unfold after0 Yk bufs2
    isplitl [Hc]; · iexact Hc
    isplitl [Hb]; · iexact Hb
    isplitl [Hbuf]; · iexact Hbuf
    iexact Hp
  isplitl [HO]; · iapply (owesAt_of m c t0_0.succ 0 (owed_succ m c)); iexact HO
  isplitl [H0]; · iexists _; isplitr; swap; (· unfold tblSt; iexact H0); ipureintro; rfl
  isplitl [H1]; · iexists _; isplitr; swap; (· unfold posSt; iexact H1); ipureintro; rfl
  isplitl [H2]; · iexists _; isplitr; swap; (· unfold blkSt; iexact H2); ipureintro; rfl
  isplitl [H3]; · iexists _; isplitr; swap; (· unfold wgtSt; iexact H3); ipureintro; rfl
  iexists _; isplitr; swap; (· iexact H4); ipureintro; rfl

end Cert.KernelIdeal.Ring
-- ==== Proof.Talk.lean ====
/- The region as a segment of the program: how it is opened at its entry, and what it leaves. -/
module

public import proofs.«01_k».proof.Proof.Region
public import Idealize.ShloMosaic.Lib.Pipeline.RegionTalk

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

open Idealize.ShloMosaic.Pipeline (Dat Cfg Window BodyObligation cellOf)
open Cert.KernelIdeal.Gen
variable (m : (ℓ : Loc nD τ sig) → Buf (Elt F) ℓ)

/-! ## The region -/

/-- The buffers as the region leaves them. -/
def V₂ (c : Dev nD) : Valuation τ sig (Elt F) := Function.update (V₁ m c) (Proc.devRef .tc main_v1) (res m c)
theorem V₂_res (c : Dev nD) : V₂ m c main_v1 = res m c := Function.update_self ..
theorem V₂_ne (c : Dev nD) (b : Ref sig .tc) (h : (Proc.devRef .tc b : DevRef τ sig) ≠ Proc.devRef .tc main_v1) : V₂ m c b = V₁ m c b :=
  Function.update_of_ne h ..

/-- What the launch keeps for the region: the records, the rights to open the region's cells, the words and tokens. -/
def Tk (c : Dev nD) : sProp 𝕄 :=
  iprop((∃ K ιs, known (XA m) K ιs) ∗ bigSep Finset.univ (fun i : Fin 26 => openTok ER ((c : Thread nD τ), osem i))
    ∗ atPos ER (barC c) 0 ∅ 0 ∗ talk (F := F) c)

/-- Every cell of a device opened. -/
theorem open_all (K : GSem nD τ sig → ℕ) (ιs : Key → ℕ) (c : Dev nD) :
    iprop(known (XA m) K ιs ∗ bigSep Finset.univ (fun i : Fin 26 => openTok ER ((c : Thread nD τ), osem i)) ∗ Pipeline.ownSems0 osem c)
      ⊢ (iprop(|={Set.univ}=> both (fun d => dirCells (F := F) opened c d)) : sProp 𝕄) := by
  rw [← cells_dir]
  have one (i : Fin 26) (_ : i ∈ Finset.univ) : iprop(known (XA m) K ιs ∗ (openTok ER ((c : Thread nD τ), osem i) ∗ semVal ((c : Thread nD τ), osem i) 0))
      ⊢ (iprop(|={Set.univ}=> opened (F := F) ((c : Thread nD τ), osem i)) : sProp 𝕄) := by
    unfold opened
    iintro ⟨#HK, Ho, Hv⟩
    iapply (Rounds.cell_open ER (Rd (XA m)) (g := ((c : Thread nD τ), osem i)) (Set.mem_univ (K ((c : Thread nD τ), osem i))))
    isplitr; · iapply (known_cell (XA m) K ιs _ (mem_sc c ⟨i, rfl⟩)); iexact HK
    isplitl [Ho] <;> iassumption
  unfold Pipeline.ownSems0
  iintro ⟨#HK, Ho, Hv⟩
  iapply (bigSep_fupd Finset.univ (fun i : Fin 26 => opened (F := F) ((c : Thread nD τ), osem i)))
  iapply (bigSep_with_persistent (R := known (XA m) K ιs)
    (Φ := fun i : Fin 26 => iprop(openTok ER ((c : Thread nD τ), osem i) ∗ semVal ((c : Thread nD τ), osem i) 0)) one)
  isplitr; · iexact HK
  rw [bigSep_sep']
  isplitl [Ho] <;> iassumption

theorem hopen (c : Dev nD) : iprop(Tk m c ∗ Pipeline.ownSems0 osem c ∗ levAts L lv) ⊢ (iprop(|={Set.univ}=> Xk m c) : sProp 𝕄) := by
  unfold Tk Xk
  iintro ⟨⟨⟨%K, %ιs, #HK⟩, Ho, Hb, Ht⟩, Hs, -⟩
  imod (open_all m K ιs c) $$ [Ho Hs] with Hc
  · isplitr; · iexact HK
    isplitl [Ho] <;> iassumption
  imodintro
  isplitr; · iexists K; iexists ιs; iexact HK
  isplitl [Hc]; · iexact Hc
  isplitl [Hb] <;> iassumption

omit [FloatOps F] in
theorem held_none (c : Dev nD) (W : Valuation τ sig (Elt F)) : (StableHlo.held (c.tc : Thread nD τ) ∅ W : sProp 𝕄) = BI.emp := by
  unfold StableHlo.held; exact BI.bigSep_empty

theorem rest_eq (c : Dev nD) :
    (Pipeline.scopedRest (Ix := ℕ) (Name := ℕ) (U := UU) (Lvl := ℕ) (Val := Elt F) (Pipeline.pin (pcfgs (F := F)) adm 0).spec c : sProp 𝕄) = bufs2 (F := F) c := by
  refine (scopedRest0_eq (Ix := ℕ) (Name := ℕ) (U := UU) (Lvl := ℕ) (Val := Elt F) c).trans ?_
  unfold bufs2 both bpt
  rfl

theorem phi_zero (c : Dev nD) : (pdats m 0 c).Φ 0 = before0 m c := by
  show (if ((0 : Fin (cfg0.N + 1)).val = 0) then before0 m c else after0 (F := F) c) = _; exact if_pos rfl
theorem phi_last (c : Dev nD) : (pdats m 0 c).Φ (Fin.last _) = after0 (F := F) c := by
  show (if (Fin.last cfg0.N).val = 0 then before0 m c else after0 (F := F) c) = _
  rw [Fin.val_last, if_neg (by rw [show cfg0.N = 1 from N_0]; decide)]

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ ((pdats m 0 c).Φ 0 : sProp 𝕄) := by
  rw [phi_zero, rest_eq]
  unfold before0
  iintro ⟨Hs, Hp, -, HX⟩
  isplitl [HX]; · iexact HX
  isplitl [Hs] <;> iassumption

theorem hout (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk (F := F) c) := by
  rw [phi_last, rest_eq, held_none]
  unfold after0
  rw [← cells_dir]
  iintro ⟨Hc, HY, Hb, Hp⟩
  isplitl [Hb]; · iexact Hb
  isplitl [Hp]; · iexact Hp
  isplitr; · iempintro
  isplitl [Hc]; · unfold Pipeline.ownSems0 closed; iexact Hc
  iexact HY

/-! ### The arrays, before and after -/

theorem flushed_eq (c : Dev nD) (t : Fin cfg0.N) : (dat0 m c).flushed 4 t = ((cfg0.win 4).blk t).view.read (Elt F) (res m c) := by
  obtain rfl := fin_N0 t
  unfold Dat.flushed
  rw [left4]
  funext z
  show res m c z = res m c _
  congr 1
  funext a
  match a with
  | ⟨0, _⟩ => exact Fin.ext (by show (z 0).val = 0 * 8192 + 1 * (z 0).val; omega)
  | ⟨1, _⟩ => exact Fin.ext (by show (z 1).val = 0 * 128 + 1 * (z 1).val; omega)

theorem cover (i : S8192x128.Idx) : ∃ t : Fin cfg0.N, (cfg0.win 4).flush t = true ∧ i ∈ ((cfg0.win 4).blk t).view.set := by
  refine ⟨t0_0, flush0_4 _, ?_⟩
  show i ∈ ((View.whole main_v1).slice (win0_4.rect t0_0)).set
  rw [View.set_slice_whole, Rect.mem_set_unit]
  intro a
  match a with
  | ⟨0, _⟩ => show 0 * 8192 ≤ (i 0 : Nat) ∧ (i 0 : Nat) < 0 * 8192 + 8192
              have := (i 0).isLt; have h : (i 0 : Nat) < 8192 := this; omega
  | ⟨1, _⟩ => show 0 * 128 ≤ (i 1 : Nat) ∧ (i 1 : Nat) < 0 * 128 + 128
              have := (i 1).isLt; have h : (i 1 : Nat) < 128 := this; omega

theorem arrs_before (c : Dev nD) (w : Fin 5) : (pdats m 0 c).arrAt w 0 = V₁ m c (Proc.devRef .tc (Pipeline.arrRef spec0 w)) := rfl

theorem arrs_after (c : Dev nD) (w : Fin 5) :
    (dat0 m c).arrAt w cfg0.N = V₂ m c (Proc.devRef .tc (Pipeline.arrRef spec0 w)) := by
  match w with
  | ⟨0, _⟩ => exact ((dat0 m c).arrAt_in 0 rfl _).trans (V₂_ne m c main_c (by decide)).symm
  | ⟨1, _⟩ => exact ((dat0 m c).arrAt_in 1 rfl _).trans (V₂_ne m c main_c_0 (by decide)).symm
  | ⟨2, _⟩ => exact ((dat0 m c).arrAt_in 2 rfl _).trans (V₂_ne m c main_arg0 (by decide)).symm
  | ⟨3, _⟩ => exact ((dat0 m c).arrAt_in 3 rfl _).trans (V₂_ne m c main_arg1 (by decide)).symm
  | ⟨4, _⟩ => exact ((dat0 m c).arrAt_eq_of_cover 4 (res m c) (fun t _ => flushed_eq m c t) cover).trans (V₂_res m c).symm

/-! ### The region as a segment -/

theorem stage_low (c : Dev nD) (w : Fin 5) (s : Fin (spec0 w).nbuf) :
    lv ((c : Thread nD τ), .dma ((spec0 w).sem s)) 0 ≤ 0 := by
  have h : ∀ (w : Fin 5) (s : Fin (spec0 w).nbuf), ∀ n : ℕ, (match kd (.dma ((spec0 w).sem s)) with | .bar => 1 | .crd _ => 2 * 0 + 1 | .rcv _ _ _ => 2 * 0 + 2 | _ => 0) ≤ 0 :=
    fun w s _ => by revert w s; decide
  exact h w s 0

theorem share_full (c : Dev nD) (w : Fin 5) : (dat0 m c).share w = fullShare := by
  match w with
  | ⟨0, _⟩ => rfl
  | ⟨1, _⟩ => rfl
  | ⟨2, _⟩ => rfl
  | ⟨3, _⟩ => rfl
  | ⟨4, _⟩ => rfl

theorem kitP : Pipeline.PLaunchFacts (nD := nD) (τ := τ) (pcfgs (F := F)) 0 := launch0.toP

theorem cutD (c : Dev nD) (t : Fin ((Pipeline.pin (pcfgs (F := F)) adm 0).N + 1)) (g : GSem nD τ sig) (i : ℕ)
    (h : 0 < (pdats (F := F) m 0 c).owed t g i) : i ∈ L g ∧ (0 : ℕ) < lv g i := by
  have e : (pdats (F := F) m 0 c).owed t = if t.val = 0 then O₀ c else 0 := rfl
  rw [e] at h
  split at h
  · exact above_O₀ c g i h
  · exact absurd h (Nat.lt_irrefl 0)

local notation "ℝ𝕊" => Pipeline.RegionSeg (pcfgs (F := F)) adm (pdats m) 0 defs₀ 𝒱₀ L lv

set_option backward.isDefEq.respectTransparency.types false in
def reg : ℝ𝕊 0 :=
  Pipeline.RegionSeg.ofTalk (pcfgs (F := F)) adm (pdats m) 0 defs₀ 𝒱₀ L lv 0 osem (by decide : Pipeline.OwnSemFacts spec0 osem)
    ∅ ∅ (Finset.Subset.refl _) kitP rfl (fun c => (body_ok m c).loose)
    (fun _ => 0) O₀ (fun c => (owed_zero m c).trans (zero_add _).symm) (owed_last m) (fun _ => rfl) (fun c w => share_full m c w)
    (V₁ m) (V₂ m) (fun _ b hb => absurd hb (by rw [Finset.sdiff_self]; exact Finset.notMem_empty b))
    (Tk m) (Yk (F := F)) (Xk m) (Yk (F := F)) (hopen m) (hin m) (hout m)
    (fun c => by iintro H; imodintro; iexact H)
    (fun _ => 0)
    ⟨fun c w s => by rw [L_tc]; exact Finset.mem_range.mpr (by decide), fun c w s => stage_low c w s, fun c t g i h => cutD m c t g i h⟩
    (fun _ => iprop(emp))
    (fun c w => arrs_before m c w) (fun c w => arrs_after m c w)

end Cert.KernelIdeal.Ring
-- ==== Proof.Deal.lean ====
/- What the launch deals each device: tokens, credits and the rights of the slots. -/
module

public import proofs.«01_k».proof.Proof.Body
public import Idealize.ShloMosaic.Lib.Pipeline.Launch
public import Idealize.SL.ProofMode.BigOp

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

/-! ## Sums over ranges, directions and halves -/

abbrev rng (n : ℕ) (Φ : ℕ → sProp 𝕄) : sProp 𝕄 := bigSep (Finset.range n) Φ

/-- A range with its first term apart. -/
theorem rng_front (n : ℕ) (Φ : ℕ → sProp 𝕄) : rng (n + 1) Φ = iprop(Φ 0 ∗ rng n (fun k => Φ (k + 1))) := by
  unfold rng
  rw [Finset.range_add_one', BI.bigSep_insert (by simp), BI.bigSep_map]
  rfl
/-- With its last term apart. -/
theorem rng_back (n : ℕ) (Φ : ℕ → sProp 𝕄) : rng (n + 1) Φ = iprop(Φ n ∗ rng n Φ) := by
  unfold rng
  rw [Finset.range_add_one, BI.bigSep_insert Finset.notMem_range_self]; rfl
theorem fin_rng (n : ℕ) (Φ : ℕ → sProp 𝕄) : bigSep Finset.univ (fun i : Fin n => Φ i) = rng n Φ := by
  unfold rng
  rw [← Nat.Iio_eq_range, ← Fin.map_valEmbedding_univ, BI.bigSep_map]
  rfl
theorem bool_both (Φ : Bool → sProp 𝕄) : bigSep Finset.univ Φ = both Φ := by
  rw [show (Finset.univ : Finset Bool) = {false, true} by decide, BI.bigSep_insert (by decide), BI.bigSep_singleton]; rfl
theorem fin_two (Φ : Fin 2 → sProp 𝕄) : bigSep Finset.univ Φ = two Φ := BI.bigSep_fin_two Φ

/-- Two sums exchanged. -/
theorem swap {I J : Type} [DecidableEq I] (s : Finset I) (t : Finset J) (Φ : I → J → sProp 𝕄) :
    bigSep s (fun i => bigSep t (Φ i)) = bigSep t (fun j => bigSep s (fun i => Φ i j)) := by
  induction s using Finset.induction_on with
  | empty => simp only [BI.bigSep_empty]; exact (BI.bigSep_emp_const t).symm
  | insert i s hi ih =>
    rw [bigSep_ins hi, ih, ← bigSep_sep']
    exact bigSep_congr fun j _ => (bigSep_ins hi (fun i => Φ i j)).symm

/-- What the launch gives device by device may be given to a neighbour instead, each direction its own. -/
theorem around {I : Type} (s : Finset I) (Φ : I → Bool → Dev nD → sProp 𝕄) (e : Bool → Dev nD ≃ Dev nD) :
    bigSep Finset.univ (fun c => bigSep s (fun n => both (fun d => Φ n d c)))
      = bigSep Finset.univ (fun c => bigSep s (fun n => both (fun d => Φ n d (e d c)))) := by
  rw [swap, swap Finset.univ s (fun c n => both (fun d => Φ n d (e d c)))]
  refine bigSep_congr fun n _ => ?_
  unfold both
  rw [bigSep_sep', bigSep_sep', bigSep_univ_equiv (e false) (Φ n false), bigSep_univ_equiv (e true) (Φ n true)]

/-! ## The stocks, all hops at once -/

theorem stock_rng (c : Dev nD) (m : ℕ) : ∀ n, stock (F := F) c n m = rng m (fun k => both (fun d => hopStock (F := F) c d (n + k))) := by
  induction m with
  | zero => intro n; unfold stock rng; rw [Finset.range_zero, BI.bigSep_empty]; rfl
  | succ m ih =>
    intro n
    rw [rng_front]
    unfold stock
    rw [ih (n + 1)]
    simp only [Nat.add_zero, Nat.add_assoc, Nat.add_comm 1]

/-- What a device is dealt. -/
def dealt (c : Dev nD) : sProp 𝕄 :=
  iprop(both (fun d => dutyTok ER (barC (nx c (!d))) 0 (cond d 1 0)) ∗ both (fun d => reached ER (barC (nx c (!d))) 0) ∗ cred (tallyAt (barC c) 0 2)
    ∗ rng 29 (fun n => both (fun d => dutyTok ER (crdC (nx c (!d)) d) 0 (n + 1)))
    ∗ rng 29 (fun n => both (fun d => cred (tallyAt (crdC c d) (n + 1) 1)))
    ∗ rng 31 (fun j => both (fun d => two (fun g => readerAt EK (c, d, j, g) 0)))
    ∗ rng 31 (fun j => both (fun d => two (due (F := F) c d j)))
    ∗ rng 31 (fun j => both (fun d => two (sndStock (F := F) c d j))))

theorem hop_of (c : Dev nD) (n : ℕ) :
    iprop(both (fun d => dutyTok ER (crdC (nx c (!d)) d) 0 (n + 1)) ∗ both (fun d => cred (tallyAt (crdC c d) (n + 1) 1))
      ∗ both (fun d => two (fun g => readerAt EK (c, d, n + 2, g) 0)) ∗ both (fun d => two (due (F := F) c d (n + 1)))
      ∗ both (fun d => two (sndStock (F := F) c d (n + 2))))
      ⊢ (both (fun d => hopStock (F := F) c d n) : sProp 𝕄) := by
  unfold hopStock wordStock
  simp only [both]
  iintro ⟨⟨Ha, Hb⟩, ⟨Hc, Hd⟩, ⟨He, Hf⟩, ⟨Hg, Hh⟩, ⟨Hi, Hj⟩⟩
  isplitl [Ha Hc He Hg Hi]
  · isplitl [Ha Hc He]
    · isplitl [Ha]; · iexact Ha
      isplitl [Hc]; · iexact Hc
      unfold two; iexact He
    isplitl [Hg] <;> iassumption
  · isplitl [Hb Hd Hf]
    · isplitl [Hb]; · iexact Hb
      isplitl [Hd]; · iexact Hd
      unfold two; iexact Hf
    isplitl [Hh] <;> iassumption

theorem dealt_talk (c : Dev nD) : dealt (F := F) c ⊢ (talk (F := F) c : sProp 𝕄) := by
  unfold dealt talk
  have hs : iprop(rng 29 (fun n => both (fun d => dutyTok ER (crdC (nx c (!d)) d) 0 (n + 1)))
      ∗ rng 29 (fun n => both (fun d => cred (tallyAt (crdC c d) (n + 1) 1)))
      ∗ rng 29 (fun n => both (fun d => two (fun g => readerAt EK (c, d, n + 2, g) 0)))
      ∗ rng 29 (fun n => both (fun d => two (due (F := F) c d (n + 1))))
      ∗ rng 29 (fun n => both (fun d => two (sndStock (F := F) c d (n + 2))))) ⊢ (stock (F := F) c 0 29 : sProp 𝕄) := by
    rw [stock_rng]
    simp only [rng]
    rw [← bigSep_sep', ← bigSep_sep', ← bigSep_sep', ← bigSep_sep']
    exact bigSep_mono fun n _ => by rw [Nat.zero_add]; exact hop_of c n
  rw [rng_front 30, rng_front 29, rng_front 30 (fun j => both (fun d => two (due (F := F) c d j))), rng_back 29,
    rng_front 30 (fun j => both (fun d => two (sndStock (F := F) c d j))), rng_front 29]
  unfold endStock
  iintro ⟨Hb, Hr, Hc, Ht, Hk, ⟨H0, H1, HR⟩, ⟨Hd0, Hd30, Hd⟩, ⟨Hs0, Hs1, Hs⟩⟩
  isplitl [Hb]; · iexact Hb
  isplitl [Hr]; · iexact Hr
  isplitl [Hc]; · iexact Hc
  isplitl [H0 H1]
  · unfold both
    icases H0 with ⟨Ha, Hb⟩
    icases H1 with ⟨Hc, Hd⟩
    isplitl [Ha Hc]
    · isplitl [Ha] <;> iassumption
    · isplitl [Hb] <;> iassumption
  isplitl [Hs0]; · iexact Hs0
  isplitl [Hd0 Hd30 Hs1]
  · unfold both
    icases Hd0 with ⟨Ha, Hb⟩
    icases Hs1 with ⟨Hc, Hd⟩
    icases Hd30 with ⟨He, Hf⟩
    isplitl [Ha Hc He]
    · isplitl [Ha]; · iexact Ha
      isplitl [Hc] <;> iassumption
    · isplitl [Hb]; · iexact Hb
      isplitl [Hd] <;> iassumption
  iapply hs
  isplitl [Ht]; · iexact Ht
  isplitl [Hk]; · iexact Hk
  isplitl [HR]; · iexact HR
  isplitl [Hd] <;> iassumption

/-! ## Credits -/

theorem cred_X (c : Dev nD) (d : Bool) (j : ℕ) (g : Fin 2) :
    Pipeline.launchCred (fun s => oweX s d j g) c ⊢ (due (F := F) c d j g : sProp 𝕄) :=
  Pipeline.launchCred_tallyAt _ (shift d) (shift d).symm (shift d).apply_symm_apply (shift d).symm_apply_apply j N c
theorem cred_K (c : Dev nD) (d : Bool) (h : ℕ) :
    Pipeline.launchCred (fun s => oweK s d h) c ⊢ (cred (tallyAt (crdC c d) h 1) : sProp 𝕄) :=
  Pipeline.launchCred_tallyAt _ (shift (!d)) (shift (!d)).symm (shift (!d)).apply_symm_apply (shift (!d)).symm_apply_apply h 1 c
theorem cred_B (c : Dev nD) (d : Bool) :
    Pipeline.launchCred (fun s => tallyAt (barC (nx s d)) 0 1) c ⊢ (cred (tallyAt (barC c) 0 1) : sProp 𝕄) :=
  Pipeline.launchCred_tallyAt _ (shift d) (shift d).symm (shift d).apply_symm_apply (shift d).symm_apply_apply 0 1 c

theorem cred_T (c : Dev nD) (j : ℕ) :
    Pipeline.launchCred (fun s => oweT s j) c ⊢ (both (fun d => two (due (F := F) c d j)) : sProp 𝕄) := by
  unfold oweT
  rw [Pipeline.launchCred_add, Pipeline.launchCred_add, Pipeline.launchCred_add]
  unfold both two
  iintro ⟨⟨⟨Ha, Hb⟩, Hc⟩, Hd⟩
  ihave Ha := (cred_X (F := F) c true j 1) $$ Ha
  ihave Hb := (cred_X (F := F) c false j 1) $$ Hb
  ihave Hc := (cred_X (F := F) c true j 0) $$ Hc
  ihave Hd := (cred_X (F := F) c false j 0) $$ Hd
  isplitl [Hb Hd]
  · isplitl [Hd] <;> iassumption
  · isplitl [Hc] <;> iassumption
theorem cred_C (c : Dev nD) (h : ℕ) :
    Pipeline.launchCred (fun s => oweC s h) c ⊢ (both (fun d => cred (tallyAt (crdC c d) h 1)) : sProp 𝕄) := by
  unfold oweC
  rw [Pipeline.launchCred_add]
  unfold both
  iintro ⟨Ha, Hb⟩
  ihave Ha := (cred_K (F := F) c true h) $$ Ha
  ihave Hb := (cred_K (F := F) c false h) $$ Hb
  isplitl [Hb] <;> iassumption

theorem cred_owed (c : Dev nD) : ∀ m, m ≤ 29 → Pipeline.launchCred (fun s => owed s m) c
    ⊢ (bigSep (Finset.Ico (29 - m) 29) (fun k => iprop(both (fun d => two (due (F := F) c d (k + 2))) ∗ both (fun d => cred (tallyAt (crdC c d) (k + 1) 1)))) : sProp 𝕄)
  | 0, _ => by
    rw [Nat.sub_zero, Finset.Ico_self, BI.bigSep_empty]
    unfold owed
    rw [Pipeline.launchCred_zero]
    iintro H; iexact H
  | m + 1, hm => by
    have hI : Finset.Ico (29 - (m + 1)) 29 = insert (28 - m) (Finset.Ico (29 - m) 29) := by
      ext k; simp only [Finset.mem_insert, Finset.mem_Ico]; omega
    rw [hI, bigSep_ins (by simp only [Finset.mem_Ico]; omega)]
    unfold owed
    rw [Pipeline.launchCred_add, Pipeline.launchCred_add, show 28 - m + 2 = 30 - m by omega, show 28 - m + 1 = 29 - m by omega]
    iintro ⟨⟨Ho, Ht⟩, Hc⟩
    ihave Ho := (cred_owed c m (by omega)) $$ Ho
    ihave Ht := (cred_T (F := F) c (30 - m)) $$ Ht
    ihave Hc := (cred_C (F := F) c (29 - m)) $$ Hc
    isplitr [Ho]
    · isplitl [Ht] <;> iassumption
    · iexact Ho

/-- The credits of a device. -/
theorem creds (c : Dev nD) : Pipeline.launchCred O₀ c
    ⊢ (iprop(cred (tallyAt (barC c) 0 2) ∗ rng 29 (fun n => both (fun d => cred (tallyAt (crdC c d) (n + 1) 1)))
      ∗ rng 31 (fun j => both (fun d => two (due (F := F) c d j)))) : sProp 𝕄) := by
  have h : (Pipeline.launchCred O₀ c : sProp 𝕄)
      = Pipeline.launchCred (fun s => owed s 29 + oweT s 1 + oweT s 0 + tallyAt (barC (nx s false)) 0 1 + tallyAt (barC (nx s true)) 0 1) c := rfl
  rw [h, Pipeline.launchCred_add, Pipeline.launchCred_add, Pipeline.launchCred_add, Pipeline.launchCred_add, rng_front 30, rng_front 29]
  have hb : iprop(cred (tallyAt (barC c) 0 1) ∗ cred (tallyAt (barC c) 0 1)) ⊢ (cred (tallyAt (barC c) 0 2) : sProp 𝕄) :=
    ((cred_add _ _).2).trans (Entails.of_eq (by rw [tallyAt_add]))
  have ho : Pipeline.launchCred (fun s => owed s 29) c ⊢ (iprop(rng 29 (fun k => both (fun d => two (due (F := F) c d (k + 2))))
      ∗ rng 29 (fun k => both (fun d => cred (tallyAt (crdC c d) (k + 1) 1)))) : sProp 𝕄) := by
    refine (cred_owed (F := F) c 29 (le_refl _)).trans ?_
    rw [Nat.sub_self, ← Finset.range_eq_Ico, bigSep_sep']
  iintro ⟨⟨⟨⟨Ho, H1⟩, H0⟩, Ha⟩, Hb⟩
  ihave Ho := ho $$ Ho
  ihave H1 := (cred_T (F := F) c 1) $$ H1
  ihave H0 := (cred_T (F := F) c 0) $$ H0
  ihave Ha := (cred_B (F := F) c false) $$ Ha
  ihave Hb := (cred_B (F := F) c true) $$ Hb
  icases Ho with ⟨Hd, Hk⟩
  isplitl [Ha Hb]
  · iapply hb
    isplitl [Ha] <;> iassumption
  isplitl [Hk]; · iexact Hk
  isplitl [H0]; · iexact H0
  isplitl [H1]; · iexact H1
  iexact Hd

/-! ## Tokens -/

/-- The duties at a device's cells: of its barrier, by direction; of its credits, by hop; of its transfers out and in. -/
abbrev Duty : Type := Bool ⊕ (Fin 29 × Bool) ⊕ (Fin 31 × Bool × Fin 2) ⊕ (Fin 31 × Bool × Fin 2)
def dutyAt : Duty → SemLoc sig × ℕ × ℕ
  | .inl d => (.reg barSem, 0, cond d 1 0)
  | .inr (.inl (n, d)) => (.reg (crdA d).sem, 0, n.val + 1)
  | .inr (.inr (.inl (j, d, g))) => (.dma (semv (sndA d) (slot j.val) g), j.val / 3, 0)
  | .inr (.inr (.inr (j, d, g))) => (.dma (semv (rcvA d) (slot (j.val + 1)) g), j.val / 3, 0)
/-- A duty by its kind, round and number. -/
def dutyKd : Duty → Kd × ℕ × ℕ
  | .inl d => (.bar, 0, cond d 1 0)
  | .inr (.inl (n, d)) => (.crd d, 0, n.val + 1)
  | .inr (.inr (.inl (j, d, g))) => (.snd d (slot j.val) g, j.val / 3, 0)
  | .inr (.inr (.inr (j, d, g))) => (.rcv d (slot (j.val + 1)) g, j.val / 3, 0)

theorem dutyKd_eq (x : Duty) : (kd (dutyAt x).1, (dutyAt x).2) = dutyKd x := by
  rcases x with d | ⟨n, d⟩ | ⟨j, d, g⟩ | ⟨j, d, g⟩
  · exact congrArg (·, _) kd_bar
  · exact congrArg (·, _) (kd_crd d)
  · exact congrArg (·, _) (kd_snd d (slot j.val) g)
  · exact congrArg (·, _) (kd_rcv d (slot (j.val + 1)) g)

theorem dutyKd_inj : Function.Injective dutyKd := by
  have hs (j j' : Fin 31) (h : slot j.val = slot j'.val) (h' : j.val / 3 = j'.val / 3) : j = j' := by
    have e : j.val % 3 = j'.val % 3 := congrArg Fin.val h
    exact Fin.ext (by omega)
  have hr (j j' : Fin 31) (h : slot (j.val + 1) = slot (j'.val + 1)) (h' : j.val / 3 = j'.val / 3) : j = j' := by
    have e : (j.val + 1) % 3 = (j'.val + 1) % 3 := congrArg Fin.val h
    exact Fin.ext (by omega)
  rintro (d | ⟨n, d⟩ | ⟨j, d, g⟩ | ⟨j, d, g⟩) (d' | ⟨n', d'⟩ | ⟨j', d', g'⟩ | ⟨j', d', g'⟩) h <;>
    simp only [dutyKd, Prod.mk.injEq, reduceCtorEq, false_and, Kd.crd.injEq, Kd.snd.injEq, Kd.rcv.injEq, true_and, and_true] at h
  · cases d <;> cases d' <;> first | rfl | exact absurd h (by decide)
  · obtain ⟨rfl, h⟩ := h
    rw [show n = n' from Fin.ext (by omega)]
  · obtain ⟨⟨rfl, h1, rfl⟩, h2⟩ := h
    rw [hs j j' h1 h2]
  · obtain ⟨⟨rfl, h1, rfl⟩, h2⟩ := h
    rw [hr j j' h1 h2]

theorem dutyAt_inj : Function.Injective dutyAt := fun x y h => dutyKd_inj (by rw [← dutyKd_eq, ← dutyKd_eq, h])

def tokOf (p : Dev nD × Duty) : GSem nD τ sig × ℕ × ℕ := (((p.1 : Thread nD τ), (dutyAt p.2).1), (dutyAt p.2).2)
theorem tokOf_inj : Function.Injective tokOf := fun x y h =>
  Prod.ext (congrArg (fun t : GSem nD τ sig × ℕ × ℕ => t.1.1.1) h)
    (dutyAt_inj (Prod.ext (congrArg (fun t : GSem nD τ sig × ℕ × ℕ => t.1.2) h) (congrArg (fun t : GSem nD τ sig × ℕ × ℕ => t.2) h)))
/-- Every duty's token. -/
@[irreducible] def toks : Finset (GSem nD τ sig × ℕ × ℕ) := Finset.univ.map ⟨tokOf, tokOf_inj⟩

/-- A sum over a range, the directions and the halves. -/
theorem sum_rdh (n : ℕ) (Φ : ℕ → Bool → Fin 2 → sProp 𝕄) :
    bigSep Finset.univ (fun x : Fin n × Bool × Fin 2 => Φ x.1 x.2.1 x.2.2) = rng n (fun j => both (fun d => two (fun g => Φ j d g))) := by
  rw [BI.bigSep_univ_prod, ← fin_rng]
  refine bigSep_congr fun j _ => ?_
  rw [BI.bigSep_univ_prod, bool_both]
  simp only [fin_two]
theorem sum_rd (n : ℕ) (Φ : ℕ → Bool → sProp 𝕄) :
    bigSep Finset.univ (fun x : Fin n × Bool => Φ x.1 x.2) = rng n (fun j => both (fun d => Φ j d)) := by
  rw [BI.bigSep_univ_prod, ← fin_rng]
  exact bigSep_congr fun j _ => bool_both _

/-- The tokens, each at the device that uses it. -/
theorem toks_dealt :
    bigSep toks (fun x => (dutyTok ER x.1 x.2.1 x.2.2 : sProp 𝕄))
      = bigSep Finset.univ (fun c : Dev nD => iprop(both (fun d => dutyTok ER (barC (nx c (!d))) 0 (cond d 1 0))
        ∗ rng 29 (fun n => both (fun d => dutyTok ER (crdC (nx c (!d)) d) 0 (n + 1)))
        ∗ rng 31 (fun j => both (fun d => two (fun g => dutyTok ER (sndC c d j g) (j / 3) 0)))
        ∗ rng 31 (fun j => both (fun d => two (fun g => dutyTok ER (rcvC (nx c d) d j g) (j / 3) 0))))) := by
  have one (c : Dev nD) : bigSep Finset.univ (fun x : Duty => (dutyTok ER (tokOf (c, x)).1 (tokOf (c, x)).2.1 (tokOf (c, x)).2.2 : sProp 𝕄))
      = iprop(both (fun d => dutyTok ER (barC c) 0 (cond d 1 0)) ∗ rng 29 (fun n => both (fun d => dutyTok ER (crdC c d) 0 (n + 1)))
        ∗ rng 31 (fun j => both (fun d => two (fun g => dutyTok ER (sndC c d j g) (j / 3) 0)))
        ∗ rng 31 (fun j => both (fun d => two (fun g => dutyTok ER (rcvC c d j g) (j / 3) 0)))) := by
    rw [BI.bigSep_univ_sum, BI.bigSep_univ_sum, BI.bigSep_univ_sum, bool_both,
      ← sum_rd, ← sum_rdh, ← sum_rdh]
    rfl
  have hb := around (F := F) (Finset.range 1) (fun _ d c => dutyTok ER (barC c) 0 (cond d 1 0)) (fun d => shift (!d))
  have hk := around (F := F) (Finset.range 29) (fun n d c => dutyTok ER (crdC c d) 0 (n + 1)) (fun d => shift (!d))
  have hr := around (F := F) (Finset.range 31) (fun j d c => two (fun g => dutyTok ER (rcvC c d j g) (j / 3) 0)) (fun d => shift d)
  simp only [Finset.range_one, BI.bigSep_singleton] at hb
  unfold toks
  rw [BI.bigSep_map, BI.bigSep_univ_prod]
  simp only [Function.Embedding.coeFn_mk]
  rw [bigSep_congr (fun c _ => one c)]
  have four (A B C D : Dev nD → sProp 𝕄) : bigSep Finset.univ (fun c => iprop(A c ∗ B c ∗ C c ∗ D c))
      = iprop(bigSep Finset.univ A ∗ bigSep Finset.univ B ∗ bigSep Finset.univ C ∗ bigSep Finset.univ D) := by
    rw [bigSep_sep', bigSep_sep', bigSep_sep']
  refine (four _ _ _ _).trans (Eq.trans ?_ (four _ _ _ _).symm)
  rw [hb, hk, hr]
  rfl

/-! ## The slots' rights -/

theorem sum_prod {I J : Type} [DecidableEq I] [DecidableEq J] (s : Finset I) (t : Finset J) (Ψ : I × J → sProp 𝕄) :
    bigSep (s ×ˢ t) Ψ = bigSep s (fun i => bigSep t (fun j => Ψ (i, j))) := by
  induction s using Finset.induction_on with
  | empty => rw [Finset.empty_product, BI.bigSep_empty, BI.bigSep_empty]
  | insert i s hi ih =>
    rw [Finset.insert_eq, Finset.union_product, BI.bigSep_union (by
      rw [Finset.disjoint_left]
      rintro ⟨a, b⟩ h h'
      rw [Finset.mem_product, Finset.mem_singleton] at h
      rw [Finset.mem_product] at h'
      exact hi (h.1 ▸ h'.1)), Finset.singleton_product, BI.bigSep_map, ← Finset.insert_eq, bigSep_ins hi, ih]
    rfl
/-- A sum over the transfers' keys, device by device. -/
theorem keys_dealt (Φ : Key → sProp 𝕄) :
    bigSep keys Φ = bigSep Finset.univ (fun c : Dev nD => rng 31 (fun j => both (fun d => two (fun g => Φ (c, d, j, g))))) := by
  unfold keys
  rw [sum_prod]
  refine bigSep_congr fun c _ => ?_
  rw [sum_prod]
  simp only [sum_prod]
  rw [swap]
  refine bigSep_congr fun j _ => ?_
  rw [bool_both]
  simp only [fin_two]

/-- The writers' rights, each at the device that sends. -/
theorem writers_dealt :
    bigSep (keys ×ˢ Finset.range 1) (fun x => (writeTok EK x.1 (x.2 + 1) : sProp 𝕄))
      = bigSep Finset.univ (fun c : Dev nD => rng 31 (fun j => both (fun d => two (fun g => writeTok EK (nx c d, d, j, g) 1)))) := by
  rw [sum_prod]
  simp only [Finset.range_one, BI.bigSep_singleton]
  exact (keys_dealt (fun k => writeTok EK k 1)).trans
    (around (F := F) (Finset.range 31) (fun j d c => two (fun g => writeTok EK (c, d, j, g) 1)) (fun d => shift d))

/-- What a transfer out takes, gathered. -/
theorem snd_one (c : Dev nD) (j : ℕ) :
    iprop(both (fun d => two (fun g => dutyTok ER (sndC c d j g) (j / 3) 0))
        ∗ both (fun d => two (fun g => dutyTok ER (rcvC (nx c d) d j g) (j / 3) 0))
        ∗ both (fun d => two (fun g => writeTok EK (nx c d, d, j, g) 1)))
      ⊢ (both (fun d => two (sndStock (F := F) c d j)) : sProp 𝕄) := by
  unfold sndStock
  simp only [both, two]
  iintro ⟨⟨⟨A0, A1⟩, ⟨A2, A3⟩⟩, ⟨⟨B0, B1⟩, ⟨B2, B3⟩⟩, ⟨⟨C0, C1⟩, ⟨C2, C3⟩⟩⟩
  isplitl [A0 A1 B0 B1 C0 C1]
  · isplitl [A0 B0 C0]
    · isplitl [A0]; · iexact A0
      isplitl [B0] <;> iassumption
    · isplitl [A1]; · iexact A1
      isplitl [B1] <;> iassumption
  · isplitl [A2 B2 C2]
    · isplitl [A2]; · iexact A2
      isplitl [B2] <;> iassumption
    · isplitl [A3]; · iexact A3
      isplitl [B3] <;> iassumption
theorem snd_of (c : Dev nD) :
    iprop(rng 31 (fun j => both (fun d => two (fun g => dutyTok ER (sndC c d j g) (j / 3) 0)))
        ∗ rng 31 (fun j => both (fun d => two (fun g => dutyTok ER (rcvC (nx c d) d j g) (j / 3) 0)))
        ∗ rng 31 (fun j => both (fun d => two (fun g => writeTok EK (nx c d, d, j, g) 1))))
      ⊢ (rng 31 (fun j => both (fun d => two (sndStock (F := F) c d j))) : sProp 𝕄) := by
  simp only [rng]
  rw [← bigSep_sep', ← bigSep_sep']
  exact bigSep_mono fun j _ => snd_one c j

end Cert.KernelIdeal.Ring
-- ==== Proof.Run.lean ====
/- The launch, and the run of the whole program on every device. -/
module

public import proofs.«01_k».proof.Proof.Talk
public import proofs.«01_k».proof.Proof.Deal
public import Idealize.ShloMosaic.Lib.Quiescent
public import Idealize.ShloMosaic.Lib.Pipeline.Kit
public import Idealize.ShloMosaic.Lib.Pipeline.RegionTalk

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Facts₀ Facts

variable {F : FTy → Type} [FloatOps F]

local notation "𝕄" => MT nD τ sig ℕ (Elt F) ℕ UU ℕ

open Idealize.ShloMosaic.Pipeline (Dat Cfg Window BodyObligation cellOf)
open Cert.KernelIdeal.Gen
variable (m : (ℓ : Loc nD τ sig) → Buf (Elt F) ℓ) (ρ : Dev nD → PrngReg)

/-! ## The program as segments -/

/-- What goes by the host operations untouched: the generator register, the region's share of the launch, the debt. -/
def aside (c : Dev nD) : sProp 𝕄 := iprop((∃ r, prngReg c r) ∗ Tk m c ∗ ∃ W, owes (c : Thread nD τ) (O₀ c) W)

theorem refs_eq : Pipeline.arrRefs (τ := τ) spec0 = Pipeline.ucRefs τ sig := by decide

theorem host_sub : ∀ op ∈ (hostOps0 : List (HloOp τ sig (Elt F))), op.bufs ⊆ Pipeline.ucRefs τ sig :=
  fun op h => Pipeline.sub_ucRefs op (List.forall_iff_forall_mem.mp hostOps0_sub op h)
theorem host_fresh : ∀ op ∈ (hostOps0 : List (HloOp τ sig (Elt F))), op.fresh = ∅ := by
  intro op h
  simp only [List.mem_cons, List.not_mem_nil, or_false] at h
  rcases h with rfl | rfl <;> rfl

/-- The host operations' segment. -/
def host : Pipeline.HostSeg (Name := ℕ) (U := UU) (pcfgs (F := F)) defs₀ 𝒱₀ L lv :=
  Pipeline.HostSeg.ofOps (pcfgs (F := F)) defs₀ 𝒱₀ L lv (Pipeline.ucRefs τ sig) hostOps0 host_sub host_fresh (V₀ m) (aside m)

abbrev segs : List (Pipeline.Seg (pcfgs (F := F)) adm (pdats m) 0 defs₀ 𝒱₀ L lv) := [.host (host m), .region (reg m)]

/-! ## The launch -/

theorem bar_inj : Set.InjOn (fun c : Dev nD => barC c) (Finset.univ : Finset (Dev nD)) :=
  fun _ _ _ _ h => congrArg (fun g : GSem nD τ sig => g.1.1) h
theorem osem_inj : Function.Injective osem := by decide +kernel
theorem osem_bar : ∀ i, osem i ≠ .reg barSem := by decide
theorem sc_inj : Set.InjOn (fun p : Dev nD × Fin 26 => (((p.1 : Thread nD τ), osem p.2) : GSem nD τ sig)) (Finset.univ : Finset (Dev nD × Fin 26)) :=
  fun _ _ _ _ h => Prod.ext (congrArg (fun g : GSem nD τ sig => g.1.1) h) (osem_inj (congrArg Prod.snd h))

theorem disjoint_cells : Disjoint (barCells : Finset (GSem nD τ sig)) scCells := by
  unfold barCells scCells
  rw [Finset.disjoint_left]
  intro g h h'
  obtain ⟨c, -, rfl⟩ := Finset.mem_image.mp h
  obtain ⟨p, -, e⟩ := Finset.mem_image.mp h'
  exact osem_bar p.2 (congrArg Prod.snd e)

theorem bar_all (Φ : GSem nD τ sig → sProp 𝕄) : bigSep barCells Φ = bigSep Finset.univ (fun c : Dev nD => Φ (barC c)) := by
  unfold barCells; exact bigSep_image_of_injOn bar_inj Φ
theorem sc_all (Φ : GSem nD τ sig → sProp 𝕄) :
    bigSep scCells Φ = bigSep Finset.univ (fun c : Dev nD => bigSep Finset.univ (fun i : Fin 26 => Φ ((c : Thread nD τ), osem i))) := by
  unfold scCells
  rw [bigSep_image_of_injOn sc_inj Φ, BI.bigSep_univ_prod]

theorem bars_one (c : Dev nD) : (unscopedSems0 c : sProp 𝕄) = semVal (barC c) 0 := by
  unfold unscopedSems0
  rw [show (Finset.univ.filter fun sm : SemLoc sig => ¬ sm.isScoped .tc) = {SemLoc.reg barSem} from by decide, BI.bigSep_singleton]

/-- The ring's part of the launch, and the slots'. -/
@[irreducible] def ring₀ : UQ := launchOf barCells scCells toks
@[irreducible] def slots₀ : USlots Key := initSlots keys 1

/-- The whole of it: the pipeline's, the ring's, the slots'. -/
def u₀ : UU :=
  (initOf (Pipeline.cells (Pipeline.pin (pcfgs (F := F)) adm) cellOf_inj) (Pipeline.launchToks (Pipeline.pin (pcfgs (F := F)) adm) cellOf_inj),
    ring₀, slots₀)

/-- A resource wholly at the first device. -/
def first (X : sProp 𝕄) (c : Dev nD) : sProp 𝕄 := if c = 0 then X else BI.emp
theorem first_all (X : sProp 𝕄) : bigSep Finset.univ (first X) = X := by
  have h : bigSep (Finset.univ.erase (0 : Dev nD)) (first X) = (BI.emp : sProp 𝕄) := by
    rw [bigSep_congr (Ψ := fun _ => (BI.emp : sProp 𝕄)) fun c hc => by
      unfold first; rw [if_neg (Finset.ne_of_mem_erase hc)]]
    exact BI.bigSep_emp_const _
  rw [bigSep_univ_at _ (0 : Dev nD), h]
  unfold first
  rw [if_pos rfl]
  exact BI.equiv_iff.mp sep_emp

def GL : Dev nD → sProp 𝕄 := first iprop(BI.own (ER ring₀) ∗ BI.own (EK slots₀))

theorem launch_split : (ownU (u₀ (F := F)) : sProp 𝕄)
    ⊢ iprop(BI.own (EP (initOf (Pipeline.cells (Pipeline.pin (pcfgs (F := F)) adm) cellOf_inj) (Pipeline.launchToks (Pipeline.pin (pcfgs (F := F)) adm) cellOf_inj)))
      ∗ bigSep Finset.univ (GL (F := F))) := by
  unfold GL
  rw [first_all]
  exact (ownU_pair (Ix := ℕ) (Val := Elt F) (Name := ℕ) (Lvl := ℕ) (A := UP) (B := UQ × USlots Key) _ (ring₀, slots₀)).trans
    (sep_mono_right (own_pair_emb (A := UQ) (B := USlots Key) _ _ _))

/-! ## What each device starts with -/

/-- What of the launch is a device's own once the records are kept. -/
def mine (c : Dev nD) : sProp 𝕄 :=
  iprop(bigSep Finset.univ (fun i : Fin 26 => openTok ER ((c : Thread nD τ), osem i)) ∗ atPos ER (barC c) 0 ∅ 0
    ∗ (both (fun d => dutyTok ER (barC (nx c (!d))) 0 (cond d 1 0))
      ∗ rng 29 (fun n => both (fun d => dutyTok ER (crdC (nx c (!d)) d) 0 (n + 1)))
      ∗ rng 31 (fun j => both (fun d => two (fun g => dutyTok ER (sndC c d j g) (j / 3) 0)))
      ∗ rng 31 (fun j => both (fun d => two (fun g => dutyTok ER (rcvC (nx c d) d j g) (j / 3) 0))))
    ∗ rng 31 (fun j => both (fun d => two (fun g => readerAt EK (c, d, j, g) 0)))
    ∗ rng 31 (fun j => both (fun d => two (fun g => writeTok EK (nx c d, d, j, g) 1))))

/-- What the launch gives a device besides. -/
def given (c : Dev nD) : sProp 𝕄 :=
  iprop(StableHlo.held (c : Thread nD τ) (Pipeline.ucRefs τ sig) (V₀ m c) ∗ Pipeline.launchCred O₀ c ∗ owes (c : Thread nD τ) (O₀ c) ∅ ∗ ∃ r, prngReg c r)

/-- The records: the invariants and levels, and every barrier at its round 0. -/
def records (K : GSem nD τ sig → ℕ) (ιs : Key → ℕ) : sProp 𝕄 :=
  iprop(known (XA m) K ιs ∗ bigSep Finset.univ (fun c : Dev nD => reached ER (barC c) 0))
instance records_persistent (K : GSem nD τ sig → ℕ) (ιs : Key → ℕ) : BI.Persistent (records m K ιs) := by unfold records; infer_instance

theorem bar_reached (c : Dev nD) : bigSep Finset.univ (fun c : Dev nD => reached ER (barC c) 0) ⊢ (reached ER (barC c) 0 : sProp 𝕄) :=
  bigSep_elim (Φ := fun c : Dev nD => reached ER (barC c) 0) (Finset.mem_univ c)

theorem talk_of (c : Dev nD) (K : GSem nD τ sig → ℕ) (ιs : Key → ℕ) :
    iprop(records m K ιs ∗ (mine (F := F) c ∗ Pipeline.launchCred O₀ c)) ⊢ (Tk m c : sProp 𝕄) := by
  unfold records mine Tk
  iintro ⟨⟨#HK, #Hr⟩, ⟨Ho, Hat, ⟨Hb, Hc, Hs, Hv⟩, Hrd, Hw⟩, Hcr⟩
  ihave Hcr := (creds (F := F) c) $$ Hcr
  icases Hcr with ⟨Hcb, Hcc, Hcd⟩
  isplitr; · iexists K; iexists ιs; iexact HK
  isplitl [Ho]; · iexact Ho
  isplitl [Hat]; · iexact Hat
  iapply (dealt_talk (F := F) c)
  unfold dealt
  isplitl [Hb]; · iexact Hb
  isplitr
  · unfold both
    isplitr
    · iapply (bar_reached (F := F) (nx c (!false))); iexact Hr
    · iapply (bar_reached (F := F) (nx c (!true))); iexact Hr
  isplitl [Hcb]; · iexact Hcb
  isplitl [Hc]; · iexact Hc
  isplitl [Hcc]; · iexact Hcc
  isplitl [Hrd]; · iexact Hrd
  isplitl [Hcd]; · iexact Hcd
  iapply (snd_of (F := F) c)
  isplitl [Hs]; · iexact Hs
  isplitl [Hv] <;> iassumption

abbrev T₀ (c : Dev nD) : sProp 𝕄 := iprop(StableHlo.held (c : Thread nD τ) (Pipeline.ucRefs τ sig) (V₀ m c) ∗ aside m c)

theorem start_of (K : GSem nD τ sig → ℕ) (ιs : Key → ℕ) (c : Dev nD) :
    iprop(records m K ιs ∗ (mine (F := F) c ∗ given m c)) ⊢ (T₀ m c : sProp 𝕄) := by
  unfold given T₀ aside
  iintro ⟨#HR, Hm, Hh, Hcr, HO, Hp⟩
  isplitl [Hh]; · iexact Hh
  isplitl [Hp]; · iexact Hp
  isplitl [Hm Hcr]
  · iapply (talk_of m c K ιs)
    isplitr; · iexact HR
    isplitl [Hm] <;> iassumption
  iexists ∅; iexact HO

theorem given_of (c : Dev nD) :
    iprop(unscopedBufs c (fun b => m ((c.tc : Thread nD τ).loc b)) ∗ unscopedSems0 c
        ∗ owes (c.tc : Thread nD τ) (O₀ c) ∅ ∗ Pipeline.launchCred O₀ c ∗ prngReg c (ρ c) ∗ GL (F := F) c)
      ⊢ (iprop(given m c ∗ (semVal (barC c) 0 ∗ GL (F := F) c)) : sProp 𝕄) := by
  rw [show unscopedBufs c (fun b => m ((c : Thread nD τ).loc b)) = StableHlo.held (c : Thread nD τ) (Pipeline.ucRefs τ sig) (V₀ m c)
      from Pipeline.unscopedBufs_held c (V₀ m c), bars_one]
  unfold given
  iintro ⟨Hh, Hs, HO, Hcr, Hp, HG⟩
  isplitr [Hs HG]
  · isplitl [Hh]; · iexact Hh
    isplitl [Hcr]; · iexact Hcr
    isplitl [HO]; · iexact HO
    iexists (ρ c); iexact Hp
  isplitl [Hs] <;> iassumption

theorem known_intro (K : GSem nD τ sig → ℕ) (ιs : Key → ℕ) :
    iprop(bigSep (barCells ∪ scCells) (fun g => cellInv ER (Rd (XA m)) (K g) g)
      ∗ bigSep keys (fun k => slotInv EK (ιs k) k (seat1 (F := F) k)) ∗ levAts L lv) ⊢ (known (XA m) K ιs : sProp 𝕄) := by
  unfold known levs; exact BI.Entails.refl _

/-- Every device's own, from what the two launches give. -/
theorem mine_all :
    iprop(bigSep scCells (fun g => openTok ER g) ∗ bigSep barCells (fun g => atPos ER g 0 ∅ 0)
      ∗ bigSep toks (fun x => dutyTok ER x.1 x.2.1 x.2.2) ∗ bigSep keys (fun k => readerAt EK k 0)
      ∗ bigSep (keys ×ˢ Finset.range 1) (fun x => writeTok EK x.1 (x.2 + 1)))
      ⊢ (bigSep Finset.univ (fun c : Dev nD => mine (F := F) c) : sProp 𝕄) := by
  have five (A B C D E : Dev nD → sProp 𝕄) : bigSep Finset.univ (fun c => iprop(A c ∗ B c ∗ C c ∗ D c ∗ E c))
      = iprop(bigSep Finset.univ A ∗ bigSep Finset.univ B ∗ bigSep Finset.univ C ∗ bigSep Finset.univ D ∗ bigSep Finset.univ E) := by
    rw [bigSep_sep', bigSep_sep', bigSep_sep', bigSep_sep']
  rw [sc_all, bar_all, toks_dealt, keys_dealt, writers_dealt]
  exact Entails.of_eq (five _ _ _ _ _).symm

/-- The ring's cells made invariants. -/
theorem ring_start :
    iprop(bigSep barCells (fun g => semVal g 0) ∗ BI.own (ER (F := F) ring₀))
      ⊢ (iprop(|={Set.univ}=> ∃ K : GSem nD τ sig → ℕ, bigSep (barCells ∪ scCells) (fun g => cellInv ER (Rd (XA m)) (K g) g)
          ∗ bigSep barCells (fun g => reached ER g 0) ∗ bigSep barCells (fun g => atPos ER g 0 ∅ 0)
          ∗ bigSep scCells (fun g => openTok ER g) ∗ bigSep toks (fun x => dutyTok ER x.1 x.2.1 x.2.2)) : sProp 𝕄) := by
  unfold ring₀
  iintro H
  imod (Rounds.fund_launch ER (Rd (XA m)) disjoint_cells (fun g _ h => h) toks (Es := Set.univ)) $$ H with ⟨%κ, -, H⟩
  imodintro
  iexists κ; iexact H

/-- The slots' releases made invariants. -/
theorem slots_start :
    (BI.own (EK (F := F) slots₀))
      ⊢ (iprop(|={Set.univ}=> ∃ ιs : Key → ℕ, bigSep keys (fun k => slotInv EK (ιs k) k (seat1 (F := F) k))
          ∗ bigSep keys (fun k => readerAt EK k 0) ∗ bigSep (keys ×ˢ Finset.range 1) (fun x => writeTok EK x.1 (x.2 + 1))) : sProp 𝕄) := by
  unfold slots₀
  iintro H
  imod (slots_init EK keys 1 (seat1 (F := F)) (Es := Set.univ)) $$ H with ⟨%ιs, -, H⟩
  imodintro
  iexists ιs; iexact H

theorem launch_eq : bigSep Finset.univ (fun c : Dev nD => iprop(given m c ∗ (semVal (barC c) 0 ∗ GL (F := F) c)))
    = (iprop(bigSep Finset.univ (given m) ∗ bigSep barCells (fun g => semVal g 0) ∗ (BI.own (ER (F := F) ring₀) ∗ BI.own (EK (F := F) slots₀))) : sProp 𝕄) := by
  rw [bigSep_sep', bigSep_sep', bar_all]
  unfold GL
  rw [first_all]

theorem launch_parts :
    (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ GL (F := F) c))
      ⊢ (iprop(bigSep Finset.univ (given m) ∗ bigSep barCells (fun g => semVal g 0) ∗ (BI.own (ER (F := F) ring₀) ∗ BI.own (EK (F := F) slots₀))) : sProp 𝕄) := by
  rw [← launch_eq]
  exact bigSep_mono fun c _ => given_of m ρ c

theorem starts (K : GSem nD τ sig → ℕ) (ιs : Key → ℕ) :
    iprop(records m K ιs ∗ bigSep Finset.univ (fun c : Dev nD => mine (F := F) c) ∗ bigSep Finset.univ (given m))
      ⊢ (bigSep Finset.univ (T₀ m) : sProp 𝕄) := by
  rw [← bigSep_sep']
  exact bigSep_with_persistent (R := records m K ιs) (Φ := fun c => iprop(mine (F := F) c ∗ given m c)) fun c _ => start_of m K ιs c

theorem assemble (K : GSem nD τ sig → ℕ) (ιs : Key → ℕ) :
    iprop((bigSep Finset.univ (given m) ∗ levAts L lv)
      ∗ (bigSep (barCells ∪ scCells) (fun g => cellInv ER (Rd (XA m)) (K g) g)
          ∗ bigSep barCells (fun g => reached ER g 0) ∗ bigSep barCells (fun g => atPos ER g 0 ∅ 0)
          ∗ bigSep scCells (fun g => openTok ER g) ∗ bigSep toks (fun x => dutyTok ER x.1 x.2.1 x.2.2))
      ∗ (bigSep keys (fun k => slotInv EK (ιs k) k (seat1 (F := F) k))
          ∗ bigSep keys (fun k => readerAt EK k 0) ∗ bigSep (keys ×ˢ Finset.range 1) (fun x => writeTok EK x.1 (x.2 + 1))))
      ⊢ (bigSep Finset.univ (T₀ m) : sProp 𝕄) := by
  refine BIBase.Entails.trans ?_ (starts m K ιs)
  have h : iprop((bigSep (barCells ∪ scCells) (fun g => cellInv ER (Rd (XA m)) (K g) g)
      ∗ bigSep keys (fun k => slotInv EK (ιs k) k (seat1 (F := F) k)) ∗ levAts L lv) ∗ bigSep barCells (fun g => reached ER g 0))
      ⊢ (records m K ιs : sProp 𝕄) := by
    unfold records
    exact (sep_mono_left (known_intro m K ιs)).trans (sep_mono_right (Entails.of_eq (bar_all (F := F) (fun g => reached ER g 0))))
  have h' := mine_all (F := F)
  iintro ⟨⟨HG, HL⟩, ⟨Hinv, Hr, Hat, Hopen, Htok⟩, Hsl, Hrd, Hw⟩
  isplitl [Hinv Hr Hsl HL]
  · iapply h
    isplitr [Hr]
    · isplitl [Hinv]; · iexact Hinv
      isplitl [Hsl]; · iexact Hsl
      iexact HL
    iexact Hr
  isplitr [HG]
  · iapply h'
    isplitl [Hopen]; · iexact Hopen
    isplitl [Hat]; · iexact Hat
    isplitl [Htok]; · iexact Htok
    isplitl [Hrd] <;> iassumption
  iexact HG

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ GL c)) ∗ levAts L lv)
      ⊢ (iprop(|={Set.univ}=> bigSep Finset.univ (T₀ m)) : sProp 𝕄) := by
  iintro ⟨H, HL⟩
  ihave H := (launch_parts m ρ) $$ H
  icases H with ⟨HG, Hv, Hu, Hk⟩
  imod (ring_start m) $$ [Hv Hu] with ⟨%κ, Hr⟩
  · isplitl [Hv] <;> iassumption
  imod (slots_start (F := F)) $$ Hk with ⟨%ιs, Hs⟩
  imodintro
  iapply (assemble m κ ιs)
  isplitl [HG HL]
  · isplitl [HG] <;> iassumption
  isplitl [Hr] <;> iassumption

/-! ## The run -/

abbrev Tₙ (c : Dev nD) : sProp 𝕄 := iprop(StableHlo.held (c : Thread nD τ) (Pipeline.ucRefs τ sig) (V₂ m c) ∗ semVal (barC c) 0)

theorem host_reg (c : Dev nD) : (host m).post c ⊢ (reg m).pre c := by
  show iprop(StableHlo.held (c : Thread nD τ) (Pipeline.ucRefs τ sig) (V₁ m c) ∗ aside m c)
    ⊢ iprop(StableHlo.held (c.tc : Thread nD τ) (Pipeline.arrRefs spec0) (V₁ m c) ∗ (∃ r, prngReg c r)
      ∗ (StableHlo.held (c.tc : Thread nD τ) ∅ (V₁ m c) ∗ BI.emp) ∗ Tk m c ∗ ∃ Wd, owes (c : Thread nD τ) (0 + O₀ c) Wd)
  rw [refs_eq, held_none, zero_add]
  unfold aside
  iintro ⟨Hh, Hp, Ht, HO⟩
  isplitl [Hh]; · iexact Hh
  isplitl [Hp]; · iexact Hp
  isplitr; · isplitr <;> iempintro
  isplitl [Ht] <;> iassumption

theorem reg_end (c : Dev nD) : (reg m).post c ⊢ iprop(Tₙ m c ∗ ∃ W, owes (c.tc : Thread nD τ) (0 : CellTallies nD τ sig ℕ) W) := by
  show iprop(StableHlo.held (c.tc : Thread nD τ) (Pipeline.arrRefs spec0) (V₂ m c) ∗ (∃ r, prngReg c r)
      ∗ (StableHlo.held (c.tc : Thread nD τ) ∅ (V₂ m c) ∗ BI.emp) ∗ Yk (F := F) c ∗ ∃ Wd, owes (c : Thread nD τ) 0 Wd) ⊢ _
  rw [refs_eq, held_none]
  unfold Yk closed Tₙ
  iintro ⟨Hh, -, -, Hb, HO⟩
  isplitr [HO]
  · isplitl [Hh] <;> iassumption
  iexact HO

/-- The five arrays a device holds outside the region. -/
theorem held_arrs (c : Dev nD) (W : Valuation τ sig (Elt F)) :
    (StableHlo.held (c : Thread nD τ) (Pipeline.ucRefs τ sig) W : sProp 𝕄)
      ⊢ iprop(((c : Thread nD τ).loc main_arg0 ↦{fullShare} W main_arg0) ∗ ((c : Thread nD τ).loc main_arg1 ↦{fullShare} W main_arg1)
        ∗ ((c : Thread nD τ).loc main_v1 ↦{fullShare} W main_v1)) := by
  refine (Entails.of_eq (Pipeline.unscopedBufs_held c W).symm).trans ?_
  unfold unscopedBufs
  rw [bigSep_eq_bigSepL_of_eq [main_arg0, main_arg1, main_v1, main_c, main_c_0] (by decide) (by decide)]
  show iprop(_ ∗ _ ∗ _ ∗ _) ⊢ _
  iintro ⟨Ha, Hb, Hc, -⟩
  isplitl [Ha]; · iexact Ha
  isplitl [Hb]; · iexact Hb
  iexact Hc

theorem unscoped_eq : ∀ sm : SemLoc sig, sm.isScoped .tc = false → sm = .reg barSem := by decide

set_option backward.isDefEq.respectTransparency.types false in
/-- From any memory with every counter at zero, every weakly fair run on the 32 devices ends, with each device's arguments
    unchanged, its result the product's columns through the activation, and every counter at zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = res m c) ∧ r.2.sem = fun _ => 0) :=
  Pipeline.θ_run_regions_kit_sems (pcfgs (F := F)) adm (pdats m) 0 cellOf_inj EP defs₀ 𝒱₀ L lv m ρ main (segs m)
    (fun c Q => by rw [main_segs adm (pdats m) 0 𝒱₀ L lv (host m) (reg m) rfl c])
    (by simp only [segs, Pipeline.Seg.pipes_host, Pipeline.Seg.pipes_region, Pipeline.Seg.pipes_nil]; decide)
    (O₀ := O₀) (hL := L_of_ne) (G := GL) (u₀ := u₀ (F := F))
    (hu₀ := by
      iintro Hu
      ihave H := (launch_split (F := F)) $$ Hu
      imodintro
      iexact H)
    (T₀ := T₀ m) (Tₙ := Tₙ m)
    (hch := ⟨fun c => .rfl, fun c => host_reg m c, fun c => reg_end m c⟩)
    (hinit := init m ρ)
    (QY := fun c s => (s.mem ((c : Thread nD τ).loc main_arg0) = V₂ m c main_arg0 ∧ s.mem ((c : Thread nD τ).loc main_arg1) = V₂ m c main_arg1
      ∧ s.mem ((c : Thread nD τ).loc main_v1) = V₂ m c main_v1) ∧ s.sem (barC c) = 0)
    (hfin := fun c s' => by
      dsimp only [Tₙ]
      iintro ⟨⟨H, Hb0⟩, HSI⟩
      ihave H := (held_arrs (F := F) c (V₂ m c)) $$ H
      icases H with ⟨Ha, Hb, Hc⟩
      icombine HSI Ha gives %ha
      icombine HSI Hb gives %hb
      icombine HSI Hc gives %hc
      icombine HSI Hb0 gives %h0
      imodintro
      isplitr
      · ipureintro
        exact ⟨⟨Buf.eq_of_forall_mem_univ ha, Buf.eq_of_forall_mem_univ hb, Buf.eq_of_forall_mem_univ hc⟩, by simpa using h0⟩
      iexact HSI)
    (hQ := fun s h hs => ⟨fun c => by
        obtain ⟨⟨ha, hb, hc⟩, -⟩ := h c
        refine ⟨ha.trans ?_, hb.trans ?_, hc.trans (V₂_res m c)⟩
        · exact (V₂_ne m c main_arg0 (by decide)).trans (V_main_arg0 m c)
        · exact (V₂_ne m c main_arg1 (by decide)).trans (V_main_arg1 m c),
      sem_eq_zero hs fun c sm hsm => by
        obtain rfl := unscoped_eq sm hsm
        exact (h c).2⟩)

end Cert.KernelIdeal.Ring
-- ==== Proof.Same.lean ====
/- The kernel's two programs have one text: here their bodies, their tables and their hosts' operations are equal. -/
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact

@[expose] public section

noncomputable section

namespace Cert.Proof

open Idealize.ShloMosaic Idealize.SL.Sem

set_option maxRecDepth 200000 in
set_option maxHeartbeats 0 in
/-- The bodies are equal, -/
theorem body_same : @Cert.Kernel.cc0_body Bits _ _ = @Cert.KernelIdeal.cc0_body Bits _ _ := rfl

/-- the tables holding them, -/
theorem table_same : Cert.Kernel.defs₀ (F := Bits) = Cert.KernelIdeal.defs₀ (F := Bits) := by
  unfold Cert.Kernel.defs₀ Cert.KernelIdeal.defs₀
  rw [body_same]
  refine congrArg (Defs.onTc (τ := Cert.KernelIdeal.τ)) ?_
  funext ℓ a
  match ℓ, a with
  | 0, (t, s) => dsimp only
  | ⟨n + 1, h⟩, _ => exact absurd h (by omega)

/-- the pipelines' tables over them, -/
theorem defs_same : Cert.Kernel.defs (F := Bits) = Cert.KernelIdeal.defs (F := Bits) := by
  unfold Cert.Kernel.defs Cert.KernelIdeal.defs
  rw [table_same]
  rfl

/-- and the hosts' operations. -/
theorem main_same : Cert.Kernel.main (F := Bits) = Cert.KernelIdeal.main (F := Bits) := rfl

end Cert.Proof

end
-- ==== Proof.Silu.lean ====
/- What the kernel computes over the reals: each element of a device's result is the silu of one row of `x` times one column of
   `w_mat`, and so is each element of the reference's. -/
module

public import proofs.«01_k».proof.Proof.Fill
public import proofs.«01_k».proof.Proof.Gen.ReferenceIdeal
public import proofs.«01_k».proof.Proof.Gen.ReferenceIdeal.Run
public import Idealize.ShloMosaic.Lib.MatmulPlain
public import Idealize.ShloMosaic.Lib.IdealHost
public import Idealize.ShloMosaic.Lib.Layout
public import Idealize.ShloMosaic.Lib.Pipeline.Value

@[expose] public section

set_option maxRecDepth 8000

noncomputable section

namespace Cert.KernelIdeal.Ring

open Idealize.ShloMosaic Idealize.ShloMosaic.TcCoe Idealize.ShloMosaic.ValueIdx
open Cert.KernelIdeal Facts₀ Facts
open scoped BigOperators

/-- `y / (1 + e⁻ʸ)` on the extended reals. -/
def silu (y : EReal) : EReal := Ideal.div y (1 + Ideal.exp (-y))

/-- The exponential is not negative, -/
theorem exp_nonneg (y : EReal) : 0 ≤ Ideal.exp y := by
  induction y with
  | bot => exact le_of_eq Ideal.exp_bot.symm
  | top => rw [Ideal.exp_top]; exact le_top
  | coe r => exact EReal.coe_nonneg.mpr (Real.exp_pos r).le

/-- so one more than it is not zero, -/
theorem den_ne (y : EReal) : 1 + Ideal.exp y ≠ 0 := by
  have h : (1 : EReal) ≤ 1 + Ideal.exp y := le_add_of_nonneg_right (exp_nonneg y)
  exact ne_of_gt (lt_of_lt_of_le zero_lt_one h)

/-- and a number times its logistic is its silu. -/
theorem mul_logistic (y : EReal) : y * Ideal.logistic y = silu y := Ideal.mul_one_div (den_ne _)

/-! ## The kernel's two blocks -/

/-- A product into zero, times its logistic, at an element: the silu of the row times the column. -/
theorem gate_apply {M : ℕ} (x : FVec Ideal ⟨2, ![M, 8192]⟩ .f32) (w : FVec Ideal ⟨2, ![8192, 128]⟩ .f32) (r : Fin M) (j : Fin 128) :
    (mulf (matmul (DotDims.plain M 8192 128) none x w (constant _ .f32 0x00000000#32))
      (logistic (matmul (DotDims.plain M 8192 128) none x w (constant _ .f32 0x00000000#32))) : FVec Ideal ⟨2, ![M, 128]⟩ .f32) (ix2 r j)
      = silu (∑ k : Fin 8192, x (ix2 r k) * w (ix2 k j)) := by
  have h : (matmul (DotDims.plain M 8192 128) none x w (constant _ .f32 0x00000000#32) : FVec Ideal ⟨2, ![M, 128]⟩ .f32) (ix2 r j)
      = ∑ k : Fin 8192, x (ix2 r k) * w (ix2 k j) := by
    refine (Ideal.matmul_plain_apply none x w _ r j).trans ?_
    show Ideal.ofBits .f32 0x00000000#32 + _ = _
    rw [Ideal.ofBits_zero_f32, zero_add]
  generalize (matmul (DotDims.plain M 8192 128) none x w (constant _ .f32 0x00000000#32) : FVec Ideal ⟨2, ![M, 128]⟩ .f32) = y at h ⊢
  show y (ix2 r j) * Ideal.logistic (y (ix2 r j)) = _
  rw [h, mul_logistic]

/-- An element of the rows half a block makes, -/
theorem act_apply (x : FVec Ideal S128x8192 .f32) (w : FVec Ideal S8192x128 .f32) (r : Fin 128) (j : Fin 128) :
    act x w (ix2 r j) = silu (∑ k : Fin 8192, x (ix2 r k) * w (ix2 k j)) := gate_apply x w r j

/-- and of those the device's own block makes. -/
theorem act₀_apply (x : FVec Ideal S256x8192 .f32) (w : FVec Ideal S8192x128 .f32) (r : Fin 256) (j : Fin 128) :
    act₀ x w (ix2 r j) = silu (∑ k : Fin 8192, x (ix2 r k) * w (ix2 k j)) := gate_apply x w r j

/-! ## The whole result -/

variable (x : (⟨2, ![8192, 8192]⟩ : Shape).Idx → EReal) (w : (⟨2, ![8192, 4096]⟩ : Shape).Idx → EReal)

/-- The problem's mathematics at row `r` and column `j`. -/
def whole (r : Fin 8192) (j : Fin 4096) : EReal := silu (∑ k : Fin 8192, x (ix2 r k) * w (ix2 k j))

/-- Device `e`'s rows of `x`, and its columns of `w_mat`. -/
abbrev rows (e : Dev nD) : S256x8192.Idx → EReal := Layout.block ⟨2, ![256, 8192]⟩ ⟨2, ![8192, 8192]⟩ 0 32 e x
abbrev cols (c : Dev nD) : S8192x128.Idx → EReal := Layout.block ⟨2, ![8192, 128]⟩ ⟨2, ![8192, 4096]⟩ 1 32 c w

/-- An index of two axes is the pair of its coordinates. -/
theorem eq_ix2 {a b : ℕ} (z : (⟨2, ![a, b]⟩ : Shape).Idx) (r : Fin a) (l : Fin b) (hr : (z 0).val = r.val) (hl : (z 1).val = l.val) :
    z = ix2 r l := by
  funext t
  match t with
  | ⟨0, _⟩ => exact Fin.ext hr
  | ⟨1, _⟩ => exact Fin.ext hl

/-- Row `p` of device `e` is row `256 e + p`, -/
theorem rows_apply (e : Dev nD) (p : Fin 256) (k : Fin 8192) (r : Fin 8192) (hr : r.val = 256 * e.val + p.val) :
    rows x e (ix2 p k) = x (ix2 r k) := by
  refine congrArg x (eq_ix2 _ _ _ ?_ rfl)
  show e.val * 256 + p.val = r.val
  omega

/-- and column `l` of device `c` is column `128 c + l`. -/
theorem cols_apply (c : Dev nD) (k : Fin 8192) (l : Fin 128) (j : Fin 4096) (hj : j.val = 128 * c.val + l.val) :
    cols w c (ix2 k l) = w (ix2 k j) := by
  refine congrArg w (eq_ix2 _ _ _ rfl ?_)
  show c.val * 128 + l.val = j.val
  omega

/-- What the device's own block makes is the problem's mathematics at its rows and columns, -/
theorem blk₀_apply (c e : Dev nD) (p : Fin 256) (l : Fin 128) (r : Fin 8192) (j : Fin 4096) (hr : r.val = 256 * e.val + p.val)
    (hj : j.val = 128 * c.val + l.val) : blk₀ (F := Ideal) (rows x) (cols w c) e (ix2 p l) = whole x w r j := by
  unfold blk₀ whole
  rw [shapeCast_self, act₀_apply]
  refine congrArg silu (Finset.sum_congr rfl fun k _ => ?_)
  rw [rows_apply x e p k r hr, cols_apply w c k l j hj]

/-- and so is what half a block makes. -/
theorem blk_apply (c e : Dev nD) (d : Bool) (p : Fin 128) (l : Fin 128) (r : Fin 8192) (j : Fin 4096)
    (hr : r.val = 256 * e.val + (half d + p.val)) (hj : j.val = 128 * c.val + l.val) :
    blk (F := Ideal) (rows x) (cols w c) e d (ix2 p l) = whole x w r j := by
  unfold blk whole
  rw [act_apply]
  refine congrArg silu (Finset.sum_congr rfl fun k _ => ?_)
  rw [cols_apply w c k l j hj]
  refine congrArg (· * _) ?_
  refine (shapeCast_dropUnit_apply ![128, 8192] (halfV (F := Ideal) (rows x) e d) _ (ix2 p k)).trans ?_
  refine Eq.trans ?_ (rows_apply x e (rowOf d p) k r hr)
  exact congrArg (rows x e) (eq_ix2 _ _ _ rfl rfl)

/-- So the final contents of device `c`'s result are the problem's mathematics at its columns. -/
theorem Vfin_apply (c : Dev nD) (i : S8192x128.Idx) (j : Fin 4096) (hj : j.val = 128 * c.val + (i 1).val) :
    Vfin (F := Ideal) (rows x) c (cols w c) i = whole x w (i 0) j := by
  have h0 : (i 0).val < 8192 := (i 0).isLt
  have ho : (owner i).val = (i 0).val / 256 := rfl
  unfold Vfin
  split
  · rw [eq_ix2 (in256 i) ⟨(i 0).val % 256, Nat.mod_lt _ (by decide)⟩ (i 1) rfl rfl]
    exact blk₀_apply x w c _ _ _ _ _ (by rw [ho]; show (i 0).val = 256 * ((i 0).val / 256) + (i 0).val % 256; omega) hj
  · rw [eq_ix2 (in128 i) ⟨(i 0).val % 128, Nat.mod_lt _ (by decide)⟩ (i 1) rfl rfl]
    refine blk_apply x w c _ _ _ _ _ _ ?_ hj
    rw [ho]
    show (i 0).val = 256 * ((i 0).val / 256) + (half (upper i) + (i 0).val % 128)
    by_cases hu : 128 ≤ (i 0).val % 256
    · rw [show upper i = true from decide_eq_true hu]; show _ = _ + (128 + _); omega
    · rw [show upper i = false from decide_eq_false hu]; show _ = _ + (0 + _); omega

/-! ## The reference -/

/-- The reference's product of the whole arrays, -/
abbrev prod : FVec Ideal Cert.ReferenceIdeal.S8192x4096 .f32 :=
  Host.dotGeneral (φ₁ := .f32) (φ₂ := .f32) Cert.ReferenceIdeal.dot_S8192x8192_S8192x4096_S8192x4096_1_0_0_1_n_n none x w

/-- and its result. -/
abbrev gated : FVec Ideal Cert.ReferenceIdeal.S8192x4096 .f32 :=
  Host.divf (prod x w) (addf (broadcastInDim Cert.ReferenceIdeal.S8192x4096 ![] Cert.ReferenceIdeal.Facts₀.bcast_S_S8192x4096
    (constant Cert.ReferenceIdeal.S_ .f32 0x3F800000#32)) (Host.exp (Host.negf (prod x w))))

/-- An element of the product is a row of `x` times a column of `w_mat`, -/
theorem prod_apply (r : Fin 8192) (j : Fin 4096) : prod x w (ix2 r j) = ∑ k : Fin 8192, x (ix2 r k) * w (ix2 k j) := by
  refine (Ideal.dotGeneral_apply (φ₁ := .f32) (φ₂ := .f32) (DotDims.plain 8192 8192 4096) none _ x w (ix2 r j)).trans ?_
  refine Eq.trans (zero_add _).symm ?_
  refine Eq.trans ?_ (zero_add _)
  exact Ideal.matmul_plain_apply (φ₁ := .f32) (φ₂ := .f32) none x w (fun _ => (0 : EReal)) r j

/-- and an element of the result is the problem's mathematics there. -/
theorem gated_apply (r : Fin 8192) (j : Fin 4096) : gated x w (ix2 r j) = whole x w r j := by
  have h := prod_apply x w r j
  unfold gated
  generalize prod x w = y at h ⊢
  show Ideal.div (y (ix2 r j)) (Ideal.ofBits .f32 0x3F800000#32 + Ideal.exp (-(y (ix2 r j)))) = _
  rw [h, Ideal.ofBits_one_f32]
  rfl

/-- Device `c`'s final contents are its columns of the reference's result. -/
theorem Vfin_eq (c : Dev nD) : Vfin (F := Ideal) (rows x) c (cols w c)
    = Layout.block ⟨2, ![8192, 128]⟩ ⟨2, ![8192, 4096]⟩ 1 32 c (gated x w) := by
  funext i
  have hc : c.val < 32 := c.isLt
  have hi : (i 1).val < 128 := (i 1).isLt
  refine (Vfin_apply x w c i ⟨128 * c.val + (i 1).val, by omega⟩ rfl).trans ?_
  refine (gated_apply x w _ _).symm.trans ?_
  refine congrArg (gated x w) (eq_ix2 _ _ _ rfl ?_).symm
  show c.val * 128 + (i 1).val = 128 * c.val + (i 1).val
  omega

end Cert.KernelIdeal.Ring

end
-- ==== Proof.Clip.lean ====
/- The reference with the clip: where the product is between -60 and 60 the clip changes nothing, and the result there is the
   problem's mathematics without it. -/
module

public import proofs.«01_k».proof.Proof.Silu
public import proofs.«01_k».proof.Proof.Gen.ClippedIdeal
public import proofs.«01_k».proof.Proof.Gen.ClippedIdeal.Run
public import proofs.«01_k».proof.Proof.Gen.On_unclipped_at
public import proofs.«01_k».proof.On_unclipped_at

@[expose] public section

set_option maxRecDepth 8000

noncomputable section

namespace Cert.KernelIdeal.Ring

open Idealize.ShloMosaic Idealize.ShloMosaic.ValueIdx
open Cert.ClippedIdeal (S8192x4096 S_)
open Cert.ClippedIdeal.Facts₀
open scoped BigOperators

/-- The lower bound is minus the upper. -/
theorem bounds_neg : Ideal.ofBits .f32 0xC2700000#32 = -Ideal.ofBits .f32 0x42700000#32 := by
  simp [Ideal.ofBits, Ideal.ieee, -EReal.coe_mul, -EReal.coe_neg]
  norm_num

/-- A number whose magnitude is within the bound is its own clip. -/
theorem clip_within (b y : EReal) (h : max y (-y) ≤ b) : min b (max (-b) y) = y := by
  have h1 : -b ≤ y := EReal.neg_le.mp ((le_max_right _ _).trans h)
  rw [max_eq_right h1, min_eq_right ((le_max_left _ _).trans h)]

variable (x : (⟨2, ![8192, 8192]⟩ : Shape).Idx → EReal) (w : (⟨2, ![8192, 4096]⟩ : Shape).Idx → EReal)

/-- Where the claim is made the product's magnitude is at most 60. -/
theorem within (i : S8192x4096.Idx) (h : Cert.On_unclipped_at.fn (F := Ideal) x w i = 1#1) :
    max (prod x w i) (-(prod x w i)) ≤ Ideal.ofBits .f32 0x42700000#32 := by
  unfold Cert.On_unclipped_at.fn at h
  have e : (Host.dotGeneral (φ₁ := .f32) (φ₂ := .f32) Cert.On_unclipped_at.dot_S8192x8192_S8192x4096_S8192x4096_1_0_0_1_n_n none x w
      : FVec Ideal S8192x4096 .f32) = prod x w := rfl
  dsimp only at h
  rw [e] at h
  generalize prod x w = y at h ⊢
  have h' : BitVec.ofBool (decide (max (y i) (-(y i)) ≤ Ideal.ofBits .f32 0x42700000#32)) = 1#1 := h
  by_contra hn
  rw [decide_eq_false hn] at h'
  exact absurd h' (by decide)

/-- The result with the clip. -/
abbrev clippedGated : FVec Ideal S8192x4096 .f32 :=
  Host.divf (prod x w) (addf (broadcastInDim S8192x4096 ![] bcast_S_S8192x4096 (constant S_ .f32 0x3F800000#32))
    (Host.exp (Host.negf (minimumf (broadcastInDim S8192x4096 ![] bcast_S_S8192x4096 (id (constant S_ .f32 0x42700000#32)))
      (maximumf (broadcastInDim S8192x4096 ![] bcast_S_S8192x4096 (id (constant S_ .f32 0xC2700000#32))) (prod x w))))))

/-- Where the claim is made it is the result without. -/
theorem clippedGated_eq (i : S8192x4096.Idx) (h : Cert.On_unclipped_at.fn (F := Ideal) x w i = 1#1) :
    clippedGated x w i = gated x w i := by
  have hw := within x w i h
  unfold clippedGated gated
  generalize prod x w = y at hw ⊢
  show Ideal.div (y i) (_ + Ideal.exp (-(min (Ideal.ofBits .f32 0x42700000#32) (max (Ideal.ofBits .f32 0xC2700000#32) (y i))))) = _
  rw [bounds_neg, clip_within _ _ hw]
  rfl

end Cert.KernelIdeal.Ring

end
-- ==== Proof.lean ====
/- The claims: the frames of the kernel's two programs by one run on all 32 devices, the frames of the two references, and what the
   kernel computes. -/
module

public import proofs.«01_k».proof.Defs
public import proofs.«01_k».proof.Proof.Run
public import proofs.«01_k».proof.Proof.Same
public import proofs.«01_k».proof.Proof.Silu
public import proofs.«01_k».proof.Proof.Clip
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.On_unclipped_at

@[expose] public section

noncomputable section

namespace Cert.Proof

open Idealize.ShloMosaic Idealize.SL.Sem

/-- The kernel over the reals ends with its arguments unchanged and every counter at zero. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Ring.run_main (F := Ideal) m ρ)

/-- The kernel over the machine's floats has the same text, so it ends in the same way. -/
theorem frame_kernel : Cert.quiescent_Kernel := fun m ρ _ => by
  rw [defs_same, main_same]
  exact (θ_run (Cert.KernelIdeal.defs (F := Bits)) _ _).mono (fun _ h => ⟨fun c => ⟨(h.1 c).1, (h.1 c).2.1⟩, h.2⟩)
    (Cert.KernelIdeal.Ring.run_main (F := Bits) m ρ)

/-- And the reference, which has no semaphore at all. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference with the clip has none either. -/
theorem frame_clipped : Cert.quiescent_ClippedIdeal := fun m ρ _ =>
  (θ_run Cert.ClippedIdeal.defs _ _).mono
    (fun r h => ⟨fun c => (h c).2, sem_eq_zero_of_no_sems (by decide) r.2⟩)
    (Cert.ClippedIdeal.Value.run (F := Ideal) m ρ)

section Values

open Cert.KernelIdeal.Ring

/-- Over the reals, from devices that hold their rows of `x` and their columns of `w`, every device of the kernel ends with its columns
    of the result of the whole arrays, and with its arguments unchanged. -/
theorem kernel_value (m : (ℓ : Loc Cert.KernelIdeal.nD Cert.KernelIdeal.τ Cert.KernelIdeal.sig) → Buf (Elt Ideal) ℓ)
    (g : Dev Cert.KernelIdeal.nD → PrngReg) (x : (⟨2, ![8192, 8192]⟩ : Shape).Idx → EReal) (w : (⟨2, ![8192, 4096]⟩ : Shape).Idx → EReal)
    (hx : ∀ e, XA m e = rows x e) (hw : ∀ c, WA m c = cols w c) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v1)
            = Layout.block ⟨2, ![8192, 128]⟩ ⟨2, ![8192, 4096]⟩ 1 32 c (gated x w)
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono (fun _ h c => ⟨(h.1 c).2.2.trans (by
      unfold res
      rw [show XA m = rows x from funext hx, hw c]
      exact Vfin_eq x w c), (h.1 c).1, (h.1 c).2.1⟩)
    (run_main (F := Ideal) m g)

/-- That result is the reference's without the clip, at every element, -/
theorem value : Cert.algebraic_KernelIdeal_ReferenceIdeal := fun m g m' g' _ hag =>
  ⟨_, kernel_value m g _ _ (fun e => (hag e).1) (fun c => (hag c).2),
    (θ_run Cert.ReferenceIdeal.defs _ _).mono (fun _ h => h 0) (Cert.ReferenceIdeal.Value.run (F := Ideal) m' g')⟩

/-- and with the clip wherever the product is between -60 and 60. -/
theorem value_clipped : Cert.algebraic_KernelIdeal_ClippedIdeal_on_unclipped_at := fun m g m' g' _ hag =>
  ⟨_, (θ_run Cert.KernelIdeal.defs _ _).mono (fun _ h c => ⟨fun i _ => congrFun (h c).1 i, (h c).2⟩)
      (kernel_value m g _ _ (fun e => (hag e).1) (fun c => (hag c).2)),
    (θ_run Cert.ClippedIdeal.defs _ _).mono
      (fun _ h => ⟨fun i hi => (congrFun (h 0).1 i).trans (clippedGated_eq _ _ i hi), (h 0).2⟩)
      (Cert.ClippedIdeal.Value.run (F := Ideal) m' g')⟩

end Values

/-- Everything that is claimed. -/
theorem claim : Cert.Claim :=
  ⟨Cert.Kernel.Gen.facts, Cert.KernelIdeal.Gen.facts, Cert.ReferenceIdeal.Gen.facts, Cert.ClippedIdeal.Gen.facts,
    Cert.On_unclipped_at.Gen.facts, frame_kernel, frame_ideal, frame_reference, frame_clipped, trivial, value, value_clipped⟩

end Cert.Proof

end
